-- ==== Defs.lean ====
def Pre_Kernel [hPre_labels_named : Cert.Pre_labels_named.Facts] (m : (ℓ : Loc Cert.Kernel.nD Cert.Kernel.τ Cert.Kernel.sig) → Buf (Elt Bits) ℓ) : Prop :=
  ∀ c : Dev Cert.Kernel.nD,
    (Cert.Pre_labels_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_labels_named : Cert.Pre_labels_named.Facts] (m : (ℓ : Loc Cert.KernelIdeal.nD Cert.KernelIdeal.τ Cert.KernelIdeal.sig) → Buf (Elt Ideal) ℓ) : Prop :=
  ∀ c : Dev Cert.KernelIdeal.nD,
    (Cert.Pre_labels_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_named [hPre_labels_named : Cert.Pre_labels_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_labels_named : Cert.Pre_labels_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_labels_named : Cert.Pre_labels_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_labels_named [hReferenceIdeal : Cert.ReferenceIdeal.Facts] [hPre_labels_named : Cert.Pre_labels_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] [hPre_labels_named : Cert.Pre_labels_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v4_0)) (v5 : (c : Dev Cert.KernelIdeal.nD) → Buf (Elt Ideal) ((c.tc : Thread Cert.KernelIdeal.nD Cert.KernelIdeal.τ).loc Cert.KernelIdeal.main_v4_1)) (v6 : (c : Dev Cert.KernelIdeal.nD) → Buf (Elt Ideal) ((c.tc : Thread Cert.KernelIdeal.nD Cert.KernelIdeal.τ).loc Cert.KernelIdeal.main_v4_2)) (v7 : (c : Dev Cert.KernelIdeal.nD) → Buf (Elt Ideal) ((c.tc : Thread Cert.KernelIdeal.nD Cert.KernelIdeal.τ).loc Cert.KernelIdeal.main_v12)) (v8 : (c : Dev Cert.KernelIdeal.nD) → Buf (Elt Ideal) ((c.tc : Thread Cert.KernelIdeal.nD Cert.KernelIdeal.τ).loc Cert.KernelIdeal.main_v4_4)) (v9 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v4_0) = v4 c
          ∧ r.2.mem ((c.tc : Thread Cert.KernelIdeal.nD Cert.KernelIdeal.τ).loc Cert.KernelIdeal.main_v4_1) = v5 c
          ∧ r.2.mem ((c.tc : Thread Cert.KernelIdeal.nD Cert.KernelIdeal.τ).loc Cert.KernelIdeal.main_v4_2) = v6 c
          ∧ r.2.mem ((c.tc : Thread Cert.KernelIdeal.nD Cert.KernelIdeal.τ).loc Cert.KernelIdeal.main_v12) = v7 c
          ∧ r.2.mem ((c.tc : Thread Cert.KernelIdeal.nD Cert.KernelIdeal.τ).loc Cert.KernelIdeal.main_v4_4) = v8 c
          ∧ r.2.mem ((c.tc : Thread Cert.KernelIdeal.nD Cert.KernelIdeal.τ).loc Cert.KernelIdeal.main_v13) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v165) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_v57) = v5 c
          ∧ r.2.mem ((c.tc : Thread Cert.ReferenceIdeal.nD Cert.ReferenceIdeal.τ).loc Cert.ReferenceIdeal.main_v14) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_v29) = v8 c
          ∧ r.2.mem ((c.tc : Thread Cert.ReferenceIdeal.nD Cert.ReferenceIdeal.τ).loc Cert.ReferenceIdeal.main_v22) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_labels_named : Cert.Pre_labels_named.Facts),
    quiescent_Kernel (hKernel := hKernel) (hPre_labels_named := hPre_labels_named)
    ∧ quiescent_KernelIdeal (hKernelIdeal := hKernelIdeal) (hPre_labels_named := hPre_labels_named)
    ∧ quiescent_ReferenceIdeal (hReferenceIdeal := hReferenceIdeal)
    ∧ quiescent_ReferenceIdeal_pre_labels_named (hReferenceIdeal := hReferenceIdeal) (hPre_labels_named := hPre_labels_named)
    ∧ preserves_Kernel_KernelIdeal
    ∧ algebraic_KernelIdeal_ReferenceIdeal (hKernelIdeal := hKernelIdeal) (hReferenceIdeal := hReferenceIdeal) (hPre_labels_named := hPre_labels_named)
-- ==== Pre_labels_named.lean ====
abbrev S12x128x512 : Shape := ⟨3, ![12, 128, 512]⟩
abbrev S12x41x320 : Shape := ⟨3, ![12, 41, 320]⟩
abbrev S512x640 : Shape := ⟨2, ![512, 640]⟩
abbrev S640 : Shape := ⟨1, ![640]⟩
abbrev S320x640 : Shape := ⟨2, ![320, 640]⟩
abbrev S_ : Shape := ⟨0, ![]⟩
abbrev S513x640 : Shape := ⟨2, ![513, 640]⟩
abbrev S513 : Shape := ⟨1, ![513]⟩
abbrev S12x40 : Shape := ⟨2, ![12, 40]⟩
abbrev S12 : Shape := ⟨1, ![12]⟩

class Facts : Prop where
  bcast_S_S12x40 : S_.BroadcastsInDim S12x40 (![] : Fin 0 → Fin S12x40.rank)
  reducesTo_S12x40_S_d0_1 : S12x40.ReducesTo [0, 1] S_
  h_S_ : 0 < S_.numel
  bcast_S_S12 : S_.BroadcastsInDim S12 (![] : Fin 0 → Fin S12.rank)
  reducesTo_S12_S_d0 : S12.ReducesTo [0] S_

variable [Facts]

def fn {F : FTy → Type} [FloatOps F] (main_arg0 : FVec F S12x128x512 .bf16) (main_arg1 : FVec F S12x41x320 .bf16) (main_arg2 : IVec S512x640 8) (main_arg3 : FVec F S640 .f32) (main_arg4 : FVec F S640 .f32) (main_arg5 : IVec S320x640 8) (main_arg6 : FVec F S640 .f32) (main_arg7 : FVec F S640 .f32) (main_arg8 : FVec F S_ .f32) (main_arg9 : IVec S513x640 8) (main_arg10 : FVec F S513 .f32) (main_arg11 : FVec F S513 .f32) (main_arg12 : IVec S12x40 32) (main_arg13 : IVec S12 32) (main_arg14 : IVec S12 32) : IVec S_ 1 :=
  let main_c : IVec S_ 32 := constantI S_ 32 0#32
  let main_v0 : IVec S12x40 32 := broadcastInDim S12x40 ![] bcast_S_S12x40 main_c
  let main_v1 : IVec S12x40 1 := cmpi .sge main_arg12 main_v0
  let main_c_0 : IVec S_ 32 := constantI S_ 32 512#32
  let main_v2 : IVec S12x40 32 := broadcastInDim S12x40 ![] bcast_S_S12x40 main_c_0
  let main_v3 : IVec S12x40 1 := cmpi .slt main_arg12 main_v2
  let main_v4 : IVec S12x40 1 := andi main_v1 main_v3
  let main_c_1 : IVec S_ 1 := constantI S_ 1 1#1
  let main_v5 : IVec S_ 1 := (fun x v => Host.reduce IntOp.andi x v reducesTo_S12x40_S_d0_1 h_S_) main_v4 main_c_1
  let main_c_2 : IVec S_ 32 := constantI S_ 32 0#32
  let main_v6 : IVec S12 32 := broadcastInDim S12 ![] bcast_S_S12 main_c_2
  let main_v7 : IVec S12 1 := cmpi .sge main_arg14 main_v6
  let main_c_3 : IVec S_ 1 := constantI S_ 1 1#1
  let main_v8 : IVec S_ 1 := (fun x v => Host.reduce IntOp.andi x v reducesTo_S12_S_d0 h_S_) main_v7 main_c_3
  let main_v9 : IVec S_ 1 := andi main_v5 main_v8
  main_v9
-- ==== Kernel.lean ====
abbrev S12x128x512 : Shape := ⟨3, ![12, 128, 512]⟩
abbrev S12x41x320 : Shape := ⟨3, ![12, 41, 320]⟩
abbrev S512x640 : Shape := ⟨2, ![512, 640]⟩
abbrev S640 : Shape := ⟨1, ![640]⟩
abbrev S320x640 : Shape := ⟨2, ![320, 640]⟩
abbrev S_ : Shape := ⟨0, ![]⟩
abbrev S513x640 : Shape := ⟨2, ![513, 640]⟩
abbrev S513 : Shape := ⟨1, ![513]⟩
abbrev S12x40 : Shape := ⟨2, ![12, 40]⟩
abbrev S12 : Shape := ⟨1, ![12]⟩
abbrev S1x640 : Shape := ⟨2, ![1, 640]⟩
abbrev S12x128x640 : Shape := ⟨3, ![12, 128, 640]⟩
abbrev S12x41x640 : Shape := ⟨3, ![12, 41, 640]⟩
abbrev S12x1x128 : Shape := ⟨3, ![12, 1, 128]⟩
abbrev S12x1x41 : Shape := ⟨3, ![12, 1, 41]⟩
abbrev S1x128x512 : Shape := ⟨3, ![1, 128, 512]⟩
abbrev S1x41x320 : Shape := ⟨3, ![1, 41, 320]⟩
abbrev S1x128x640 : Shape := ⟨3, ![1, 128, 640]⟩
abbrev S1x41x640 : Shape := ⟨3, ![1, 41, 640]⟩
abbrev S1x1x128 : Shape := ⟨3, ![1, 1, 128]⟩
abbrev S1x1x41 : Shape := ⟨3, ![1, 1, 41]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S128x640 : Shape := ⟨2, ![128, 640]⟩
abbrev S41x320 : Shape := ⟨2, ![41, 320]⟩
abbrev S41 : Shape := ⟨1, ![41]⟩
abbrev S41x1 : Shape := ⟨2, ![41, 1]⟩
abbrev S41x128 : Shape := ⟨2, ![41, 128]⟩
abbrev S128x41 : Shape := ⟨2, ![128, 41]⟩
abbrev S1x41 : Shape := ⟨2, ![1, 41]⟩
abbrev S41x640 : Shape := ⟨2, ![41, 640]⟩
abbrev S1x513 : Shape := ⟨2, ![1, 513]⟩
abbrev S480 : Shape := ⟨1, ![480]⟩
abbrev S1 : Shape := ⟨1, ![1]⟩
abbrev S12x128x41 : Shape := ⟨3, ![12, 128, 41]⟩
abbrev S12x128x40 : Shape := ⟨3, ![12, 128, 40]⟩
abbrev S1x128x41 : Shape := ⟨3, ![1, 128, 41]⟩
abbrev S1x128x40 : Shape := ⟨3, ![1, 128, 40]⟩
abbrev S528x640 : Shape := ⟨2, ![528, 640]⟩
abbrev S512x128 : Shape := ⟨2, ![512, 128]⟩
abbrev S4x48x128 : Shape := ⟨3, ![4, 48, 128]⟩
abbrev S2x640 : Shape := ⟨2, ![2, 640]⟩
abbrev S1x1 : Shape := ⟨2, ![1, 1]⟩
abbrev S1x1x640 : Shape := ⟨3, ![1, 1, 640]⟩
abbrev S528x128 : Shape := ⟨2, ![528, 128]⟩
abbrev S1x48x128 : Shape := ⟨3, ![1, 48, 128]⟩
abbrev S48x128 : Shape := ⟨2, ![48, 128]⟩
abbrev S128x48 : Shape := ⟨2, ![128, 48]⟩
abbrev S128x40 : Shape := ⟨2, ![128, 40]⟩
abbrev S12x128 : Shape := ⟨2, ![12, 128]⟩
abbrev S12x41 : Shape := ⟨2, ![12, 41]⟩

abbrev nBuf : Space → Nat
  | .hbm => 37
  | .vmem => 42
  | .smem => 4
  | _ => 0

abbrev bufTy : (tb : Table) → Fin (tcTables nBuf tb) → BufTy
  | .hbm, ⟨0, _⟩ => ⟨S12x128x512, .bf16⟩
  | .hbm, ⟨1, _⟩ => ⟨S12x41x320, .bf16⟩
  | .hbm, ⟨2, _⟩ => ⟨S512x640, .i8⟩
  | .hbm, ⟨3, _⟩ => ⟨S640, .f32⟩
  | .hbm, ⟨4, _⟩ => ⟨S640, .f32⟩
  | .hbm, ⟨5, _⟩ => ⟨S320x640, .i8⟩
  | .hbm, ⟨6, _⟩ => ⟨S640, .f32⟩
  | .hbm, ⟨7, _⟩ => ⟨S640, .f32⟩
  | .hbm, ⟨8, _⟩ => ⟨S_, .f32⟩
  | .hbm, ⟨9, _⟩ => ⟨S513x640, .i8⟩
  | .hbm, ⟨10, _⟩ => ⟨S513, .f32⟩
  | .hbm, ⟨11, _⟩ => ⟨S513, .f32⟩
  | .hbm, ⟨12, _⟩ => ⟨S12x40, .i32⟩
  | .hbm, ⟨13, _⟩ => ⟨S12, .i32⟩
  | .hbm, ⟨14, _⟩ => ⟨S12, .i32⟩
  | .hbm, ⟨15, _⟩ => ⟨S1x640, .f32⟩
  | .hbm, ⟨16, _⟩ => ⟨S1x640, .f32⟩
  | .hbm, ⟨17, _⟩ => ⟨S1x640, .f32⟩
  | .hbm, ⟨18, _⟩ => ⟨S1x640, .f32⟩
  | .hbm, ⟨19, _⟩ => ⟨S12x128x640, .f32⟩
  | .hbm, ⟨20, _⟩ => ⟨S12x41x640, .f32⟩
  | .hbm, ⟨21, _⟩ => ⟨S12x128x512, .i8⟩
  | .hbm, ⟨22, _⟩ => ⟨S12x1x128, .f32⟩
  | .hbm, ⟨23, _⟩ => ⟨S12x41x320, .i8⟩
  | .hbm, ⟨24, _⟩ => ⟨S12x1x41, .f32⟩
  | .hbm, ⟨25, _⟩ => ⟨S1x513, .f32⟩
  | .hbm, ⟨26, _⟩ => ⟨S1x513, .f32⟩
  | .hbm, ⟨27, _⟩ => ⟨S480, .i32⟩
  | .hbm, ⟨28, _⟩ => ⟨S1, .f32⟩
  | .hbm, ⟨29, _⟩ => ⟨S1x513, .f32⟩
  | .hbm, ⟨30, _⟩ => ⟨S1x513, .f32⟩
  | .hbm, ⟨31, _⟩ => ⟨S12x128x41, .f32⟩
  | .hbm, ⟨32, _⟩ => ⟨S12x128x40, .f32⟩
  | .hbm, ⟨33, _⟩ => ⟨S12x128x41, .f32⟩
  | .hbm, ⟨34, _⟩ => ⟨S12x128x40, .f32⟩
  | .hbm, ⟨35, _⟩ => ⟨S12x128, .f32⟩
  | .hbm, ⟨36, _⟩ => ⟨S12x41, .f32⟩
  | .local _ .vmem, ⟨0, _⟩ => ⟨S1x128x512, .bf16⟩
  | .local _ .vmem, ⟨1, _⟩ => ⟨S1x128x512, .bf16⟩
  | .local _ .vmem, ⟨2, _⟩ => ⟨S1x41x320, .bf16⟩
  | .local _ .vmem, ⟨3, _⟩ => ⟨S1x41x320, .bf16⟩
  | .local _ .vmem, ⟨4, _⟩ => ⟨S512x640, .i8⟩
  | .local _ .vmem, ⟨5, _⟩ => ⟨S1x640, .f32⟩
  | .local _ .vmem, ⟨6, _⟩ => ⟨S1x640, .f32⟩
  | .local _ .vmem, ⟨7, _⟩ => ⟨S320x640, .i8⟩
  | .local _ .vmem, ⟨8, _⟩ => ⟨S1x640, .f32⟩
  | .local _ .vmem, ⟨9, _⟩ => ⟨S1x640, .f32⟩
  | .local _ .vmem, ⟨10, _⟩ => ⟨S1x128x640, .f32⟩
  | .local _ .vmem, ⟨11, _⟩ => ⟨S1x128x640, .f32⟩
  | .local _ .vmem, ⟨12, _⟩ => ⟨S1x41x640, .f32⟩
  | .local _ .vmem, ⟨13, _⟩ => ⟨S1x41x640, .f32⟩
  | .local _ .vmem, ⟨14, _⟩ => ⟨S1x128x512, .i8⟩
  | .local _ .vmem, ⟨15, _⟩ => ⟨S1x128x512, .i8⟩
  | .local _ .vmem, ⟨16, _⟩ => ⟨S1x1x128, .f32⟩
  | .local _ .vmem, ⟨17, _⟩ => ⟨S1x1x128, .f32⟩
  | .local _ .vmem, ⟨18, _⟩ => ⟨S1x41x320, .i8⟩
  | .local _ .vmem, ⟨19, _⟩ => ⟨S1x41x320, .i8⟩
  | .local _ .vmem, ⟨20, _⟩ => ⟨S1x1x41, .f32⟩
  | .local _ .vmem, ⟨21, _⟩ => ⟨S1x1x41, .f32⟩
  | .local _ .vmem, ⟨22, _⟩ => ⟨S1x128x640, .f32⟩
  | .local _ .vmem, ⟨23, _⟩ => ⟨S1x128x640, .f32⟩
  | .local _ .vmem, ⟨24, _⟩ => ⟨S1x41x640, .f32⟩
  | .local _ .vmem, ⟨25, _⟩ => ⟨S1x41x640, .f32⟩
  | .local _ .vmem, ⟨26, _⟩ => ⟨S513x640, .i8⟩
  | .local _ .vmem, ⟨27, _⟩ => ⟨S1x513, .f32⟩
  | .local _ .vmem, ⟨28, _⟩ => ⟨S1x513, .f32⟩
  | .local _ .vmem, ⟨29, _⟩ => ⟨S1x128x41, .f32⟩
  | .local _ .vmem, ⟨30, _⟩ => ⟨S1x128x41, .f32⟩
  | .local _ .vmem, ⟨31, _⟩ => ⟨S1x128x40, .f32⟩
  | .local _ .vmem, ⟨32, _⟩ => ⟨S1x128x40, .f32⟩
  | .local _ .vmem, ⟨33, _⟩ => ⟨S1x128x41, .f32⟩
  | .local _ .vmem, ⟨34, _⟩ => ⟨S1x128x41, .f32⟩
  | .local _ .vmem, ⟨35, _⟩ => ⟨S1x128x40, .f32⟩
  | .local _ .vmem, ⟨36, _⟩ => ⟨S1x128x40, .f32⟩
  | .local _ .vmem, ⟨37, _⟩ => ⟨S528x640, .bf16⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S4x48x128, .f32⟩
  | .local _ .smem, ⟨0, _⟩ => ⟨S12, .i32⟩
  | .local _ .smem, ⟨1, _⟩ => ⟨S12, .i32⟩
  | .local _ .smem, ⟨2, _⟩ => ⟨S480, .i32⟩
  | .local _ .smem, ⟨3, _⟩ => ⟨S1, .f32⟩
  | _, _ => ⟨S12x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v4_3 : Ref sig .tc := ⟨.hbm, 22, rfl⟩
abbrev main_v4_4 : Ref sig .tc := ⟨.hbm, 23, rfl⟩
abbrev main_v4_5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v11_2 : Ref sig .tc := ⟨.hbm, 33, rfl⟩
abbrev main_v11_3 : Ref sig .tc := ⟨.hbm, 34, rfl⟩
abbrev main_v12 : Ref sig .tc := ⟨.hbm, 35, rfl⟩
abbrev main_v13 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc1_stg12_1 : Ref sig .tc := ⟨.vmem, 36, rfl⟩
abbrev cc1_scratch0 : Ref sig .tc := ⟨.vmem, 37, rfl⟩
abbrev cc1_scratch1 : Ref sig .tc := ⟨.vmem, 38, rfl⟩
abbrev cc1_scratch2 : Ref sig .tc := ⟨.vmem, 39, rfl⟩
abbrev cc1_scratch3 : Ref sig .tc := ⟨.vmem, 40, rfl⟩
abbrev cc1_scratch4 : Ref sig .tc := ⟨.vmem, 41, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc1_stg3_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc1_sem0_0 : DmaSem sig := 22
abbrev cc1_sem1_0 : DmaSem sig := 23
abbrev cc1_sem2_0 : DmaSem sig := 24
abbrev cc1_sem3_0 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem9_1 : DmaSem sig := 34
abbrev cc1_sem10_0 : DmaSem sig := 35
abbrev cc1_sem10_1 : DmaSem sig := 36
abbrev cc1_sem11_0 : DmaSem sig := 37
abbrev cc1_sem11_1 : DmaSem sig := 38
abbrev cc1_sem12_0 : DmaSem sig := 39
abbrev cc1_sem12_1 : DmaSem sig := 40

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x41x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x640 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x640 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x41x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x41x320 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x41 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![12], ![false]⟩

def k1_off1 (i : grid1.Coords) : Fin 1 → Nat :=
  let arg0 : BitVec 32 := BitVec.ofNat 32 (i 0).val
  let v8 : Index := Scalar.indexCast arg0
  ![v8.toNat]
@[reducible] def k1_t1_loop (v11 : BitVec 32) : Scf.Loop 32 :=
  let c0_i32_8 : BitVec 32 := 0#32
  let c40_i32 : BitVec 32 := 40#32
  let c0_i32_7 : BitVec 32 := 0#32
  let v18 : BitVec 32 := Scalar.maxsi c0_i32_7 v11
  let v19 : BitVec 32 := Scalar.minsi c40_i32 v18
  let c1_i32 : BitVec 32 := 1#32
  let v20 : BitVec 32 := Scalar.addi v19 c1_i32
  let v21 : BitVec 32 := Scalar.subi v20 c0_i32_8
  let c1_i32_10 : BitVec 32 := 1#32
  let v23 : BitVec 32 := Scalar.divsi v21 c1_i32_10
  let v24 : BitVec 32 := Scalar.muli v23 c1_i32_10
  let v25 : BitVec 32 := Scalar.addi c0_i32_8 v24
  let c1_i32_11 : BitVec 32 := 1#32
  ⟨c0_i32_8, v25, c1_i32_11⟩

def k1_off2 (v11 : BitVec 32) (k1_t1 : Fin (k1_t1_loop v11).trips) : Fin 3 → Nat :=
  let c0_37 : Index := 0#32
  let c0_i32_8 : BitVec 32 := 0#32
  let c1_i32_11 : BitVec 32 := 1#32
  let arg19 : BitVec 32 := Scf.iv c0_i32_8 c1_i32_11 k1_t1
  let v58 : Index := Scalar.indexCast arg19
  let c0_38 : Index := 0#32
  ![0, v58.toNat, 0]
def k1_off3 (i : grid1.Coords) (v11 : BitVec 32) (k1_t1 : Fin (k1_t1_loop v11).trips) : Fin 1 → Nat :=
  let arg0 : BitVec 32 := BitVec.ofNat 32 (i 0).val
  let c40_i32_54 : BitVec 32 := 40#32
  let v106 : BitVec 32 := Scalar.muli arg0 c40_i32_54
  let c0_i32_8 : BitVec 32 := 0#32
  let c1_i32_11 : BitVec 32 := 1#32
  let arg19 : BitVec 32 := Scf.iv c0_i32_8 c1_i32_11 k1_t1
  let c39_i32 : BitVec 32 := 39#32
  let v107 : BitVec 32 := Scalar.minsi arg19 c39_i32
  let v108 : BitVec 32 := Scalar.addi v106 v107
  let v109 : Index := Scalar.indexCast v108
  ![v109.toNat]
def k1_off4 (v110 : BitVec 32) : Fin 2 → Nat :=
  let v111 : Index := Scalar.indexCast v110
  let c0_55 : Index := 0#32
  ![v111.toNat, 0]

def k1_chk2 (v110 : BitVec 32) : Prop :=
  (∀ a, (k1_off4 v110) a + S1x128.size a ≤ S512x128.size a)
theorem k1_off4_inb : ∀ (v110 : BitVec 32) (k1_hw2 : k1_chk2 v110), ∀ a, (k1_off4 v110) a + S1x128.size a ≤ S512x128.size a := fun v110 k1_hw2 => k1_hw2

def k1_off5 (v11 : BitVec 32) (k1_t1 : Fin (k1_t1_loop v11).trips) : Fin 3 → Nat :=
  let c0_63 : Index := 0#32
  let c0_i32_8 : BitVec 32 := 0#32
  let c1_i32_11 : BitVec 32 := 1#32
  let arg19 : BitVec 32 := Scf.iv c0_i32_8 c1_i32_11 k1_t1
  let v142 : Index := Scalar.indexCast arg19
  let c0_64 : Index := 0#32
  ![0, v142.toNat, 0]
def k1_off6 (v11 : BitVec 32) (k1_t1 : Fin (k1_t1_loop v11).trips) : Fin 3 → Nat :=
  let c1_66 : Index := 1#32
  let c0_i32_8 : BitVec 32 := 0#32
  let c1_i32_11 : BitVec 32 := 1#32
  let arg19 : BitVec 32 := Scf.iv c0_i32_8 c1_i32_11 k1_t1
  let v148 : Index := Scalar.indexCast arg19
  let c0_67 : Index := 0#32
  ![1, v148.toNat, 0]
def k1_off7 (v11 : BitVec 32) (k1_t1 : Fin (k1_t1_loop v11).trips) : Fin 3 → Nat :=
  let c2_69 : Index := 2#32
  let c0_i32_8 : BitVec 32 := 0#32
  let c1_i32_11 : BitVec 32 := 1#32
  let arg19 : BitVec 32 := Scf.iv c0_i32_8 c1_i32_11 k1_t1
  let v154 : Index := Scalar.indexCast arg19
  let c0_70 : Index := 0#32
  ![2, v154.toNat, 0]
def k1_off8 (v11 : BitVec 32) (k1_t1 : Fin (k1_t1_loop v11).trips) : Fin 3 → Nat :=
  let c3_72 : Index := 3#32
  let c0_i32_8 : BitVec 32 := 0#32
  let c1_i32_11 : BitVec 32 := 1#32
  let arg19 : BitVec 32 := Scf.iv c0_i32_8 c1_i32_11 k1_t1
  let v160 : Index := Scalar.indexCast arg19
  let c0_73 : Index := 0#32
  ![3, v160.toNat, 0]
@[reducible] def k1_t2_loop (v11 : BitVec 32) : Scf.Loop 32 :=
  let c0_i32_8 : BitVec 32 := 0#32
  let c40_i32 : BitVec 32 := 40#32
  let c0_i32_7 : BitVec 32 := 0#32
  let v18 : BitVec 32 := Scalar.maxsi c0_i32_7 v11
  let v19 : BitVec 32 := Scalar.minsi c40_i32 v18
  let c1_i32 : BitVec 32 := 1#32
  let v20 : BitVec 32 := Scalar.addi v19 c1_i32
  let v21 : BitVec 32 := Scalar.subi v20 c0_i32_8
  let c1_i32_10 : BitVec 32 := 1#32
  let v23 : BitVec 32 := Scalar.divsi v21 c1_i32_10
  let v24 : BitVec 32 := Scalar.muli v23 c1_i32_10
  let v25 : BitVec 32 := Scalar.addi c0_i32_8 v24
  let v22 : BitVec 32 := Scalar.addi c0_i32_8 v21
  let c1_i32_12 : BitVec 32 := 1#32
  ⟨v25, v22, c1_i32_12⟩
def k1_off9 (v11 : BitVec 32) (k1_t2 : Fin (k1_t2_loop v11).trips) : Fin 3 → Nat :=
  let c0_37 : Index := 0#32
  let c0_i32_8 : BitVec 32 := 0#32
  let c40_i32 : BitVec 32 := 40#32
  let c0_i32_7 : BitVec 32 := 0#32
  let v18 : BitVec 32 := Scalar.maxsi c0_i32_7 v11
  let v19 : BitVec 32 := Scalar.minsi c40_i32 v18
  let c1_i32 : BitVec 32 := 1#32
  let v20 : BitVec 32 := Scalar.addi v19 c1_i32
  let v21 : BitVec 32 := Scalar.subi v20 c0_i32_8
  let c1_i32_10 : BitVec 32 := 1#32
  let v23 : BitVec 32 := Scalar.divsi v21 c1_i32_10
  let v24 : BitVec 32 := Scalar.muli v23 c1_i32_10
  let v25 : BitVec 32 := Scalar.addi c0_i32_8 v24
  let c1_i32_12 : BitVec 32 := 1#32
  let arg19 : BitVec 32 := Scf.iv v25 c1_i32_12 k1_t2
  let v58 : Index := Scalar.indexCast arg19
  let c0_38 : Index := 0#32
  ![0, v58.toNat, 0]
def k1_off10 (i : grid1.Coords) (v11 : BitVec 32) (k1_t2 : Fin (k1_t2_loop v11).trips) : Fin 1 → Nat :=
  let arg0 : BitVec 32 := BitVec.ofNat 32 (i 0).val
  let c40_i32_54 : BitVec 32 := 40#32
  let v106 : BitVec 32 := Scalar.muli arg0 c40_i32_54
  let c0_i32_8 : BitVec 32 := 0#32
  let c40_i32 : BitVec 32 := 40#32
  let c0_i32_7 : BitVec 32 := 0#32
  let v18 : BitVec 32 := Scalar.maxsi c0_i32_7 v11
  let v19 : BitVec 32 := Scalar.minsi c40_i32 v18
  let c1_i32 : BitVec 32 := 1#32
  let v20 : BitVec 32 := Scalar.addi v19 c1_i32
  let v21 : BitVec 32 := Scalar.subi v20 c0_i32_8
  let c1_i32_10 : BitVec 32 := 1#32
  let v23 : BitVec 32 := Scalar.divsi v21 c1_i32_10
  let v24 : BitVec 32 := Scalar.muli v23 c1_i32_10
  let v25 : BitVec 32 := Scalar.addi c0_i32_8 v24
  let c1_i32_12 : BitVec 32 := 1#32
  let arg19 : BitVec 32 := Scf.iv v25 c1_i32_12 k1_t2
  let c39_i32 : BitVec 32 := 39#32
  let v107 : BitVec 32 := Scalar.minsi arg19 c39_i32
  let v108 : BitVec 32 := Scalar.addi v106 v107
  let v109 : Index := Scalar.indexCast v108
  ![v109.toNat]
def k1_off11 (v110 : BitVec 32) : Fin 2 → Nat :=
  let v111 : Index := Scalar.indexCast v110
  let c0_55 : Index := 0#32
  ![v111.toNat, 0]

def k1_chk3 (v110 : BitVec 32) : Prop :=
  (∀ a, (k1_off11 v110) a + S1x128.size a ≤ S512x128.size a)
theorem k1_off11_inb : ∀ (v110 : BitVec 32) (k1_hw3 : k1_chk3 v110), ∀ a, (k1_off11 v110) a + S1x128.size a ≤ S512x128.size a := fun v110 k1_hw3 => k1_hw3

def k1_off12 (v11 : BitVec 32) (k1_t2 : Fin (k1_t2_loop v11).trips) : Fin 3 → Nat :=
  let c0_63 : Index := 0#32
  let c0_i32_8 : BitVec 32 := 0#32
  let c40_i32 : BitVec 32 := 40#32
  let c0_i32_7 : BitVec 32 := 0#32
  let v18 : BitVec 32 := Scalar.maxsi c0_i32_7 v11
  let v19 : BitVec 32 := Scalar.minsi c40_i32 v18
  let c1_i32 : BitVec 32 := 1#32
  let v20 : BitVec 32 := Scalar.addi v19 c1_i32
  let v21 : BitVec 32 := Scalar.subi v20 c0_i32_8
  let c1_i32_10 : BitVec 32 := 1#32
  let v23 : BitVec 32 := Scalar.divsi v21 c1_i32_10
  let v24 : BitVec 32 := Scalar.muli v23 c1_i32_10
  let v25 : BitVec 32 := Scalar.addi c0_i32_8 v24
  let c1_i32_12 : BitVec 32 := 1#32
  let arg19 : BitVec 32 := Scf.iv v25 c1_i32_12 k1_t2
  let v142 : Index := Scalar.indexCast arg19
  let c0_64 : Index := 0#32
  ![0, v142.toNat, 0]
def k1_off13 (v11 : BitVec 32) (k1_t2 : Fin (k1_t2_loop v11).trips) : Fin 3 → Nat :=
  let c1_66 : Index := 1#32
  let c0_i32_8 : BitVec 32 := 0#32
  let c40_i32 : BitVec 32 := 40#32
  let c0_i32_7 : BitVec 32 := 0#32
  let v18 : BitVec 32 := Scalar.maxsi c0_i32_7 v11
  let v19 : BitVec 32 := Scalar.minsi c40_i32 v18
  let c1_i32 : BitVec 32 := 1#32
  let v20 : BitVec 32 := Scalar.addi v19 c1_i32
  let v21 : BitVec 32 := Scalar.subi v20 c0_i32_8
  let c1_i32_10 : BitVec 32 := 1#32
  let v23 : BitVec 32 := Scalar.divsi v21 c1_i32_10
  let v24 : BitVec 32 := Scalar.muli v23 c1_i32_10
  let v25 : BitVec 32 := Scalar.addi c0_i32_8 v24
  let c1_i32_12 : BitVec 32 := 1#32
  let arg19 : BitVec 32 := Scf.iv v25 c1_i32_12 k1_t2
  let v148 : Index := Scalar.indexCast arg19
  let c0_67 : Index := 0#32
  ![1, v148.toNat, 0]
def k1_off14 (v11 : BitVec 32) (k1_t2 : Fin (k1_t2_loop v11).trips) : Fin 3 → Nat :=
  let c2_69 : Index := 2#32
  let c0_i32_8 : BitVec 32 := 0#32
  let c40_i32 : BitVec 32 := 40#32
  let c0_i32_7 : BitVec 32 := 0#32
  let v18 : BitVec 32 := Scalar.maxsi c0_i32_7 v11
  let v19 : BitVec 32 := Scalar.minsi c40_i32 v18
  let c1_i32 : BitVec 32 := 1#32
  let v20 : BitVec 32 := Scalar.addi v19 c1_i32
  let v21 : BitVec 32 := Scalar.subi v20 c0_i32_8
  let c1_i32_10 : BitVec 32 := 1#32
  let v23 : BitVec 32 := Scalar.divsi v21 c1_i32_10
  let v24 : BitVec 32 := Scalar.muli v23 c1_i32_10
  let v25 : BitVec 32 := Scalar.addi c0_i32_8 v24
  let c1_i32_12 : BitVec 32 := 1#32
  let arg19 : BitVec 32 := Scf.iv v25 c1_i32_12 k1_t2
  let v154 : Index := Scalar.indexCast arg19
  let c0_70 : Index := 0#32
  ![2, v154.toNat, 0]
def k1_off15 (v11 : BitVec 32) (k1_t2 : Fin (k1_t2_loop v11).trips) : Fin 3 → Nat :=
  let c3_72 : Index := 3#32
  let c0_i32_8 : BitVec 32 := 0#32
  let c40_i32 : BitVec 32 := 40#32
  let c0_i32_7 : BitVec 32 := 0#32
  let v18 : BitVec 32 := Scalar.maxsi c0_i32_7 v11
  let v19 : BitVec 32 := Scalar.minsi c40_i32 v18
  let c1_i32 : BitVec 32 := 1#32
  let v20 : BitVec 32 := Scalar.addi v19 c1_i32
  let v21 : BitVec 32 := Scalar.subi v20 c0_i32_8
  let c1_i32_10 : BitVec 32 := 1#32
  let v23 : BitVec 32 := Scalar.divsi v21 c1_i32_10
  let v24 : BitVec 32 := Scalar.muli v23 c1_i32_10
  let v25 : BitVec 32 := Scalar.addi c0_i32_8 v24
  let c1_i32_12 : BitVec 32 := 1#32
  let arg19 : BitVec 32 := Scf.iv v25 c1_i32_12 k1_t2
  let v160 : Index := Scalar.indexCast arg19
  let c0_73 : Index := 0#32
  ![3, v160.toNat, 0]

def k1_chk1 (i : grid1.Coords) (v11 : BitVec 32) : Prop :=
  ((k1_t1_loop v11).OK) ∧
  (∀ k1_t1 : Fin (k1_t1_loop v11).trips, ∀ a, (k1_off2 v11 k1_t1) a + S1x1x640.size a ≤ S1x41x640.size a) ∧
  (∀ k1_t1 : Fin (k1_t1_loop v11).trips, ∀ a, (k1_off3 i v11 k1_t1) a + S1.size a ≤ S480.size a) ∧
  (∀ k1_t1 : Fin (k1_t1_loop v11).trips, ∀ a, (k1_off5 v11 k1_t1) a + S1x1x128.size a ≤ S4x48x128.size a) ∧
  (∀ k1_t1 : Fin (k1_t1_loop v11).trips, ∀ a, (k1_off6 v11 k1_t1) a + S1x1x128.size a ≤ S4x48x128.size a) ∧
  (∀ k1_t1 : Fin (k1_t1_loop v11).trips, ∀ a, (k1_off7 v11 k1_t1) a + S1x1x128.size a ≤ S4x48x128.size a) ∧
  (∀ k1_t1 : Fin (k1_t1_loop v11).trips, ∀ a, (k1_off8 v11 k1_t1) a + S1x1x128.size a ≤ S4x48x128.size a) ∧
  ((k1_t2_loop v11).OK) ∧
  (∀ k1_t2 : Fin (k1_t2_loop v11).trips, ∀ a, (k1_off9 v11 k1_t2) a + S1x1x640.size a ≤ S1x41x640.size a) ∧
  (∀ k1_t2 : Fin (k1_t2_loop v11).trips, ∀ a, (k1_off10 i v11 k1_t2) a + S1.size a ≤ S480.size a) ∧
  (∀ k1_t2 : Fin (k1_t2_loop v11).trips, ∀ a, (k1_off12 v11 k1_t2) a + S1x1x128.size a ≤ S4x48x128.size a) ∧
  (∀ k1_t2 : Fin (k1_t2_loop v11).trips, ∀ a, (k1_off13 v11 k1_t2) a + S1x1x128.size a ≤ S4x48x128.size a) ∧
  (∀ k1_t2 : Fin (k1_t2_loop v11).trips, ∀ a, (k1_off14 v11 k1_t2) a + S1x1x128.size a ≤ S4x48x128.size a) ∧
  (∀ k1_t2 : Fin (k1_t2_loop v11).trips, ∀ a, (k1_off15 v11 k1_t2) a + S1x1x128.size a ≤ S4x48x128.size a)
theorem k1_t1_ok : ∀ (i : grid1.Coords) (v11 : BitVec 32) (k1_hw1 : k1_chk1 i v11), (k1_t1_loop v11).OK := fun i v11 k1_hw1 => k1_hw1.1
theorem k1_off2_inb : ∀ (i : grid1.Coords) (v11 : BitVec 32) (k1_hw1 : k1_chk1 i v11) (k1_t1 : Fin (k1_t1_loop v11).trips), ∀ a, (k1_off2 v11 k1_t1) a + S1x1x640.size a ≤ S1x41x640.size a := fun i v11 k1_hw1 k1_t1 => k1_hw1.2.1 k1_t1
theorem k1_off3_inb : ∀ (i : grid1.Coords) (v11 : BitVec 32) (k1_hw1 : k1_chk1 i v11) (k1_t1 : Fin (k1_t1_loop v11).trips), ∀ a, (k1_off3 i v11 k1_t1) a + S1.size a ≤ S480.size a := fun i v11 k1_hw1 k1_t1 => k1_hw1.2.2.1 k1_t1
theorem k1_off5_inb : ∀ (i : grid1.Coords) (v11 : BitVec 32) (k1_hw1 : k1_chk1 i v11) (k1_t1 : Fin (k1_t1_loop v11).trips), ∀ a, (k1_off5 v11 k1_t1) a + S1x1x128.size a ≤ S4x48x128.size a := fun i v11 k1_hw1 k1_t1 => k1_hw1.2.2.2.1 k1_t1
theorem k1_off6_inb : ∀ (i : grid1.Coords) (v11 : BitVec 32) (k1_hw1 : k1_chk1 i v11) (k1_t1 : Fin (k1_t1_loop v11).trips), ∀ a, (k1_off6 v11 k1_t1) a + S1x1x128.size a ≤ S4x48x128.size a := fun i v11 k1_hw1 k1_t1 => k1_hw1.2.2.2.2.1 k1_t1
theorem k1_off7_inb : ∀ (i : grid1.Coords) (v11 : BitVec 32) (k1_hw1 : k1_chk1 i v11) (k1_t1 : Fin (k1_t1_loop v11).trips), ∀ a, (k1_off7 v11 k1_t1) a + S1x1x128.size a ≤ S4x48x128.size a := fun i v11 k1_hw1 k1_t1 => k1_hw1.2.2.2.2.2.1 k1_t1
theorem k1_off8_inb : ∀ (i : grid1.Coords) (v11 : BitVec 32) (k1_hw1 : k1_chk1 i v11) (k1_t1 : Fin (k1_t1_loop v11).trips), ∀ a, (k1_off8 v11 k1_t1) a + S1x1x128.size a ≤ S4x48x128.size a := fun i v11 k1_hw1 k1_t1 => k1_hw1.2.2.2.2.2.2.1 k1_t1
theorem k1_t2_ok : ∀ (i : grid1.Coords) (v11 : BitVec 32) (k1_hw1 : k1_chk1 i v11), (k1_t2_loop v11).OK := fun i v11 k1_hw1 => k1_hw1.2.2.2.2.2.2.2.1
theorem k1_off9_inb : ∀ (i : grid1.Coords) (v11 : BitVec 32) (k1_hw1 : k1_chk1 i v11) (k1_t2 : Fin (k1_t2_loop v11).trips), ∀ a, (k1_off9 v11 k1_t2) a + S1x1x640.size a ≤ S1x41x640.size a := fun i v11 k1_hw1 k1_t2 => k1_hw1.2.2.2.2.2.2.2.2.1 k1_t2
theorem k1_off10_inb : ∀ (i : grid1.Coords) (v11 : BitVec 32) (k1_hw1 : k1_chk1 i v11) (k1_t2 : Fin (k1_t2_loop v11).trips), ∀ a, (k1_off10 i v11 k1_t2) a + S1.size a ≤ S480.size a := fun i v11 k1_hw1 k1_t2 => k1_hw1.2.2.2.2.2.2.2.2.2.1 k1_t2
theorem k1_off12_inb : ∀ (i : grid1.Coords) (v11 : BitVec 32) (k1_hw1 : k1_chk1 i v11) (k1_t2 : Fin (k1_t2_loop v11).trips), ∀ a, (k1_off12 v11 k1_t2) a + S1x1x128.size a ≤ S4x48x128.size a := fun i v11 k1_hw1 k1_t2 => k1_hw1.2.2.2.2.2.2.2.2.2.2.1 k1_t2
theorem k1_off13_inb : ∀ (i : grid1.Coords) (v11 : BitVec 32) (k1_hw1 : k1_chk1 i v11) (k1_t2 : Fin (k1_t2_loop v11).trips), ∀ a, (k1_off13 v11 k1_t2) a + S1x1x128.size a ≤ S4x48x128.size a := fun i v11 k1_hw1 k1_t2 => k1_hw1.2.2.2.2.2.2.2.2.2.2.2.1 k1_t2
theorem k1_off14_inb : ∀ (i : grid1.Coords) (v11 : BitVec 32) (k1_hw1 : k1_chk1 i v11) (k1_t2 : Fin (k1_t2_loop v11).trips), ∀ a, (k1_off14 v11 k1_t2) a + S1x1x128.size a ≤ S4x48x128.size a := fun i v11 k1_hw1 k1_t2 => k1_hw1.2.2.2.2.2.2.2.2.2.2.2.2.1 k1_t2
theorem k1_off15_inb : ∀ (i : grid1.Coords) (v11 : BitVec 32) (k1_hw1 : k1_chk1 i v11) (k1_t2 : Fin (k1_t2_loop v11).trips), ∀ a, (k1_off15 v11 k1_t2) a + S1x1x128.size a ≤ S4x48x128.size a := fun i v11 k1_hw1 k1_t2 => k1_hw1.2.2.2.2.2.2.2.2.2.2.2.2.2 k1_t2

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S12 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S12 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S480 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x128x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x41x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S513x640 .i8 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x513 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x513 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x128x41 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x128x40 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x128x41 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x128x40 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S12x128x512 : Shape := ⟨3, ![12, 128, 512]⟩
abbrev S12x41x320 : Shape := ⟨3, ![12, 41, 320]⟩
abbrev S512x640 : Shape := ⟨2, ![512, 640]⟩
abbrev S640 : Shape := ⟨1, ![640]⟩
abbrev S320x640 : Shape := ⟨2, ![320, 640]⟩
abbrev S_ : Shape := ⟨0, ![]⟩
abbrev S513x640 : Shape := ⟨2, ![513, 640]⟩
abbrev S513 : Shape := ⟨1, ![513]⟩
abbrev S12x40 : Shape := ⟨2, ![12, 40]⟩
abbrev S12 : Shape := ⟨1, ![12]⟩
abbrev S12x128 : Shape := ⟨2, ![12, 128]⟩
abbrev S12x128x1 : Shape := ⟨3, ![12, 128, 1]⟩
abbrev S12x41 : Shape := ⟨2, ![12, 41]⟩
abbrev S12x41x1 : Shape := ⟨3, ![12, 41, 1]⟩
abbrev S12x128x640 : Shape := ⟨3, ![12, 128, 640]⟩
abbrev S1x1x640 : Shape := ⟨3, ![1, 1, 640]⟩
abbrev S12x41x640 : Shape := ⟨3, ![12, 41, 640]⟩
abbrev S12x128x1x640 : Shape := ⟨4, ![12, 128, 1, 640]⟩
abbrev S12x1x41x640 : Shape := ⟨4, ![12, 1, 41, 640]⟩
abbrev S12x128x41x640 : Shape := ⟨4, ![12, 128, 41, 640]⟩
abbrev S12x128x41x512 : Shape := ⟨4, ![12, 128, 41, 512]⟩
abbrev S512 : Shape := ⟨1, ![512]⟩
abbrev S1x1x1x512 : Shape := ⟨4, ![1, 1, 1, 512]⟩
abbrev S1x640 : Shape := ⟨2, ![1, 640]⟩
abbrev S12x128x41 : Shape := ⟨3, ![12, 128, 41]⟩
abbrev S1 : Shape := ⟨1, ![1]⟩
abbrev S12x128x41x1 : Shape := ⟨4, ![12, 128, 41, 1]⟩
abbrev S12x1x40x1 : Shape := ⟨4, ![12, 1, 40, 1]⟩
abbrev S12x1x40x512 : Shape := ⟨4, ![12, 1, 40, 512]⟩
abbrev S12x128x40x512 : Shape := ⟨4, ![12, 128, 40, 512]⟩
abbrev S12x128x40 : Shape := ⟨3, ![12, 128, 40]⟩
abbrev S128 : Shape := ⟨1, ![128]⟩
abbrev S12x1 : Shape := ⟨2, ![12, 1]⟩
abbrev S1x128 : Shape := ⟨2, ![1, 128]⟩
abbrev S41 : Shape := ⟨1, ![41]⟩
abbrev S1x41 : Shape := ⟨2, ![1, 41]⟩
abbrev S12x1x41 : Shape := ⟨3, ![12, 1, 41]⟩
abbrev S40 : Shape := ⟨1, ![40]⟩
abbrev S1x40 : Shape := ⟨2, ![1, 40]⟩
abbrev S12x1x40 : Shape := ⟨3, ![12, 1, 40]⟩

abbrev nBuf : Space → Nat
  | .hbm => 266
  | .vmem => 0
  | .smem => 0
  | _ => 0

abbrev hbmTy0_0 (i : Nat) : BufTy := match i % 128 with
  | 0 => ⟨S12x128x512, .bf16⟩
  | 1 => ⟨S12x41x320, .bf16⟩
  | 2 => ⟨S512x640, .i8⟩
  | 3 => ⟨S640, .f32⟩
  | 4 => ⟨S640, .f32⟩
  | 5 => ⟨S320x640, .i8⟩
  | 6 => ⟨S640, .f32⟩
  | 7 => ⟨S640, .f32⟩
  | 8 => ⟨S_, .f32⟩
  | 9 => ⟨S513x640, .i8⟩
  | 10 => ⟨S513, .f32⟩
  | 11 => ⟨S513, .f32⟩
  | 12 => ⟨S12x40, .i32⟩
  | 13 => ⟨S12, .i32⟩
  | 14 => ⟨S12, .i32⟩
  | 15 => ⟨S12x128x512, .f32⟩
  | 16 => ⟨S12x128x512, .f32⟩
  | 17 => ⟨S_, .f32⟩
  | 18 => ⟨S12x128, .f32⟩
  | 19 => ⟨S_, .f32⟩
  | 20 => ⟨S12x128, .f32⟩
  | 21 => ⟨S12x128, .i1⟩
  | 22 => ⟨S_, .f32⟩
  | 23 => ⟨S12x128, .f32⟩
  | 24 => ⟨S12x128, .f32⟩
  | 25 => ⟨S_, .f32⟩
  | 26 => ⟨S_, .f32⟩
  | 27 => ⟨S12x128, .f32⟩
  | 28 => ⟨S12x128, .f32⟩
  | 29 => ⟨S12x128x1, .f32⟩
  | 30 => ⟨S12x128x512, .f32⟩
  | 31 => ⟨S12x128x512, .f32⟩
  | 32 => ⟨S12x128x512, .f32⟩
  | 33 => ⟨S_, .i32⟩
  | 34 => ⟨S_, .i32⟩
  | 35 => ⟨S_, .f32⟩
  | 36 => ⟨S12x128x512, .f32⟩
  | 37 => ⟨S12x128x512, .f32⟩
  | 38 => ⟨S_, .f32⟩
  | 39 => ⟨S12x128x512, .f32⟩
  | 40 => ⟨S12x128x512, .f32⟩
  | 41 => ⟨S12x128x512, .i32⟩
  | 42 => ⟨S12x128x512, .i8⟩
  | 43 => ⟨S12x41x320, .f32⟩
  | 44 => ⟨S12x41x320, .f32⟩
  | 45 => ⟨S_, .f32⟩
  | 46 => ⟨S12x41, .f32⟩
  | 47 => ⟨S_, .f32⟩
  | 48 => ⟨S12x41, .f32⟩
  | 49 => ⟨S12x41, .i1⟩
  | 50 => ⟨S_, .f32⟩
  | 51 => ⟨S12x41, .f32⟩
  | 52 => ⟨S12x41, .f32⟩
  | 53 => ⟨S_, .f32⟩
  | 54 => ⟨S_, .f32⟩
  | 55 => ⟨S12x41, .f32⟩
  | 56 => ⟨S12x41, .f32⟩
  | 57 => ⟨S12x41x1, .f32⟩
  | 58 => ⟨S12x41x320, .f32⟩
  | 59 => ⟨S12x41x320, .f32⟩
  | 60 => ⟨S12x41x320, .f32⟩
  | 61 => ⟨S_, .i32⟩
  | 62 => ⟨S_, .i32⟩
  | 63 => ⟨S_, .f32⟩
  | 64 => ⟨S12x41x320, .f32⟩
  | 65 => ⟨S12x41x320, .f32⟩
  | 66 => ⟨S_, .f32⟩
  | 67 => ⟨S12x41x320, .f32⟩
  | 68 => ⟨S12x41x320, .f32⟩
  | 69 => ⟨S12x41x320, .i32⟩
  | 70 => ⟨S12x41x320, .i8⟩
  | 71 => ⟨S12x128x512, .i32⟩
  | 72 => ⟨S12x128x512, .bf16⟩
  | 73 => ⟨S512x640, .i32⟩
  | 74 => ⟨S512x640, .bf16⟩
  | 75 => ⟨S12x128x640, .f32⟩
  | 76 => ⟨S12x128x1, .f32⟩
  | 77 => ⟨S12x128x640, .f32⟩
  | 78 => ⟨S12x128x640, .f32⟩
  | 79 => ⟨S1x1x640, .f32⟩
  | 80 => ⟨S12x128x640, .f32⟩
  | 81 => ⟨S12x128x640, .f32⟩
  | 82 => ⟨S1x1x640, .f32⟩
  | 83 => ⟨S12x128x640, .f32⟩
  | 84 => ⟨S12x128x640, .f32⟩
  | 85 => ⟨S12x41x320, .i32⟩
  | 86 => ⟨S12x41x320, .bf16⟩
  | 87 => ⟨S320x640, .i32⟩
  | 88 => ⟨S320x640, .bf16⟩
  | 89 => ⟨S12x41x640, .f32⟩
  | 90 => ⟨S12x41x1, .f32⟩
  | 91 => ⟨S12x41x640, .f32⟩
  | 92 => ⟨S12x41x640, .f32⟩
  | 93 => ⟨S1x1x640, .f32⟩
  | 94 => ⟨S12x41x640, .f32⟩
  | 95 => ⟨S12x41x640, .f32⟩
  | 96 => ⟨S1x1x640, .f32⟩
  | 97 => ⟨S12x41x640, .f32⟩
  | 98 => ⟨S12x41x640, .f32⟩
  | 99 => ⟨S12x128x1x640, .f32⟩
  | 100 => ⟨S12x1x41x640, .f32⟩
  | 101 => ⟨S12x128x41x640, .f32⟩
  | 102 => ⟨S12x128x41x640, .f32⟩
  | 103 => ⟨S12x128x41x640, .f32⟩
  | 104 => ⟨S_, .f32⟩
  | 105 => ⟨S12x128x41x640, .f32⟩
  | 106 => ⟨S12x128x41x640, .f32⟩
  | 107 => ⟨S12x128x41x640, .f32⟩
  | 108 => ⟨S12x128x41x640, .f32⟩
  | 109 => ⟨S12x128x41x640, .f32⟩
  | 110 => ⟨S_, .i32⟩
  | 111 => ⟨S_, .i32⟩
  | 112 => ⟨S_, .f32⟩
  | 113 => ⟨S12x128x41x640, .f32⟩
  | 114 => ⟨S12x128x41x640, .f32⟩
  | 115 => ⟨S_, .f32⟩
  | 116 => ⟨S12x128x41x640, .f32⟩
  | 117 => ⟨S12x128x41x640, .f32⟩
  | 118 => ⟨S12x128x41x640, .i32⟩
  | 119 => ⟨S12x128x41x640, .i8⟩
  | 120 => ⟨S12x128x41x640, .i32⟩
  | 121 => ⟨S12x128x41x640, .bf16⟩
  | 122 => ⟨S512x640, .i8⟩
  | 123 => ⟨S512x640, .i32⟩
  | 124 => ⟨S512x640, .bf16⟩
  | 125 => ⟨S12x128x41x512, .f32⟩
  | 126 => ⟨S12x128x41x512, .f32⟩
  | 127 => ⟨S12x128x41x512, .f32⟩
  | _ => ⟨S12x128x512, .bf16⟩

abbrev hbmTy0_1 (i : Nat) : BufTy := match i % 128 with
  | 0 => ⟨S512, .f32⟩
  | 1 => ⟨S1x1x1x512, .f32⟩
  | 2 => ⟨S12x128x41x512, .f32⟩
  | 3 => ⟨S12x128x41x512, .f32⟩
  | 4 => ⟨S512, .f32⟩
  | 5 => ⟨S1x1x1x512, .f32⟩
  | 6 => ⟨S12x128x41x512, .f32⟩
  | 7 => ⟨S12x128x41x512, .f32⟩
  | 8 => ⟨S1x640, .i8⟩
  | 9 => ⟨S640, .i8⟩
  | 10 => ⟨S640, .i32⟩
  | 11 => ⟨S640, .bf16⟩
  | 12 => ⟨S12x128x41, .f32⟩
  | 13 => ⟨S12x128x41, .f32⟩
  | 14 => ⟨S12x128x41, .f32⟩
  | 15 => ⟨S1, .f32⟩
  | 16 => ⟨S_, .f32⟩
  | 17 => ⟨S12x128x41, .f32⟩
  | 18 => ⟨S12x128x41, .f32⟩
  | 19 => ⟨S1, .f32⟩
  | 20 => ⟨S_, .f32⟩
  | 21 => ⟨S12x128x41, .f32⟩
  | 22 => ⟨S12x128x41, .f32⟩
  | 23 => ⟨S_, .f32⟩
  | 24 => ⟨S_, .f32⟩
  | 25 => ⟨S12x128x41x512, .f32⟩
  | 26 => ⟨S12x128x41x512, .f32⟩
  | 27 => ⟨S_, .f32⟩
  | 28 => ⟨S12x128x41, .f32⟩
  | 29 => ⟨S12x128x41, .f32⟩
  | 30 => ⟨S12x128x41x1, .f32⟩
  | 31 => ⟨S12x128x41x512, .f32⟩
  | 32 => ⟨S12x128x41x512, .f32⟩
  | 33 => ⟨S12x128x41x512, .f32⟩
  | 34 => ⟨S12x128x41x512, .f32⟩
  | 35 => ⟨S12x128x41x512, .f32⟩
  | 36 => ⟨S_, .f32⟩
  | 37 => ⟨S12x128x41, .f32⟩
  | 38 => ⟨S12x128x41, .f32⟩
  | 39 => ⟨S12x128x41, .f32⟩
  | 40 => ⟨S12x128x41, .f32⟩
  | 41 => ⟨S12x128x41, .f32⟩
  | 42 => ⟨S12x128x41, .f32⟩
  | 43 => ⟨S12x128x41, .f32⟩
  | 44 => ⟨S512, .i32⟩
  | 45 => ⟨S12x1x40x1, .i32⟩
  | 46 => ⟨S1x1x1x512, .i32⟩
  | 47 => ⟨S12x1x40x512, .i32⟩
  | 48 => ⟨S12x1x40x512, .i32⟩
  | 49 => ⟨S12x1x40x512, .i1⟩
  | 50 => ⟨S12x128x40x512, .f32⟩
  | 51 => ⟨S_, .f32⟩
  | 52 => ⟨S_, .f32⟩
  | 53 => ⟨S12x128x40x512, .i1⟩
  | 54 => ⟨S12x128x40x512, .f32⟩
  | 55 => ⟨S12x128x40x512, .f32⟩
  | 56 => ⟨S_, .f32⟩
  | 57 => ⟨S12x128x40, .f32⟩
  | 58 => ⟨S12x128x41, .f32⟩
  | 59 => ⟨S_, .f32⟩
  | 60 => ⟨S12x128x41, .f32⟩
  | 61 => ⟨S12x128x41, .f32⟩
  | 62 => ⟨S12x128x41, .f32⟩
  | 63 => ⟨S12x128x41, .f32⟩
  | 64 => ⟨S12x128x41, .i1⟩
  | 65 => ⟨S12x128x41, .f32⟩
  | 66 => ⟨S12x128x41, .f32⟩
  | 67 => ⟨S12x128x41, .f32⟩
  | 68 => ⟨S12x128x41, .f32⟩
  | 69 => ⟨S12x128x41, .f32⟩
  | 70 => ⟨S12x128x41, .f32⟩
  | 71 => ⟨S12x128x41, .f32⟩
  | 72 => ⟨S12x128x41, .f32⟩
  | 73 => ⟨S12x128x41, .f32⟩
  | 74 => ⟨S12x128x40, .f32⟩
  | 75 => ⟨S12x128x40, .f32⟩
  | 76 => ⟨S12x128x40, .f32⟩
  | 77 => ⟨S_, .f32⟩
  | 78 => ⟨S12x128x40, .f32⟩
  | 79 => ⟨S12x128x40, .f32⟩
  | 80 => ⟨S12x128x40, .f32⟩
  | 81 => ⟨S12x128x40, .f32⟩
  | 82 => ⟨S12x128x40, .i1⟩
  | 83 => ⟨S12x128x40, .f32⟩
  | 84 => ⟨S12x128x40, .f32⟩
  | 85 => ⟨S12x128x40, .f32⟩
  | 86 => ⟨S12x128x40, .f32⟩
  | 87 => ⟨S12x128x40, .f32⟩
  | 88 => ⟨S12x128x40, .f32⟩
  | 89 => ⟨S12x128x40, .f32⟩
  | 90 => ⟨S12x128x40, .f32⟩
  | 91 => ⟨S12x128x40, .f32⟩
  | 92 => ⟨S12x128x40, .f32⟩
  | 93 => ⟨S12x128x40, .f32⟩
  | 94 => ⟨S12x128x40, .f32⟩
  | 95 => ⟨S128, .i32⟩
  | 96 => ⟨S12x1, .i32⟩
  | 97 => ⟨S1x128, .i32⟩
  | 98 => ⟨S12x128, .i32⟩
  | 99 => ⟨S12x128, .i32⟩
  | 100 => ⟨S12x128, .i1⟩
  | 101 => ⟨S12x128x1, .i1⟩
  | 102 => ⟨S41, .i32⟩
  | 103 => ⟨S12x1, .i32⟩
  | 104 => ⟨S1x41, .i32⟩
  | 105 => ⟨S12x41, .i32⟩
  | 106 => ⟨S12x41, .i32⟩
  | 107 => ⟨S12x41, .i1⟩
  | 108 => ⟨S12x1x41, .i1⟩
  | 109 => ⟨S12x128x41, .i1⟩
  | 110 => ⟨S12x128x41, .i1⟩
  | 111 => ⟨S12x128x41, .i1⟩
  | 112 => ⟨S40, .i32⟩
  | 113 => ⟨S12x1, .i32⟩
  | 114 => ⟨S1x40, .i32⟩
  | 115 => ⟨S12x40, .i32⟩
  | 116 => ⟨S12x40, .i32⟩
  | 117 => ⟨S12x40, .i1⟩
  | 118 => ⟨S12x1x40, .i1⟩
  | 119 => ⟨S12x128x40, .i1⟩
  | 120 => ⟨S12x128x40, .i1⟩
  | 121 => ⟨S12x128x40, .i1⟩
  | 122 => ⟨S_, .f32⟩
  | 123 => ⟨S_, .f32⟩
  | 124 => ⟨S12x128x41, .f32⟩
  | 125 => ⟨S12x128x41, .f32⟩
  | 126 => ⟨S_, .f32⟩
  | 127 => ⟨S_, .f32⟩
  | _ => ⟨S12x128x512, .bf16⟩

abbrev hbmTy0_2 (i : Nat) : BufTy := match i % 128 with
  | 0 => ⟨S12x128x41, .f32⟩
  | 1 => ⟨S12x128x41, .f32⟩
  | 2 => ⟨S_, .f32⟩
  | 3 => ⟨S_, .f32⟩
  | 4 => ⟨S12x128x40, .f32⟩
  | 5 => ⟨S12x128x40, .f32⟩
  | 6 => ⟨S_, .f32⟩
  | 7 => ⟨S_, .f32⟩
  | 8 => ⟨S12x128x40, .f32⟩
  | 9 => ⟨S12x128x40, .f32⟩
  | _ => ⟨S12x128x512, .bf16⟩

abbrev hbmTy (i : Nat) : BufTy := match i / 128 with
  | 0 => hbmTy0_0 i
  | 1 => hbmTy0_1 i
  | 2 => hbmTy0_2 i
  | _ => ⟨S12x128x512, .bf16⟩

abbrev bufTy : (tb : Table) → Fin (tcTables nBuf tb) → BufTy
  | .hbm, ⟨i, _⟩ => hbmTy i
  | _, _ => ⟨S12x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_c_3 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_4 : Ref sig .tc := ⟨.hbm, 45, rfl⟩
abbrev main_v17 : Ref sig .tc := ⟨.hbm, 46, rfl⟩
abbrev main_cst_5 : Ref sig .tc := ⟨.hbm, 47, rfl⟩
abbrev main_v18 : Ref sig .tc := ⟨.hbm, 48, rfl⟩
abbrev main_v19 : Ref sig .tc := ⟨.hbm, 49, rfl⟩
abbrev main_cst_6 : Ref sig .tc := ⟨.hbm, 50, rfl⟩
abbrev main_v20 : Ref sig .tc := ⟨.hbm, 51, rfl⟩
abbrev main_v21 : Ref sig .tc := ⟨.hbm, 52, rfl⟩
abbrev main_cst_7 : Ref sig .tc := ⟨.hbm, 53, rfl⟩
abbrev main_call3_v0 : Ref sig .tc := ⟨.hbm, 54, rfl⟩
abbrev main_call3_v1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_8 : Ref sig .tc := ⟨.hbm, 61, rfl⟩
abbrev main_c_9 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_call6_cst : Ref sig .tc := ⟨.hbm, 104, rfl⟩
abbrev main_call6_v0 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_10 : Ref sig .tc := ⟨.hbm, 110, rfl⟩
abbrev main_c_11 : Ref sig .tc := ⟨.hbm, 111, rfl⟩
abbrev main_call8_v0 : Ref sig .tc := ⟨.hbm, 112, rfl⟩
abbrev main_call8_v1 : Ref sig .tc := ⟨.hbm, 113, rfl⟩
abbrev main_call8_v2 : Ref sig .tc := ⟨.hbm, 114, rfl⟩
abbrev main_call8_v3 : Ref sig .tc := ⟨.hbm, 115, rfl⟩
abbrev main_call8_v4 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_12 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_13 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_14 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_15 : Ref sig .tc := ⟨.hbm, 179, rfl⟩
abbrev main_call9_v0 : Ref sig .tc := ⟨.hbm, 180, rfl⟩
abbrev main_call9_v1 : Ref sig .tc := ⟨.hbm, 181, rfl⟩
abbrev main_call9_v2 : Ref sig .tc := ⟨.hbm, 182, rfl⟩
abbrev main_v126 : Ref sig .tc := ⟨.hbm, 183, rfl⟩
abbrev main_cst_16 : Ref sig .tc := ⟨.hbm, 184, rfl⟩
abbrev main_v127 : Ref sig .tc := ⟨.hbm, 185, rfl⟩
abbrev main_call10_v0 : Ref sig .tc := ⟨.hbm, 186, rfl⟩
abbrev main_call10_call0_cst : Ref sig .tc := ⟨.hbm, 187, rfl⟩
abbrev main_call10_call0_v0 : Ref sig .tc := ⟨.hbm, 188, rfl⟩
abbrev main_call10_call0_v1 : Ref sig .tc := ⟨.hbm, 189, rfl⟩
abbrev main_call10_call0_v2 : Ref sig .tc := ⟨.hbm, 190, rfl⟩
abbrev main_call10_call0_v3 : Ref sig .tc := ⟨.hbm, 191, rfl⟩
abbrev main_call10_call0_v4 : Ref sig .tc := ⟨.hbm, 192, rfl⟩
abbrev main_call10_call0_v5 : Ref sig .tc := ⟨.hbm, 193, rfl⟩
abbrev main_call10_call0_v6 : Ref sig .tc := ⟨.hbm, 194, rfl⟩
abbrev main_call10_call0_v7 : Ref sig .tc := ⟨.hbm, 195, rfl⟩
abbrev main_call10_call0_v8 : Ref sig .tc := ⟨.hbm, 196, rfl⟩
abbrev main_call10_call0_v9 : Ref sig .tc := ⟨.hbm, 197, rfl⟩
abbrev main_call10_call0_v10 : Ref sig .tc := ⟨.hbm, 198, rfl⟩
abbrev main_call10_call0_v11 : Ref sig .tc := ⟨.hbm, 199, rfl⟩
abbrev main_call10_v1 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_call11_v0 : Ref sig .tc := ⟨.hbm, 204, rfl⟩
abbrev main_call11_call0_cst : Ref sig .tc := ⟨.hbm, 205, rfl⟩
abbrev main_call11_call0_v0 : Ref sig .tc := ⟨.hbm, 206, rfl⟩
abbrev main_call11_call0_v1 : Ref sig .tc := ⟨.hbm, 207, rfl⟩
abbrev main_call11_call0_v2 : Ref sig .tc := ⟨.hbm, 208, rfl⟩
abbrev main_call11_call0_v3 : Ref sig .tc := ⟨.hbm, 209, rfl⟩
abbrev main_call11_call0_v4 : Ref sig .tc := ⟨.hbm, 210, rfl⟩
abbrev main_call11_call0_v5 : Ref sig .tc := ⟨.hbm, 211, rfl⟩
abbrev main_call11_call0_v6 : Ref sig .tc := ⟨.hbm, 212, rfl⟩
abbrev main_call11_call0_v7 : Ref sig .tc := ⟨.hbm, 213, rfl⟩
abbrev main_call11_call0_v8 : Ref sig .tc := ⟨.hbm, 214, rfl⟩
abbrev main_call11_call0_v9 : Ref sig .tc := ⟨.hbm, 215, rfl⟩
abbrev main_call11_call0_v10 : Ref sig .tc := ⟨.hbm, 216, rfl⟩
abbrev main_call11_call0_v11 : Ref sig .tc := ⟨.hbm, 217, rfl⟩
abbrev main_call11_v1 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_cst_17 : Ref sig .tc := ⟨.hbm, 250, rfl⟩
abbrev main_call12_v0 : Ref sig .tc := ⟨.hbm, 251, rfl⟩
abbrev main_call12_v1 : Ref sig .tc := ⟨.hbm, 252, rfl⟩
abbrev main_v162 : Ref sig .tc := ⟨.hbm, 253, rfl⟩
abbrev main_cst_18 : Ref sig .tc := ⟨.hbm, 254, rfl⟩
abbrev main_call13_v0 : Ref sig .tc := ⟨.hbm, 255, rfl⟩
abbrev main_call13_v1 : Ref sig .tc := ⟨.hbm, 256, rfl⟩
abbrev main_v163 : Ref sig .tc := ⟨.hbm, 257, rfl⟩
abbrev main_cst_19 : Ref sig .tc := ⟨.hbm, 258, rfl⟩
abbrev main_call14_v0 : Ref sig .tc := ⟨.hbm, 259, rfl⟩
abbrev main_call14_v1 : Ref sig .tc := ⟨.hbm, 260, rfl⟩
abbrev main_v164 : Ref sig .tc := ⟨.hbm, 261, rfl⟩
abbrev main_cst_20 : Ref sig .tc := ⟨.hbm, 262, rfl⟩
abbrev main_call15_v0 : Ref sig .tc := ⟨.hbm, 263, rfl⟩
abbrev main_call15_v1 : Ref sig .tc := ⟨.hbm, 264, rfl⟩
abbrev main_v165 : Ref sig .tc := ⟨.hbm, 265, rfl⟩

abbrev nD : Nat := 1
abbrev τ : Topo := Topo.v7x

variable {F : FTy → Type} [FloatOps F]
-- ==== Proof.Labels.lean ====
/- What the precondition says: every label is below 512 as an unsigned word, and no label length is negative. -/
module

public import proofs.«01_k».proof.Pre_labels_named
public import proofs.«01_k».proof.Proof.Gen.Pre_labels_named
public import Idealize.ShloMosaic.Lib.ReduceAll
public import Idealize.ShloMosaic.Lib.WordCmp
public import Idealize.ShloMosaic.Lib.Pointwise

@[expose] public section

noncomputable section

namespace Cert.Labels

open Idealize.ShloMosaic Cert.Pre_labels_named

/-- A word that is signed at least 0 and signed below 512 is below 512 unsigned. -/
theorem lt_of_cmp (v : BitVec 32) (h : IntOp.andi (IntOp.cmpi .sge v 0#32) (IntOp.cmpi .slt v 512#32) = 1#1) : v.toNat < 512 := by
  have hb : (0#32).sle v = true ∧ v.slt 512#32 = true := by
    rw [show IntOp.cmpi .sge v 0#32 = BitVec.ofBool ((0#32).sle v) from rfl, show IntOp.cmpi .slt v 512#32 = BitVec.ofBool (v.slt 512#32) from rfl] at h
    revert h
    cases (0#32).sle v <;> cases v.slt 512#32 <;> decide
  obtain ⟨h1, h2⟩ := hb
  simp only [BitVec.sle, BitVec.slt, decide_eq_true_eq] at h1 h2
  have e1 : (0#32 : BitVec 32).toInt = 0 := by decide
  have e2 : (512#32 : BitVec 32).toInt = 512 := by decide
  rw [e1] at h1; rw [e2] at h2
  rw [BitVec.toInt_eq_toNat_cond] at h1 h2
  split at h1 <;> omega

/-- A word that is signed at least 0 reads at least 0. -/
theorem nonneg_of_cmp (v : BitVec 32) (h : IntOp.cmpi .sge v 0#32 = 1#1) : 0 ≤ v.toInt := by
  have hb : (0#32).sle v = true := by
    rw [show IntOp.cmpi .sge v 0#32 = BitVec.ofBool ((0#32).sle v) from rfl] at h
    revert h
    cases (0#32).sle v <;> decide
  simpa [BitVec.sle] using hb

variable {F : FTy → Type} [FloatOps F]

/-- The precondition read: the labels below 512, the label lengths not negative. -/
theorem of_pre (a0 : FVec F S12x128x512 .bf16) (a1 : FVec F S12x41x320 .bf16) (a2 : IVec S512x640 8) (a3 a4 : FVec F S640 .f32) (a5 : IVec S320x640 8)
    (a6 a7 : FVec F S640 .f32) (a8 : FVec F S_ .f32) (a9 : IVec S513x640 8) (a10 a11 : FVec F S513 .f32) (a12 : IVec S12x40 32) (a13 a14 : IVec S12 32)
    (h : fn (F := F) a0 a1 a2 a3 a4 a5 a6 a7 a8 a9 a10 a11 a12 a13 a14 = fun _ => 1#1) :
    (∀ i, (a12 i).toNat < 512) ∧ ∀ b, 0 ≤ (a14 b).toInt := by
  have h0 := congrFun h (fun k => k.elim0)
  unfold fn at h0
  dsimp only at h0
  have hs : ∀ p q : BitVec 1, p &&& q = 1#1 → p = 1#1 ∧ q = 1#1 := by decide
  obtain ⟨hl, hr⟩ := hs _ _ h0
  haveI : Subsingleton S_.Idx := ⟨fun x y => funext fun k => k.elim0⟩
  exact ⟨fun i => lt_of_cmp _ (Host.reduce_andi_all _ _ _ _ _ hl i), fun b => nonneg_of_cmp _ (Host.reduce_andi_all _ _ _ _ _ hr b)⟩

end Cert.Labels

end
-- ==== Proof.Kernel.Region0.lean ====
/- The first call, `project`: the values that its six output windows hold after the body, and its proof data. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_project` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x128x512 := Rect.unit (s := S1x128x512) ![0, 0, 0] S1x128x512.size inb_S1x128x512_S1x128x512_0_0_0
abbrev r0_1 : Rect S1x1x128 := Rect.unit (s := S1x1x128) ![0, 0, 0] S1x1x128.size inb_S1x1x128_S1x1x128_0_0_0
abbrev r0_2 : Rect S512x640 := Rect.unit (s := S512x640) ![0, 0] S512x640.size inb_S512x640_S512x640_0_0
abbrev r0_3 : Rect S1x640 := Rect.unit (s := S1x640) ![0, 0] S1x640.size inb_S1x640_S1x640_0_0
abbrev r0_4 : Rect S1x128x640 := Rect.unit (s := S1x128x640) ![0, 0, 0] S1x128x640.size inb_S1x128x640_S1x128x640_0_0_0
abbrev r0_5 : Rect S1x41x320 := Rect.unit (s := S1x41x320) ![0, 0, 0] S1x41x320.size inb_S1x41x320_S1x41x320_0_0_0
abbrev r0_6 : Rect S1x1x41 := Rect.unit (s := S1x1x41) ![0, 0, 0] S1x1x41.size inb_S1x1x41_S1x1x41_0_0_0
abbrev r0_7 : Rect S320x640 := Rect.unit (s := S320x640) ![0, 0] S320x640.size inb_S320x640_S320x640_0_0
abbrev r0_8 : Rect S1x41x640 := Rect.unit (s := S1x41x640) ![0, 0, 0] S1x41x640.size inb_S1x41x640_S1x41x640_0_0_0

/-! ## What the body leaves in each output window's buffer -/

/-- Window 8's staging buffer after the body, from the input windows' blocks: its 1 store as pieces, LAST
    FIRST (Lib/Pipeline/FrameBody.lean `View.canon`; the payloads are the skeleton's). -/
def out0_8 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x128x640 .f32 :=
  View.canon [⟨r0_4, k0_pay9 (k0_pay8 (View.ld x0 r0_0) (View.ld x2 r0_2)) (View.ld x3 r0_3) (View.ld x4 r0_3)⟩]

/-- Its stores tile the buffer (checked by evaluation), so they cover it. -/
theorem cover0_8 (p0 : Vec F S1x128x640 .f32) (y : S1x128x640.Idx) :
    ∃ pc ∈ ([⟨r0_4, p0⟩] : List (View.Piece (Elt F) S1x128x640 .f32)), y ∈ pc.1.set :=
  View.cover_of_tiled [⟨r0_4, p0⟩] S1x128x640.size (by rfl) y

/-- Window 9's staging buffer after the body, from the input windows' blocks: its 1 store as pieces, LAST
    FIRST (Lib/Pipeline/FrameBody.lean `View.canon`; the payloads are the skeleton's). -/
def out0_9 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x41x640 .f32 :=
  View.canon [⟨r0_8, k0_pay2 (k0_pay11 (View.ld x1 r0_5)) (k0_pay12 (View.ld x1 r0_5)) (View.ld x5 r0_7) (View.ld x6 r0_3) (View.ld x7 r0_3)⟩]

/-- Its stores tile the buffer (checked by evaluation), so they cover it. -/
theorem cover0_9 (p0 : Vec F S1x41x640 .f32) (y : S1x41x640.Idx) :
    ∃ pc ∈ ([⟨r0_8, p0⟩] : List (View.Piece (Elt F) S1x41x640 .f32)), y ∈ pc.1.set :=
  View.cover_of_tiled [⟨r0_8, p0⟩] S1x41x640.size (by rfl) y

/-- Window 10's staging buffer after the body, from the input windows' blocks: its 1 store as pieces, LAST
    FIRST (Lib/Pipeline/FrameBody.lean `View.canon`; the payloads are the skeleton's). -/
def out0_10 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x128x512 .i8 :=
  View.canon [⟨r0_0, k0_pay6 (View.ld x0 r0_0)⟩]

/-- Its stores tile the buffer (checked by evaluation), so they cover it. -/
theorem cover0_10 (p0 : Vec F S1x128x512 .i8) (y : S1x128x512.Idx) :
    ∃ pc ∈ ([⟨r0_0, p0⟩] : List (View.Piece (Elt F) S1x128x512 .i8)), y ∈ pc.1.set :=
  View.cover_of_tiled [⟨r0_0, p0⟩] S1x128x512.size (by rfl) y

/-- Window 11's staging buffer after the body, from the input windows' blocks: its 1 store as pieces, LAST
    FIRST (Lib/Pipeline/FrameBody.lean `View.canon`; the payloads are the skeleton's). -/
def out0_11 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x1x128 .f32 :=
  View.canon [⟨r0_1, k0_pay7 (View.ld x0 r0_0)⟩]

/-- Its stores tile the buffer (checked by evaluation), so they cover it. -/
theorem cover0_11 (p0 : Vec F S1x1x128 .f32) (y : S1x1x128.Idx) :
    ∃ pc ∈ ([⟨r0_1, p0⟩] : List (View.Piece (Elt F) S1x1x128 .f32)), y ∈ pc.1.set :=
  View.cover_of_tiled [⟨r0_1, p0⟩] S1x1x128.size (by rfl) y

/-- Window 12's staging buffer after the body, from the input windows' blocks: its 1 store as pieces, LAST
    FIRST (Lib/Pipeline/FrameBody.lean `View.canon`; the payloads are the skeleton's). -/
def out0_12 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x41x320 .i8 :=
  View.canon [⟨r0_5, k0_pay13 (View.ld x1 r0_5)⟩]

/-- Its stores tile the buffer (checked by evaluation), so they cover it. -/
theorem cover0_12 (p0 : Vec F S1x41x320 .i8) (y : S1x41x320.Idx) :
    ∃ pc ∈ ([⟨r0_5, p0⟩] : List (View.Piece (Elt F) S1x41x320 .i8)), y ∈ pc.1.set :=
  View.cover_of_tiled [⟨r0_5, p0⟩] S1x41x320.size (by rfl) y

/-- Window 13's staging buffer after the body, from the input windows' blocks: its 1 store as pieces, LAST
    FIRST (Lib/Pipeline/FrameBody.lean `View.canon`; the payloads are the skeleton's). -/
def out0_13 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x1x41 .f32 :=
  View.canon [⟨r0_6, k0_pay1 (k0_pay14 (View.ld x1 r0_5))⟩]

/-- Its stores tile the buffer (checked by evaluation), so they cover it. -/
theorem cover0_13 (p0 : Vec F S1x1x41 .f32) (y : S1x1x41.Idx) :
    ∃ pc ∈ ([⟨r0_6, p0⟩] : List (View.Piece (Elt F) S1x1x41 .f32)), y ∈ pc.1.set :=
  View.cover_of_tiled [⟨r0_6, p0⟩] S1x1x41.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x128x512 .bf16) (harg1 : arg1.IsWhole) (arg2 : Memref sig .tc .vmem S1x41x320 .bf16) (harg2 : arg2.IsWhole) (arg3 : Memref sig .tc .vmem S512x640 .i8) (harg3 : arg3.IsWhole) (arg4 : Memref sig .tc .vmem S1x640 .f32) (harg4 : arg4.IsWhole) (arg5 : Memref sig .tc .vmem S1x640 .f32) (harg5 : arg5.IsWhole) (arg6 : Memref sig .tc .vmem S320x640 .i8) (harg6 : arg6.IsWhole) (arg7 : Memref sig .tc .vmem S1x640 .f32) (harg7 : arg7.IsWhole) (arg8 : Memref sig .tc .vmem S1x640 .f32) (harg8 : arg8.IsWhole) (arg9 : Memref sig .tc .vmem S1x128x640 .f32) (harg9 : arg9.IsWhole) (arg10 : Memref sig .tc .vmem S1x41x640 .f32) (harg10 : arg10.IsWhole) (arg11 : Memref sig .tc .vmem S1x128x512 .i8) (harg11 : arg11.IsWhole) (arg12 : Memref sig .tc .vmem S1x1x128 .f32) (harg12 : arg12.IsWhole) (arg13 : Memref sig .tc .vmem S1x41x320 .i8) (harg13 : arg13.IsWhole) (arg14 : Memref sig .tc .vmem S1x1x41 .f32) (harg14 : arg14.IsWhole)
    (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7) ∗ owns (c : Thread nD τ) arg13 fullShare (out0_12 x0 x1 x2 x3 x4 x5 x6 x7) ∗ owns (c : Thread nD τ) arg14 fullShare (out0_13 x0 x1 x2 x3 x4 x5 x6 x7)) -∗ K ⟨⟩))
      ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_project_eq_skeleton]; unfold cc0_project_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions
end Cert.Kernel.Gen
end
-- ==== Proof.Kernel.Words.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second call's counted loop: its trips, and the offsets that a trip computes

The main loop runs `min 40 (max 0 u) + 1` trips, `u` the word `ulen[b]` read signed; the printed remainder loop runs
none. Every offset of a trip is within its buffer, whatever the word is. -/

/-- The clipped word is one of 41. -/
theorem clip_word (v : BitVec 32) : ∃ n : Fin 41, Scalar.minsi 40#32 (Scalar.maxsi 0#32 v) = BitVec.ofNat 32 n.val
    ∧ (n.val : Int) = min 40 (max 0 v.toInt) := by
  have hm : (Scalar.maxsi 0#32 v).toInt = max 0 v.toInt := by
    simp only [Scalar.maxsi, IntOp.maxsi]; split <;> rename_i h <;> simp [BitVec.slt, BitVec.sle] at h ⊢ <;> omega
  have hw : (Scalar.minsi 40#32 (Scalar.maxsi 0#32 v)).toInt = min 40 (max 0 v.toInt) := by
    rw [← hm]
    simp only [Scalar.minsi, IntOp.minsi]; split <;> rename_i h <;> simp [BitVec.slt, BitVec.sle] at h ⊢ <;> omega
  generalize Scalar.minsi 40#32 (Scalar.maxsi 0#32 v) = w at hw
  have hc := BitVec.toInt_eq_toNat_cond w
  have hn : w.toNat < 41 ∧ (w.toNat : Int) = w.toInt := by split at hc <;> omega
  exact ⟨⟨w.toNat, hn.1⟩, by simp, by rw [hn.2, hw]⟩

/-- The number of rows that the loop computes for the word `v`. -/
def nRows (v : BitVec 32) : ℕ := (min 40 (max 0 v.toInt)).toNat + 1

theorem nRows_le (v : BitVec 32) : nRows v ≤ 41 := by unfold nRows; omega

theorem trips1_lit : ∀ n : Fin 41, Scf.trips 0#32 (Scalar.addi 0#32 (Scalar.muli (Scalar.divsi (Scalar.subi (Scalar.addi (BitVec.ofNat 32 n.val) 1#32) 0#32) 1#32) 1#32)) 1#32 = n.val + 1 := by
  decide
theorem trips2_lit : ∀ n : Fin 41, Scf.trips (Scalar.addi 0#32 (Scalar.muli (Scalar.divsi (Scalar.subi (Scalar.addi (BitVec.ofNat 32 n.val) 1#32) 0#32) 1#32) 1#32))
    (Scalar.addi 0#32 (Scalar.subi (Scalar.addi (BitVec.ofNat 32 n.val) 1#32) 0#32)) 1#32 = 0 := by
  decide

/-- The main loop's trip count. -/
theorem trips1_eq (v : BitVec 32) : (k1_t1_loop v).trips = nRows v := by
  obtain ⟨n, hn, he⟩ := clip_word v
  show Scf.trips 0#32 (Scalar.addi 0#32 (Scalar.muli (Scalar.divsi (Scalar.subi (Scalar.addi (Scalar.minsi 40#32 (Scalar.maxsi 0#32 v)) 1#32) 0#32) 1#32) 1#32)) 1#32 = _
  rw [hn, trips1_lit n]; unfold nRows; omega
/-- The remainder loop runs no trip. -/
theorem trips2_eq (v : BitVec 32) : (k1_t2_loop v).trips = 0 := by
  obtain ⟨n, hn, he⟩ := clip_word v
  show Scf.trips (Scalar.addi 0#32 (Scalar.muli (Scalar.divsi (Scalar.subi (Scalar.addi (Scalar.minsi 40#32 (Scalar.maxsi 0#32 v)) 1#32) 0#32) 1#32) 1#32))
    (Scalar.addi 0#32 (Scalar.subi (Scalar.addi (Scalar.minsi 40#32 (Scalar.maxsi 0#32 v)) 1#32) 0#32)) 1#32 = _
  rw [hn, trips2_lit n]

theorem trip_lt (v : BitVec 32) (k : Fin (k1_t1_loop v).trips) : k.val < 41 :=
  lt_of_lt_of_le k.isLt (by rw [trips1_eq]; exact nRows_le v)

theorem iv_lit : ∀ k : Fin 41, (Scalar.indexCast (Scf.iv 0#32 1#32 k.val)).toNat = k.val := by decide
theorem yoff_lit : ∀ (i : Fin 12) (k : Fin 41),
    (Scalar.indexCast (Scalar.addi (Scalar.muli (BitVec.ofNat 32 i.val) 40#32) (Scalar.minsi (Scf.iv 0#32 1#32 k.val) 39#32))).toNat = i.val * 40 + min k.val 39 := by decide

theorem off2_eq (v : BitVec 32) (k : Fin (k1_t1_loop v).trips) : k1_off2 v k = ![0, k.val, 0] := by
  show (![0, (Scalar.indexCast (Scf.iv 0#32 1#32 k.val)).toNat, 0] : Fin 3 → Nat) = _
  rw [iv_lit ⟨k.val, trip_lt v k⟩]
theorem off5_eq (v : BitVec 32) (k : Fin (k1_t1_loop v).trips) : k1_off5 v k = ![0, k.val, 0] := by
  show (![0, (Scalar.indexCast (Scf.iv 0#32 1#32 k.val)).toNat, 0] : Fin 3 → Nat) = _
  rw [iv_lit ⟨k.val, trip_lt v k⟩]
theorem off6_eq (v : BitVec 32) (k : Fin (k1_t1_loop v).trips) : k1_off6 v k = ![1, k.val, 0] := by
  show (![1, (Scalar.indexCast (Scf.iv 0#32 1#32 k.val)).toNat, 0] : Fin 3 → Nat) = _
  rw [iv_lit ⟨k.val, trip_lt v k⟩]
theorem off7_eq (v : BitVec 32) (k : Fin (k1_t1_loop v).trips) : k1_off7 v k = ![2, k.val, 0] := by
  show (![2, (Scalar.indexCast (Scf.iv 0#32 1#32 k.val)).toNat, 0] : Fin 3 → Nat) = _
  rw [iv_lit ⟨k.val, trip_lt v k⟩]
theorem off8_eq (v : BitVec 32) (k : Fin (k1_t1_loop v).trips) : k1_off8 v k = ![3, k.val, 0] := by
  show (![3, (Scalar.indexCast (Scf.iv 0#32 1#32 k.val)).toNat, 0] : Fin 3 → Nat) = _
  rw [iv_lit ⟨k.val, trip_lt v k⟩]
theorem off3_eq (i : grid1.Coords) (v : BitVec 32) (k : Fin (k1_t1_loop v).trips) : k1_off3 i v k = ![(i 0).val * 40 + min k.val 39] := by
  show (![_] : Fin 1 → Nat) = _
  rw [show Scalar.indexCast (Scalar.addi (Scalar.muli (BitVec.ofNat 32 (i 0).val) 40#32) (Scalar.minsi (Scf.iv 0#32 1#32 k.val) 39#32)) = _ from rfl, yoff_lit (i 0) ⟨k.val, trip_lt v k⟩]

theorem ok1_lit : ∀ n : Fin 41, (⟨0#32, Scalar.addi 0#32 (Scalar.muli (Scalar.divsi (Scalar.subi (Scalar.addi (BitVec.ofNat 32 n.val) 1#32) 0#32) 1#32) 1#32), 1#32⟩ : Scf.Loop 32).OK := by
  decide
theorem ok2_lit : ∀ n : Fin 41, (⟨Scalar.addi 0#32 (Scalar.muli (Scalar.divsi (Scalar.subi (Scalar.addi (BitVec.ofNat 32 n.val) 1#32) 0#32) 1#32) 1#32),
    Scalar.addi 0#32 (Scalar.subi (Scalar.addi (BitVec.ofNat 32 n.val) 1#32) 0#32), 1#32⟩ : Scf.Loop 32).OK := by
  decide
theorem ok1 (v : BitVec 32) : (k1_t1_loop v).OK := by
  obtain ⟨n, hn, -⟩ := clip_word v
  show (⟨0#32, Scalar.addi 0#32 (Scalar.muli (Scalar.divsi (Scalar.subi (Scalar.addi (Scalar.minsi 40#32 (Scalar.maxsi 0#32 v)) 1#32) 0#32) 1#32) 1#32), 1#32⟩ : Scf.Loop 32).OK
  rw [hn]; exact ok1_lit n
theorem ok2 (v : BitVec 32) : (k1_t2_loop v).OK := by
  obtain ⟨n, hn, -⟩ := clip_word v
  show (⟨Scalar.addi 0#32 (Scalar.muli (Scalar.divsi (Scalar.subi (Scalar.addi (Scalar.minsi 40#32 (Scalar.maxsi 0#32 v)) 1#32) 0#32) 1#32) 1#32),
    Scalar.addi 0#32 (Scalar.subi (Scalar.addi (Scalar.minsi 40#32 (Scalar.maxsi 0#32 v)) 1#32) 0#32), 1#32⟩ : Scf.Loop 32).OK
  rw [hn]; exact ok2_lit n

theorem inb3 {x y z a b c A B C : ℕ} (h0 : x + a ≤ A) (h1 : y + b ≤ B) (h2 : z + c ≤ C) :
    ∀ j : Fin 3, (![x, y, z] : Fin 3 → ℕ) j + (![a, b, c] : Fin 3 → ℕ) j ≤ (![A, B, C] : Fin 3 → ℕ) j := by
  intro j; fin_cases j; exacts [h0, h1, h2]

/-- The side condition of the loaded word holds of every word. -/
theorem chk1_all (i : grid1.Coords) (v : BitVec 32) : k1_chk1 i v := by
  have no : ∀ {P : Fin (k1_t2_loop v).trips → Prop}, ∀ k, P k := fun k => (Nat.not_lt_zero _ (lt_of_lt_of_eq k.isLt (trips2_eq v))).elim
  refine ⟨ok1 v, fun k => ?_, fun k => ?_, fun k => ?_, fun k => ?_, fun k => ?_, fun k => ?_, ok2 v, no, no, no, no, no, no⟩
  all_goals have hk := trip_lt v k
  · rw [off2_eq]; exact inb3 (by omega) (by omega) (by omega)
  · rw [off3_eq]; have hi : (i 0).val < 12 := (i 0).isLt
    intro a; fin_cases a; show (i 0).val * 40 + min k.val 39 + 1 ≤ 480; omega
  · rw [off5_eq]; exact inb3 (by omega) (by omega) (by omega)
  · rw [off6_eq]; exact inb3 (by omega) (by omega) (by omega)
  · rw [off7_eq]; exact inb3 (by omega) (by omega) (by omega)
  · rw [off8_eq]; exact inb3 (by omega) (by omega) (by omega)

/-- The side condition of a label word: a word below 512. -/
theorem chk2_of_lt (w : BitVec 32) (h : w.toNat < 512) : k1_chk2 w := by
  unfold k1_chk2 k1_off4; intro a; fin_cases a
  · show (Scalar.indexCast w).toNat + 1 ≤ 512
    have : (Scalar.indexCast w).toNat = w.toNat := rfl
    omega
  · show 0 + 128 ≤ 128; omega

end Cert.Kernel.Gen
end
-- ==== Proof.Kernel.Trip.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import proofs.«01_k».proof.Proof.Kernel.Words

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one trip writes -/

/-- Row `u` of the prediction projection's block. -/
def prow (P : Vec F S1x41x640 .f32) (u : ℕ) : Vec F S1x1x640 .f32 := fun z => P (ix3 0 (Fin.ofNat 41 u) (z 2))
/-- The row of a table of 512 rows that a word names. -/
def trow (T : Vec F S512x128 .f32) (w : BitVec 32) : Vec F S1x128 .f32 := fun z => T (ix2 (Fin.ofNat 512 w.toNat) (z 1))
/-- The label word of row `b` at step `u`: the last label is read again at the step past the labels. -/
def yword (Y : Vec F S480 .i32) (b u : ℕ) : BitVec 32 := Y (ix1 (Fin.ofNat 480 (b * 40 + min u 39)))
/-- The factor from a natural logarithm to a binary one. -/
def jcst : F .f32 := Scalar.ofBits .f32 0x3FB8AA3B#32

/-- What trip `u` writes at lane `l` of row `u` of output plane `a`, from the buffers' contents: `Y` the labels, `E` the
    encoder projection's block, `P` the prediction projection's, `W` the widened weights, `C` and `D` the label classes'
    factors and offsets. -/
def rowVal (b : ℕ) (Y : Vec F S480 .i32) (E : Vec F S1x128x640 .f32) (P : Vec F S1x41x640 .f32) (W : Vec F S528x640 .bf16) (C D : Vec F S512x128 .f32)
    (v0 : Elt F .f32) (v4 v6 : Vec F S1x1 .f32) (v9 v11 : Elt F .i32) (v12 : IVec S1x128 32) (a : Fin 4) (u : ℕ) (l : Fin 128) : Elt F .f32 :=
  match a with
  | 0 => k1_pay46 (k1_pay26 v0 (k1_pay42 v4) (k1_pay43 v6) v9 v12 (k1_pay15 (k1_pay45 v0) E (prow P u) W)) (ix3 0 0 l)
  | 1 => k1_pay47 (k1_pay24 (F := F) v9 v11 v12 (Scf.iv 0#32 1#32 u))
      (k1_pay25 v0 (k1_pay42 v4) (k1_pay43 v6) (k1_pay15 (k1_pay45 v0) E (prow P u) W) (k1_pay18 (k1_pay45 v0) E (prow P u) W C D)
        (k1_pay19 (k1_pay45 v0) E (prow P u) W C D) jcst (trow (k1_pay17 (k1_pay45 v0) E (prow P u) W C D) (yword Y b u))) (ix3 0 0 l)
  | 2 => k1_pay48 (k1_pay20 (k1_pay18 (k1_pay45 v0) E (prow P u) W C D) (k1_pay19 (k1_pay45 v0) E (prow P u) W C D) jcst) (k1_pay23 (F := F) v9 v12) (ix3 0 0 l)
  | 3 => k1_pay49 (k1_pay22 (trow (k1_pay17 (k1_pay45 v0) E (prow P u) W C D) (yword Y b u))) (k1_pay24 (F := F) v9 v11 v12 (Scf.iv 0#32 1#32 u)) (ix3 0 0 l)

/-- The output planes with row `u` written. -/
def setRow (R : Fin 4 → Fin 128 → Elt F .f32) (u : ℕ) (X : Vec F S4x48x128 .f32) : Vec F S4x48x128 .f32 :=
  fun y => if (y 1).val = u then R (y 0) (y 2) else X y

/-- A load of the row that a word names. -/
theorem readAt_trow (v : View sig .tc .vmem S512x128 .f32) (f : v.ty.Contents (Elt F)) (w : BitVec 32) (h : w.toNat < 512) (o : Fin 2 → ℕ) (ho : o = ![w.toNat, 0])
    (inb : ∀ a, o a + S1x128.size a ≤ S512x128.size a) :
    v.readAt (Elt F) (Rect.unit (s := S512x128) o S1x128.size inb).toLoadRect f = trow (v.read (Elt F) f) w := by
  subst ho
  funext z
  refine congrArg (v.read (Elt F) f) (funext fun a => Fin.ext ?_)
  fin_cases a
  · show w.toNat + 1 * (z 0).val = w.toNat % 512
    have : (z 0).val < 1 := (z 0).isLt
    omega
  · show 0 + 1 * (z 1).val = (z 1).val
    omega

section FourRows
variable (v : View sig .tc .vmem S4x48x128 .f32) (f : v.ty.Contents (Elt F)) (n u : ℕ) (o : Fin 3 → ℕ) (ho : o = ![n, u, 0])
  (inb : ∀ a, o a + S1x1x128.size a ≤ S4x48x128.size a) (p : Vec F S1x1x128 .f32) (L : List (View.Piece (Elt F) S4x48x128 .f32)) (y0 : Fin 4) (y1 : Fin 48) (y2 : Fin 128)

include ho in
/-- Away from a stored row, the store changes nothing. -/
theorem row_skip (h : ¬ (y0.val = n ∧ y1.val = u)) :
    v.read (Elt F) (v.writes (Elt F) f (⟨Rect.unit (s := S4x48x128) o S1x1x128.size inb, p⟩ :: L)) (ix3 y0 y1 y2) = v.read (Elt F) (v.writes (Elt F) f L) (ix3 y0 y1 y2) := by
  by_cases h0 : y0.val = n
  · have h1 : y1.val ≠ u := fun e => h ⟨h0, e⟩
    exact View.read_writes_cons_unit_of_not_mem v f inb p L _ ho (1 : Fin 3) (show y1.val < u ∨ u + 1 ≤ y1.val by omega)
  · exact View.read_writes_cons_unit_of_not_mem v f inb p L _ ho (0 : Fin 3) (show y0.val < n ∨ n + 1 ≤ y0.val by omega)

include ho in
/-- On a stored row, the stored vector is read. -/
theorem row_hit (h0 : y0.val = n) (h1 : y1.val = u) :
    v.read (Elt F) (v.writes (Elt F) f (⟨Rect.unit (s := S4x48x128) o S1x1x128.size inb, p⟩ :: L)) (ix3 y0 y1 y2) = p (ix3 0 0 y2) := by
  refine View.read_writes_cons_unit_of_mem v f inb p L _ (ix3 (0 : Fin 1) (0 : Fin 1) y2 : S1x1x128.Idx) ho fun a => ?_
  fin_cases a
  · exact h0
  · exact h1
  · exact (Nat.zero_add _).symm

end FourRows

/-- Four stores, one row of each plane, read back as `setRow`. -/
theorem read_four_rows (v : View sig .tc .vmem S4x48x128 .f32) (f : v.ty.Contents (Elt F)) (u : ℕ) (o0 o1 o2 o3 : Fin 3 → ℕ)
    (h0 : o0 = ![0, u, 0]) (h1 : o1 = ![1, u, 0]) (h2 : o2 = ![2, u, 0]) (h3 : o3 = ![3, u, 0])
    (i0 : ∀ a, o0 a + S1x1x128.size a ≤ S4x48x128.size a) (i1 : ∀ a, o1 a + S1x1x128.size a ≤ S4x48x128.size a)
    (i2 : ∀ a, o2 a + S1x1x128.size a ≤ S4x48x128.size a) (i3 : ∀ a, o3 a + S1x1x128.size a ≤ S4x48x128.size a)
    (p0 p1 p2 p3 : Vec F S1x1x128 .f32) (R : Fin 4 → Fin 128 → Elt F .f32)
    (e0 : ∀ l, p0 (ix3 0 0 l) = R 0 l) (e1 : ∀ l, p1 (ix3 0 0 l) = R 1 l) (e2 : ∀ l, p2 (ix3 0 0 l) = R 2 l) (e3 : ∀ l, p3 (ix3 0 0 l) = R 3 l) :
    v.read (Elt F) (v.writes (Elt F) f [⟨Rect.unit (s := S4x48x128) o3 S1x1x128.size i3, p3⟩, ⟨Rect.unit (s := S4x48x128) o2 S1x1x128.size i2, p2⟩,
        ⟨Rect.unit (s := S4x48x128) o1 S1x1x128.size i1, p1⟩, ⟨Rect.unit (s := S4x48x128) o0 S1x1x128.size i0, p0⟩])
      = setRow R u (v.read (Elt F) f) := by
  funext y
  obtain ⟨y0, y1, y2, rfl⟩ : ∃ (a : Fin 4) (b : Fin 48) (c : Fin 128), y = ix3 a b c := ⟨y 0, y 1, y 2, eq_ix3 y⟩
  by_cases hu : y1.val = u
  · refine Eq.trans ?_ (if_pos (show ((ix3 y0 y1 y2 : S4x48x128.Idx) 1).val = u from hu)).symm
    have hy : y0 = 0 ∨ y0 = 1 ∨ y0 = 2 ∨ y0 = 3 := by revert y0; decide
    rcases hy with rfl | rfl | rfl | rfl
    · rw [row_skip v f 3 u o3 h3 i3 p3 _ _ _ _ (fun h => absurd h.1 (by decide)), row_skip v f 2 u o2 h2 i2 p2 _ _ _ _ (fun h => absurd h.1 (by decide)),
        row_skip v f 1 u o1 h1 i1 p1 _ _ _ _ (fun h => absurd h.1 (by decide)), row_hit v f 0 u o0 h0 i0 p0 _ _ _ _ rfl hu]
      exact e0 y2
    · rw [row_skip v f 3 u o3 h3 i3 p3 _ _ _ _ (fun h => absurd h.1 (by decide)), row_skip v f 2 u o2 h2 i2 p2 _ _ _ _ (fun h => absurd h.1 (by decide)),
        row_hit v f 1 u o1 h1 i1 p1 _ _ _ _ rfl hu]
      exact e1 y2
    · rw [row_skip v f 3 u o3 h3 i3 p3 _ _ _ _ (fun h => absurd h.1 (by decide)), row_hit v f 2 u o2 h2 i2 p2 _ _ _ _ rfl hu]
      exact e2 y2
    · rw [row_hit v f 3 u o3 h3 i3 p3 _ _ _ _ rfl hu]
      exact e3 y2
  · refine Eq.trans ?_ (if_neg (show ¬ ((ix3 y0 y1 y2 : S4x48x128.Idx) 1).val = u from hu)).symm
    rw [row_skip v f 3 u o3 h3 i3 p3 _ _ _ _ (fun h => hu h.2), row_skip v f 2 u o2 h2 i2 p2 _ _ _ _ (fun h => hu h.2),
      row_skip v f 1 u o1 h1 i1 p1 _ _ _ _ (fun h => hu h.2), row_skip v f 0 u o0 h0 i0 p0 _ _ _ _ (fun h => hu h.2)]
    rfl

section Trip

variable (c : Dev nD) (i : grid1.Coords) (arg1 : Memref sig .tc .smem S12 .i32) (harg1 : arg1.IsWhole) (arg2 : Memref sig .tc .smem S12 .i32) (harg2 : arg2.IsWhole) (arg3 : Memref sig .tc .smem S480 .i32) (harg3 : arg3.IsWhole) (arg4 : Memref sig .tc .smem S1 .f32) (harg4 : arg4.IsWhole) (arg5 : Memref sig .tc .vmem S1x128x640 .f32) (harg5 : arg5.IsWhole) (arg6 : Memref sig .tc .vmem S1x41x640 .f32) (harg6 : arg6.IsWhole) (arg7 : Memref sig .tc .vmem S513x640 .i8) (harg7 : arg7.IsWhole) (arg8 : Memref sig .tc .vmem S1x513 .f32) (harg8 : arg8.IsWhole) (arg9 : Memref sig .tc .vmem S1x513 .f32) (harg9 : arg9.IsWhole) (arg10 : Memref sig .tc .vmem S1x128x41 .f32) (harg10 : arg10.IsWhole) (arg11 : Memref sig .tc .vmem S1x128x40 .f32) (harg11 : arg11.IsWhole) (arg12 : Memref sig .tc .vmem S1x128x41 .f32) (harg12 : arg12.IsWhole) (arg13 : Memref sig .tc .vmem S1x128x40 .f32) (harg13 : arg13.IsWhole) (arg14 : Memref sig .tc .vmem S528x640 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4x48x128 .f32) (harg18 : arg18.IsWhole)
  (v0 : Elt F .f32) (v4 : Vec F S1x1 .f32) (v6 : Vec F S1x1 .f32) (v9 : Elt F .i32) (v11 : Elt F .i32) (hw : k1_chk1 i v11) (v12 : IVec S1x128 32)

abbrev at3 (f : Buf (Elt F) (arg3.view.loc (c : Thread nD τ))) : sProp 𝕄 := arg3.view.loc (c : Thread nD τ) ↦[arg3.view.set]{fullShare} f
abbrev at5 (f : Buf (Elt F) (arg5.view.loc (c : Thread nD τ))) : sProp 𝕄 := arg5.view.loc (c : Thread nD τ) ↦[arg5.view.set]{fullShare} f
abbrev at6 (f : Buf (Elt F) (arg6.view.loc (c : Thread nD τ))) : sProp 𝕄 := arg6.view.loc (c : Thread nD τ) ↦[arg6.view.set]{fullShare} f
abbrev at14 (f : Buf (Elt F) (arg14.view.loc (c : Thread nD τ))) : sProp 𝕄 := arg14.view.loc (c : Thread nD τ) ↦[arg14.view.set]{fullShare} f
abbrev at15 (f : Buf (Elt F) (arg15.view.loc (c : Thread nD τ))) : sProp 𝕄 := arg15.view.loc (c : Thread nD τ) ↦[arg15.view.set]{fullShare} f
abbrev at17 (f : Buf (Elt F) (arg17.view.loc (c : Thread nD τ))) : sProp 𝕄 := arg17.view.loc (c : Thread nD τ) ↦[arg17.view.set]{fullShare} f
abbrev at18 (f : Buf (Elt F) (arg18.view.loc (c : Thread nD τ))) : sProp 𝕄 := arg18.view.loc (c : Thread nD τ) ↦[arg18.view.set]{fullShare} f

set_option maxHeartbeats 1000000 in
theorem trip_run (k : Fin (k1_t1_loop v11).trips) (acc : BitVec 32) (f3 : Buf (Elt F) (arg3.view.loc (c : Thread nD τ))) (f5 : Buf (Elt F) (arg5.view.loc (c : Thread nD τ)))
    (f6 : Buf (Elt F) (arg6.view.loc (c : Thread nD τ))) (f14 : Buf (Elt F) (arg14.view.loc (c : Thread nD τ))) (f15 : Buf (Elt F) (arg15.view.loc (c : Thread nD τ)))
    (f16 : Buf (Elt F) (arg16.view.loc (c : Thread nD τ))) (f18 : Buf (Elt F) (arg18.view.loc (c : Thread nD τ)))
    (hy : ∀ j, (arg3.view.read (Elt F) f3 j : BitVec 32).toNat < 512) :
    iprop(at3 c arg3 f3 ∗ at5 c arg5 f5 ∗ at6 c arg6 f6 ∗ at14 c arg14 f14 ∗ at15 c arg15 f15 ∗ at15 c arg16 f16 ∗ (∃ g, at17 c arg17 g) ∗ at18 c arg18 f18)
      ⊢ wp frame (wpE (defs₀ (F := F)) Variants.none c none) Set.univ
          (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v0 v4 v6 v9 v11 hw v12 k acc)
          (fun _ => iprop(at3 c arg3 f3 ∗ at5 c arg5 f5 ∗ at6 c arg6 f6 ∗ at14 c arg14 f14 ∗ at15 c arg15 f15 ∗ at15 c arg16 f16 ∗ (∃ g, at17 c arg17 g)
            ∗ (∃ g, ⌜arg18.view.read (Elt F) g = setRow (fun a l => rowVal (i 0).val (arg3.view.read (Elt F) f3) (arg5.view.read (Elt F) f5) (arg6.view.read (Elt F) f6)
                (arg14.view.read (Elt F) f14) (arg15.view.read (Elt F) f15) (arg16.view.read (Elt F) f16) v0 v4 v6 v9 v11 v12 a k.val l) k.val (arg18.view.read (Elt F) f18)⌝ ∗ at18 c arg18 g))) := by
  unfold k1_t1_body
  simp only [k1_part3_eq_skeleton, k1_part4_eq_skeleton]
  iintro ⟨H3, H5, H6, H14, H15, H16, ⟨%g, H17⟩, H18⟩
  have hw3 : ∀ w : BitVec 32, (∃ j, w = arg3.view.read (Elt F) f3 j) → k1_chk2 w := by
    rintro w ⟨j, rfl⟩; exact chk2_of_lt _ (hy j)
  sl_exec
  have hc : k1_chk2 (trip_run.sl.r_3 c i arg3 v11 hw k f3) := by
    refine hw3 _ ?_
    unfold trip_run.sl.r_3
    exact ⟨_, rfl⟩
  sl_exec
  sl_step
  iframe
  isplitl [H17]; · iexists _; iexact H17
  iexists _; isplitr; swap; · iexact H18
  ipureintro
  have hy3 : trip_run.sl.r_3 c i arg3 v11 hw k f3 = yword (arg3.view.read (Elt F) f3) (i 0).val k.val := by
    unfold trip_run.sl.r_3 yword
    rw [View.readAt_unit arg3.view f3 _ (off3_eq i v11 k) (fun a => by rw [← off3_eq i v11 k]; exact k1_off3_inb i v11 hw k a)]
    refine congrArg (arg3.view.read (Elt F) f3) (funext fun a => Fin.ext ?_)
    fin_cases a
    have hi : (i 0).val < 12 := (i 0).isLt
    show (i 0).val * 40 + min k.val 39 + 1 * 0 = ((i 0).val * 40 + min k.val 39) % 480
    omega
  have hP : View.readAt (Elt F) arg6.view (Rect.unit (s := S1x41x640) (k1_off2 v11 k) S1x1x640.size (k1_off2_inb i v11 hw k)).toLoadRect f6 = prow (arg6.view.read (Elt F) f6) k.val := by
    rw [View.readAt_unit arg6.view f6 _ (off2_eq v11 k) (fun a => by rw [← off2_eq v11 k]; exact k1_off2_inb i v11 hw k a)]
    funext z
    refine congrArg (arg6.view.read (Elt F) f6) (funext fun a => Fin.ext ?_)
    have hk := trip_lt v11 k
    fin_cases a
    · show 0 + 1 * (z 0).val = 0
      have : (z 0).val < 1 := (z 0).isLt
      omega
    · show k.val + 1 * (z 1).val = k.val % 41
      have : (z 1).val < 1 := (z 1).isLt
      omega
    · show 0 + 1 * (z 2).val = (z 2).val
      omega
  have hT : trip_run.sl.v112 c i arg3 arg5 arg6 arg14 arg15 arg16 arg17 v0 v11 hw k f3 f5 f6 f14 f15 f16 hc
      = trow (k1_pay17 (k1_pay45 v0) (arg5.view.read (Elt F) f5) (prow (arg6.view.read (Elt F) f6) k.val) (arg14.view.read (Elt F) f14)
          (arg15.view.read (Elt F) f15) (arg16.view.read (Elt F) f16)) (yword (arg3.view.read (Elt F) f3) (i 0).val k.val) := by
    unfold trip_run.sl.v112
    rw [hP, View.readAt_full arg5.view, View.readAt_full arg14.view, View.readAt_full arg15.view, View.readAt_full arg16.view]
    have hlt : (yword (arg3.view.read (Elt F) f3) (i 0).val k.val).toNat < 512 := hy _
    have ho : k1_off4 (trip_run.sl.r_3 c i arg3 v11 hw k f3) = ![(yword (arg3.view.read (Elt F) f3) (i 0).val k.val).toNat, 0] := by rw [hy3]; rfl
    rw [readAt_trow arg17.view _ _ hlt _ ho, View.read_writes_full]
  refine read_four_rows arg18.view f18 k.val _ _ _ _ (off5_eq v11 k) (off6_eq v11 k) (off7_eq v11 k) (off8_eq v11 k) _ _ _ _ _ _ _ _ _ ?_ ?_ ?_ ?_
  · intro l; unfold trip_run.sl.r_8 trip_run.sl.r rowVal
    rw [hP, View.readAt_full, View.readAt_full]
  · intro l; unfold trip_run.sl.r_6 trip_run.sl.arg19 trip_run.sl.r_7 trip_run.sl.r trip_run.sl.r_1 trip_run.sl.r_2 rowVal
    rw [hP, hT, View.readAt_full arg5.view, View.readAt_full arg14.view, View.readAt_full arg15.view, View.readAt_full arg16.view]
    try rfl
  · intro l; unfold trip_run.sl.r_4 trip_run.sl.r_1 trip_run.sl.r_2 rowVal
    rw [hP, View.readAt_full arg5.view, View.readAt_full arg14.view, View.readAt_full arg15.view, View.readAt_full arg16.view]
    try rfl
  · intro l; unfold trip_run.sl.r_5 trip_run.sl.r_6 trip_run.sl.arg19 rowVal
    rw [hT]
    try rfl

end Trip
end Cert.Kernel.Gen
end
-- ==== Proof.Kernel.Joint.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import proofs.«01_k».proof.Proof.Kernel.Words
public import proofs.«01_k».proof.Proof.Kernel.Trip

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop -/

/-- The output planes before trip `k`: the rows below `k` written, the others at zero. -/
def planes (R : Fin 4 → ℕ → Fin 128 → Elt F .f32) (k : ℕ) : Vec F S4x48x128 .f32 :=
  fun y => if (y 1).val < k then R (y 0) (y 1).val (y 2) else k1_pay44 (F := F) y

theorem planes_zero (R : Fin 4 → ℕ → Fin 128 → Elt F .f32) : planes R 0 = k1_pay44 (F := F) :=
  funext fun y => if_neg (Nat.not_lt_zero _)

theorem planes_succ (R : Fin 4 → ℕ → Fin 128 → Elt F .f32) (k : ℕ) : setRow (fun a l => R a k l) k (planes R k) = planes R (k + 1) := by
  funext y; unfold setRow planes
  by_cases h : (y 1).val = k
  · rw [if_pos h, if_pos (by omega), h]
  · rw [if_neg h]
    by_cases h' : (y 1).val < k
    · rw [if_pos h', if_pos (by omega)]
    · rw [if_neg h', if_neg (by omega)]

section Loop

variable (c : Dev nD) (i : grid1.Coords) (arg1 : Memref sig .tc .smem S12 .i32) (harg1 : arg1.IsWhole) (arg2 : Memref sig .tc .smem S12 .i32) (harg2 : arg2.IsWhole) (arg3 : Memref sig .tc .smem S480 .i32) (harg3 : arg3.IsWhole) (arg4 : Memref sig .tc .smem S1 .f32) (harg4 : arg4.IsWhole) (arg5 : Memref sig .tc .vmem S1x128x640 .f32) (harg5 : arg5.IsWhole) (arg6 : Memref sig .tc .vmem S1x41x640 .f32) (harg6 : arg6.IsWhole) (arg7 : Memref sig .tc .vmem S513x640 .i8) (harg7 : arg7.IsWhole) (arg8 : Memref sig .tc .vmem S1x513 .f32) (harg8 : arg8.IsWhole) (arg9 : Memref sig .tc .vmem S1x513 .f32) (harg9 : arg9.IsWhole) (arg10 : Memref sig .tc .vmem S1x128x41 .f32) (harg10 : arg10.IsWhole) (arg11 : Memref sig .tc .vmem S1x128x40 .f32) (harg11 : arg11.IsWhole) (arg12 : Memref sig .tc .vmem S1x128x41 .f32) (harg12 : arg12.IsWhole) (arg13 : Memref sig .tc .vmem S1x128x40 .f32) (harg13 : arg13.IsWhole) (arg14 : Memref sig .tc .vmem S528x640 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4x48x128 .f32) (harg18 : arg18.IsWhole)
  (v0 : Elt F .f32) (v4 : Vec F S1x1 .f32) (v6 : Vec F S1x1 .f32) (v9 : Elt F .i32) (v11 : Elt F .i32) (hw : k1_chk1 i v11) (v12 : IVec S1x128 32)

/-- Before trip `k`: the buffers that the trip reads at their contents, the table of label logits at anything, the planes at `planes … k`. -/
def invAt (f3 : Buf (Elt F) (arg3.view.loc (c : Thread nD τ))) (f5 : Buf (Elt F) (arg5.view.loc (c : Thread nD τ)))
    (f6 : Buf (Elt F) (arg6.view.loc (c : Thread nD τ))) (f14 : Buf (Elt F) (arg14.view.loc (c : Thread nD τ))) (f15 : Buf (Elt F) (arg15.view.loc (c : Thread nD τ)))
    (f16 : Buf (Elt F) (arg16.view.loc (c : Thread nD τ))) (k : ℕ) : sProp 𝕄 :=
  iprop(⌜∀ j, (arg3.view.read (Elt F) f3 j : BitVec 32).toNat < 512⌝ ∗ at3 c arg3 f3 ∗ at5 c arg5 f5 ∗ at6 c arg6 f6 ∗ at14 c arg14 f14 ∗ at15 c arg15 f15 ∗ at15 c arg16 f16
    ∗ (∃ g, at17 c arg17 g)
    ∗ (∃ g, ⌜arg18.view.read (Elt F) g = planes (fun a u l => rowVal (i 0).val (arg3.view.read (Elt F) f3) (arg5.view.read (Elt F) f5) (arg6.view.read (Elt F) f6)
        (arg14.view.read (Elt F) f14) (arg15.view.read (Elt F) f15) (arg16.view.read (Elt F) f16) v0 v4 v6 v9 v11 v12 a u l) k⌝ ∗ at18 c arg18 g))

/-- One trip takes the invariant to the next. -/
theorem inv_step (f3 : Buf (Elt F) (arg3.view.loc (c : Thread nD τ))) (f5 : Buf (Elt F) (arg5.view.loc (c : Thread nD τ)))
    (f6 : Buf (Elt F) (arg6.view.loc (c : Thread nD τ))) (f14 : Buf (Elt F) (arg14.view.loc (c : Thread nD τ))) (f15 : Buf (Elt F) (arg15.view.loc (c : Thread nD τ)))
    (f16 : Buf (Elt F) (arg16.view.loc (c : Thread nD τ))) (k : Fin (k1_t1_loop v11).trips) (acc : BitVec 32) :
    invAt c i arg3 arg5 arg6 arg14 arg15 arg16 arg17 arg18 v0 v4 v6 v9 v11 v12 f3 f5 f6 f14 f15 f16 k.val
      ⊢ wp frame (wpE (defs₀ (F := F)) Variants.none c none) Set.univ
          (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v0 v4 v6 v9 v11 hw v12 k acc)
          (fun _ => invAt c i arg3 arg5 arg6 arg14 arg15 arg16 arg17 arg18 v0 v4 v6 v9 v11 v12 f3 f5 f6 f14 f15 f16 (k.val + 1)) := by
  unfold invAt
  iintro ⟨%hy, H3, H5, H6, H14, H15, H16, H17, ⟨%g, %hg, H18⟩⟩
  iapply (wp_wand_r Idealize.ShloMosaic.frame (wpE (defs₀ (F := F)) Variants.none (c : Thread nD τ) none) Set.univ)
  isplitl [H3 H5 H6 H14 H15 H16 H17 H18]
  · iapply (trip_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v6 v9 v11 hw v12 k acc f3 f5 f6 f14 f15 f16 g hy)
    iframe
  · iintro %_ ⟨H3, H5, H6, H14, H15, H16, H17, ⟨%g', %hg', H18⟩⟩
    isplitr; · ipureintro; exact hy
    iframe
    iexists g'; isplitr; swap; · iexact H18
    ipureintro
    rw [hg', hg]; exact planes_succ _ _

end Loop

/-! ## The results of a grid point -/

/-- What a point's loop writes: row `u` of plane `a` of batch item `b`, from the blocks it is given and the three buffers the first point fills. -/
def jointR (b : Fin 12) (L U : Vec F S12 .i32) (Y : Vec F S480 .i32) (so : Vec F S1 .f32) (E : Vec F S1x128x640 .f32) (P : Vec F S1x41x640 .f32)
    (S B : Vec F S1x513 .f32) (W : Vec F S528x640 .bf16) (C D : Vec F S512x128 .f32) (a : Fin 4) (u : ℕ) (l : Fin 128) : Elt F .f32 :=
  rowVal b.val Y E P W C D (so (ix1 0)) (fun _ => S (ix2 0 (512 : Fin 513))) (fun _ => B (ix2 0 (512 : Fin 513))) (L (ix1 b)) (U (ix1 b))
    (iota .tc S1x128 32 [1] iota_S1x128_d1_w32) a u l

/-- One plane of the four. -/
def plane (X : Vec F S4x48x128 .f32) (a : Fin 4) : Vec F S1x48x128 .f32 := fun z => X (ix3 a (z 1) (z 2))

theorem readAt_plane (v : View sig .tc .vmem S4x48x128 .f32) (f : v.ty.Contents (Elt F)) (n : ℕ) (hn : n < 4)
    (inb : ∀ a, (![n, 0, 0] : Fin 3 → ℕ) a + S1x48x128.size a ≤ S4x48x128.size a) :
    v.readAt (Elt F) (Rect.unit (s := S4x48x128) ![n, 0, 0] S1x48x128.size inb).toLoadRect f = plane (v.read (Elt F) f) ⟨n, hn⟩ := by
  funext z
  refine congrArg (v.read (Elt F) f) (funext fun a => Fin.ext ?_)
  have hz : (z 0).val < 1 := (z 0).isLt
  fin_cases a
  · show n + 1 * (z 0).val = n
    omega
  · show 0 + 1 * (z 1).val = (z 1).val
    omega
  · show 0 + 1 * (z 2).val = (z 2).val
    omega

theorem readAt_corner (v : View sig .tc .vmem S1x513 .f32) (f : v.ty.Contents (Elt F))
    (inb : ∀ a, (![0, 512] : Fin 2 → ℕ) a + S1x1.size a ≤ S1x513.size a) :
    v.readAt (Elt F) (Rect.unit (s := S1x513) ![0, 512] S1x1.size inb).toLoadRect f = fun _ => v.read (Elt F) f (ix2 0 (512 : Fin 513)) := by
  funext z
  refine congrArg (v.read (Elt F) f) (funext fun a => Fin.ext ?_)
  have hz : (z 0).val < 1 := (z 0).isLt
  have hz1 : (z 1).val < 1 := (z 1).isLt
  fin_cases a
  · show 0 + 1 * (z 0).val = 0
    omega
  · show 512 + 1 * (z 1).val = 512
    omega

theorem readAt_item (v : View sig .tc .smem S12 .i32) (f : v.ty.Contents (Elt F)) (i : grid1.Coords)
    (inb : ∀ a, k1_off1 i a + S1.size a ≤ S12.size a) (z : (Rect.unit (s := S12) (k1_off1 i) S1.size inb).shape.Idx) :
    v.readAt (Elt F) (Rect.unit (s := S12) (k1_off1 i) S1.size inb).toLoadRect f z = v.read (Elt F) f (ix1 (i 0)) := by
  refine congrArg (v.read (Elt F) f) (funext fun a => Fin.ext ?_)
  have hi : (i 0).val < 12 := (i 0).isLt
  have hz : (z 0).val < 1 := (z 0).isLt
  fin_cases a
  show k1_off1 i 0 + 1 * (z 0).val = (i 0).val
  have : k1_off1 i 0 = (i 0).val := by
    show (BitVec.ofNat 32 (i 0).val).toNat = (i 0).val
    rw [BitVec.toNat_ofNat]; omega
  omega

theorem readAt_one (v : View sig .tc .smem S1 .f32) (f : v.ty.Contents (Elt F))
    (inb : ∀ a, (![0] : Fin 1 → ℕ) a + S1.size a ≤ S1.size a) (z : (Rect.unit (s := S1) ![0] S1.size inb).shape.Idx) :
    v.readAt (Elt F) (Rect.unit (s := S1) ![0] S1.size inb).toLoadRect f z = v.read (Elt F) f (ix1 0) := by
  refine congrArg (v.read (Elt F) f) (funext fun a => Fin.ext ?_)
  have hz : (z 0).val < 1 := (z 0).isLt
  fin_cases a
  show 0 + 1 * (z 0).val = 0
  omega

/-- The first shared buffer once filled: the weights' codes as bf16, rows 513 and on at zero. -/
def scrW (w : Vec F S513x640 .i8) : Vec F S528x640 .bf16 := fun y =>
  if (y 0).val < 512 then k1_pay6 (fun z => w (ix2 (Fin.ofNat 513 (z 0).val) (z 1))) (ix2 (Fin.ofNat 512 (y 0).val) (y 1))
  else if (y 0).val = 512 then k1_pay7 (fun z => w (ix2 (512 : Fin 513) (z 1))) (ix2 (0 : Fin 1) (y 1))
  else k1_pay5 (F := F) y

/-- 128 columns of a row of 513, from column `128 * q` on. -/
def seg (S : Vec F S1x513 .f32) (q : ℕ) : Vec F S1x128 .f32 := fun z => S (ix2 (0 : Fin 1) (Fin.ofNat 513 (128 * q + (z 1).val)))

/-- The second shared buffer once filled: the label scales, down the rows. -/
def scrC (v0 : Elt F .f32) (S : Vec F S1x513 .f32) : Vec F S512x128 .f32 := fun y =>
  k1_pay8 v0 (seg S ((y 0).val / 128)) (ix2 (Fin.ofNat 128 ((y 0).val % 128)) (y 1))

/-- The third shared buffer once filled: the label biases, down the rows. -/
def scrD (B : Vec F S1x513 .f32) : Vec F S512x128 .f32 := fun y =>
  k1_pay9 (seg B ((y 0).val / 128)) (ix2 (Fin.ofNat 128 ((y 0).val % 128)) (y 1))

theorem readAt_seg (v : View sig .tc .vmem S1x513 .f32) (f : v.ty.Contents (Elt F)) (q : ℕ) (hq : q < 4) (o : Fin 2 → ℕ) (ho : o = ![0, 128 * q])
    (inb : ∀ a, o a + S1x128.size a ≤ S1x513.size a) :
    v.readAt (Elt F) (Rect.unit (s := S1x513) o S1x128.size inb).toLoadRect f = seg (v.read (Elt F) f) q := by
  subst ho
  funext z
  refine congrArg (v.read (Elt F) f) (funext fun a => Fin.ext ?_)
  have hz : (z 0).val < 1 := (z 0).isLt
  have hz1 : (z 1).val < 128 := (z 1).isLt
  fin_cases a
  · show 0 + 1 * (z 0).val = 0
    omega
  · show 128 * q + 1 * (z 1).val = (128 * q + (z 1).val) % 513
    omega

/-- Four blocks of 128 rows, stored top to bottom, read back as one column of blocks. -/
theorem read_four_blocks (v : View sig .tc .vmem S512x128 .f32) (f : v.ty.Contents (Elt F)) (G : ℕ → Vec F S128x128 .f32)
    (b0 : ∀ a, (![0, 0] : Fin 2 → ℕ) a + S128x128.size a ≤ S512x128.size a) (b1 : ∀ a, (![128, 0] : Fin 2 → ℕ) a + S128x128.size a ≤ S512x128.size a)
    (b2 : ∀ a, (![256, 0] : Fin 2 → ℕ) a + S128x128.size a ≤ S512x128.size a) (b3 : ∀ a, (![384, 0] : Fin 2 → ℕ) a + S128x128.size a ≤ S512x128.size a) :
    v.read (Elt F) (v.writes (Elt F) f [⟨Rect.unit (s := S512x128) ![384, 0] S128x128.size b3, G 3⟩, ⟨Rect.unit (s := S512x128) ![256, 0] S128x128.size b2, G 2⟩,
        ⟨Rect.unit (s := S512x128) ![128, 0] S128x128.size b1, G 1⟩, ⟨Rect.unit (s := S512x128) ![0, 0] S128x128.size b0, G 0⟩])
      = fun y => G ((y 0).val / 128) (ix2 (Fin.ofNat 128 ((y 0).val % 128)) (y 1)) := by
  funext y
  have hy : (y 0).val < 512 := (y 0).isLt
  have key : ∀ q, (y 0).val / 128 = q → ∀ a : Fin 2, (y a).val = (![128 * q, 0] : Fin 2 → ℕ) a + ((ix2 (Fin.ofNat 128 ((y 0).val % 128)) (y 1) : S128x128.Idx) a).val := by
    intro q hq a
    fin_cases a
    · show (y 0).val = 128 * q + (y 0).val % 128 % 128
      omega
    · show (y 1).val = 0 + (y 1).val
      omega
  rcases (by omega : (y 0).val / 128 = 3 ∨ (y 0).val / 128 = 2 ∨ (y 0).val / 128 = 1 ∨ (y 0).val / 128 = 0) with h | h | h | h
  · rw [h]; exact View.read_writes_cons_unit_of_mem v f b3 _ _ _ _ rfl (key 3 h)
  · rw [h, View.read_writes_cons_unit_of_not_mem v f b3 _ _ y rfl 0 (Or.inl (by show (y 0).val < 384; omega))]
    exact View.read_writes_cons_unit_of_mem v f b2 _ _ _ _ rfl (key 2 h)
  · rw [h, View.read_writes_cons_unit_of_not_mem v f b3 _ _ y rfl 0 (Or.inl (by show (y 0).val < 384; omega)),
      View.read_writes_cons_unit_of_not_mem v f b2 _ _ y rfl 0 (Or.inl (by show (y 0).val < 256; omega))]
    exact View.read_writes_cons_unit_of_mem v f b1 _ _ _ _ rfl (key 1 h)
  · rw [h, View.read_writes_cons_unit_of_not_mem v f b3 _ _ y rfl 0 (Or.inl (by show (y 0).val < 384; omega)),
      View.read_writes_cons_unit_of_not_mem v f b2 _ _ y rfl 0 (Or.inl (by show (y 0).val < 256; omega)),
      View.read_writes_cons_unit_of_not_mem v f b1 _ _ y rfl 0 (Or.inl (by show (y 0).val < 128; omega))]
    exact View.read_writes_cons_unit_of_mem v f b0 _ _ _ _ rfl (key 0 h)

theorem pay10_eq (v0 : Elt F .f32) (s : Vec F S1x128 .f32) : k1_pay10 v0 s = k1_pay8 v0 s := rfl
theorem pay12_eq (v0 : Elt F .f32) (s : Vec F S1x128 .f32) : k1_pay12 v0 s = k1_pay8 v0 s := rfl
theorem pay40_eq (v0 : Elt F .f32) (s : Vec F S1x128 .f32) : k1_pay40 v0 s = k1_pay8 v0 s := rfl
theorem pay11_eq (s : Vec F S1x128 .f32) : k1_pay11 s = k1_pay9 s := rfl
theorem pay39_eq (s : Vec F S1x128 .f32) : k1_pay39 (k1_pay13 s) (k1_pay14 (F := F)) = k1_pay9 s := rfl
theorem pay41_eq (s : Vec F S1x128 .f32) : k1_pay41 s = k1_pay9 s := rfl

/-- Below the first 512 rows, the first two stores of the first shared buffer leave the zeros. -/
theorem read_two (v : View sig .tc .vmem S528x640 .bf16) (f : v.ty.Contents (Elt F)) (p0 : Vec F S528x640 .bf16) (p1 : Vec F S512x640 .bf16)
    (b0 : ∀ a, (![0, 0] : Fin 2 → ℕ) a + S528x640.size a ≤ S528x640.size a) (b1 : ∀ a, (![0, 0] : Fin 2 → ℕ) a + S512x640.size a ≤ S528x640.size a)
    (y : S528x640.Idx) (hy : 512 ≤ (y 0).val) :
    v.read (Elt F) (v.writes (Elt F) f [⟨Rect.unit (s := S528x640) ![0, 0] S512x640.size b1, p1⟩, ⟨Rect.unit (s := S528x640) ![0, 0] S528x640.size b0, p0⟩]) y = p0 y := by
  rw [View.read_writes_cons_unit_of_not_mem v f b1 _ _ y rfl 0 (Or.inr (by show 0 + 512 ≤ (y 0).val; omega))]
  exact congrFun (View.read_writes_full v f b0 p0 []) y

/-- The three stores that fill the first shared buffer. -/
theorem read_scrW (v : View sig .tc .vmem S528x640 .bf16) (f f' : v.ty.Contents (Elt F)) (m : View sig .tc .vmem S513x640 .i8) (f7 : m.ty.Contents (Elt F))
    (b0 : ∀ a, (![0, 0] : Fin 2 → ℕ) a + S528x640.size a ≤ S528x640.size a) (b1 : ∀ a, (![0, 0] : Fin 2 → ℕ) a + S512x640.size a ≤ S528x640.size a)
    (b2 : ∀ a, (![512, 0] : Fin 2 → ℕ) a + S2x640.size a ≤ S528x640.size a)
    (c1 : ∀ a, (![0, 0] : Fin 2 → ℕ) a + S512x640.size a ≤ S513x640.size a) (c2 : ∀ a, (![512, 0] : Fin 2 → ℕ) a + S1x640.size a ≤ S513x640.size a)
    (hs : S2x640.Slices ![0, 0] S1x640) :
    v.read (Elt F) (v.writes (Elt F) f [⟨Rect.unit (s := S528x640) ![512, 0] S2x640.size b2,
        updateSlice (s := S2x640) (v.readAt (Elt F) (Rect.unit (s := S528x640) ![512, 0] S2x640.size b2).toLoadRect
          (v.writes (Elt F) f' [⟨Rect.unit (s := S528x640) ![0, 0] S512x640.size b1,
            k1_pay6 (m.readAt (Elt F) (Rect.unit (s := S513x640) ![0, 0] S512x640.size c1).toLoadRect f7)⟩, ⟨Rect.unit (s := S528x640) ![0, 0] S528x640.size b0, k1_pay5 (F := F)⟩]))
          (k1_pay7 (m.readAt (Elt F) (Rect.unit (s := S513x640) ![512, 0] S1x640.size c2).toLoadRect f7)) ![0, 0] hs⟩,
        ⟨Rect.unit (s := S528x640) ![0, 0] S512x640.size b1, k1_pay6 (m.readAt (Elt F) (Rect.unit (s := S513x640) ![0, 0] S512x640.size c1).toLoadRect f7)⟩,
        ⟨Rect.unit (s := S528x640) ![0, 0] S528x640.size b0, k1_pay5 (F := F)⟩])
      = scrW (m.read (Elt F) f7) := by
  have e1 : m.readAt (Elt F) (Rect.unit (s := S513x640) ![0, 0] S512x640.size c1).toLoadRect f7
      = fun z => m.read (Elt F) f7 (ix2 (Fin.ofNat 513 (z 0).val) (z 1)) := by
    funext z
    refine congrArg (m.read (Elt F) f7) (funext fun a => Fin.ext ?_)
    have h0 : (z 0).val < 512 := (z 0).isLt
    fin_cases a
    · show 0 + 1 * (z 0).val = (z 0).val % 513
      omega
    · show 0 + 1 * (z 1).val = (z 1).val
      omega
  have e2 : m.readAt (Elt F) (Rect.unit (s := S513x640) ![512, 0] S1x640.size c2).toLoadRect f7
      = fun z => m.read (Elt F) f7 (ix2 (512 : Fin 513) (z 1)) := by
    funext z
    refine congrArg (m.read (Elt F) f7) (funext fun a => Fin.ext ?_)
    have h0 : (z 0).val < 1 := (z 0).isLt
    fin_cases a
    · show 512 + 1 * (z 0).val = 512
      omega
    · show 0 + 1 * (z 1).val = (z 1).val
      omega
  rw [e1, e2]
  funext y
  unfold scrW
  by_cases h1 : (y 0).val < 512
  · rw [if_pos h1, View.read_writes_cons_unit_of_not_mem v f b2 _ _ y rfl 0 (Or.inl h1)]
    refine View.read_writes_cons_unit_of_mem v f b1 _ _ y (ix2 (Fin.ofNat 512 (y 0).val) (y 1) : S512x640.Idx) rfl fun a => ?_
    fin_cases a
    · show (y 0).val = 0 + (y 0).val % 512
      omega
    · show (y 1).val = 0 + (y 1).val
      omega
  · rw [if_neg h1]
    by_cases h2 : (y 0).val = 512
    · rw [if_pos h2, View.read_writes_cons_unit_of_mem v f b2 _ _ y (ix2 (0 : Fin 2) (y 1) : S2x640.Idx) rfl (fun a => by
        fin_cases a
        · exact h2
        · exact (Nat.zero_add _).symm)]
      unfold updateSlice
      rw [dif_pos (fun a => by
        fin_cases a
        · exact ⟨le_refl 0, (by omega : (0 : ℕ) < 0 + 1)⟩
        · exact ⟨Nat.zero_le _, by show (y 1).val < 0 + 640; have : (y 1).val < 640 := (y 1).isLt; omega⟩)]
      refine congrArg _ (funext fun a => Fin.ext ?_)
      fin_cases a <;> rfl
    · rw [if_neg h2]
      by_cases h3 : (y 0).val = 513
      · rw [View.read_writes_cons_unit_of_mem v f b2 _ _ y (ix2 (1 : Fin 2) (y 1) : S2x640.Idx) rfl (fun a => by
          fin_cases a
          · exact h3
          · exact (Nat.zero_add _).symm)]
        unfold updateSlice
        rw [dif_neg (fun h => absurd (show (1 : ℕ) < 0 + 1 from (h 0).2) (by omega))]
        have hy : (Rect.unit (s := S528x640) ![512, 0] S2x640.size b2).emb (ix2 (1 : Fin 2) (y 1) : S2x640.Idx) = y := funext fun a => Fin.ext (by
          fin_cases a
          · show 512 + 1 * 1 = (y 0).val
            omega
          · show 0 + 1 * (y 1).val = (y 1).val
            omega)
        refine (read_two v f' _ _ b0 b1 _ ?_).trans (congrArg _ hy)
        show 512 ≤ 512 + 1 * 1
        omega
      · rw [View.read_writes_cons_unit_of_not_mem v f b2 _ _ y rfl 0 (Or.inr (by show 512 + 2 ≤ (y 0).val; omega))]
        exact read_two v f _ _ b0 b1 y (by omega)

section Body

variable (c : Dev nD) (i : grid1.Coords) (arg1 : Memref sig .tc .smem S12 .i32) (harg1 : arg1.IsWhole) (arg2 : Memref sig .tc .smem S12 .i32) (harg2 : arg2.IsWhole) (arg3 : Memref sig .tc .smem S480 .i32) (harg3 : arg3.IsWhole) (arg4 : Memref sig .tc .smem S1 .f32) (harg4 : arg4.IsWhole) (arg5 : Memref sig .tc .vmem S1x128x640 .f32) (harg5 : arg5.IsWhole) (arg6 : Memref sig .tc .vmem S1x41x640 .f32) (harg6 : arg6.IsWhole) (arg7 : Memref sig .tc .vmem S513x640 .i8) (harg7 : arg7.IsWhole) (arg8 : Memref sig .tc .vmem S1x513 .f32) (harg8 : arg8.IsWhole) (arg9 : Memref sig .tc .vmem S1x513 .f32) (harg9 : arg9.IsWhole) (arg10 : Memref sig .tc .vmem S1x128x41 .f32) (harg10 : arg10.IsWhole) (arg11 : Memref sig .tc .vmem S1x128x40 .f32) (harg11 : arg11.IsWhole) (arg12 : Memref sig .tc .vmem S1x128x41 .f32) (harg12 : arg12.IsWhole) (arg13 : Memref sig .tc .vmem S1x128x40 .f32) (harg13 : arg13.IsWhole) (arg14 : Memref sig .tc .vmem S528x640 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4x48x128 .f32) (harg18 : arg18.IsWhole)

abbrev atAny {sp : Space} {s : Shape} {e : EltTy} (c : Dev nD) (m : Memref sig .tc sp s e) (X : Vec F s e) : sProp 𝕄 :=
  iprop(∃ g, ⌜m.view.read (Elt F) g = X⌝ ∗ (m.view.loc (c : Thread nD τ) ↦[m.view.set]{fullShare} g))

set_option maxHeartbeats 2000000 in
/-- A point after the first: the three shared buffers as they are, the four blocks written. -/
theorem rest_run (hi : ¬ (Scalar.cmpi .ne (Scalar.extui (Scalar.cmpi .eq (BitVec.ofNat 32 (i 0).val) 0#32)) 0#32 : BitVec 1) = 1#1)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f14 : Buf (Elt F) (arg14.view.loc (c : Thread nD τ))) (f15 : Buf (Elt F) (arg15.view.loc (c : Thread nD τ)))
    (f16 : Buf (Elt F) (arg16.view.loc (c : Thread nD τ)))
    (hy : ∀ j, (arg3.view.read (Elt F) f3 j : BitVec 32).toNat < 512) (X : Vec F S4x48x128 .f32)
    (hX : X = planes (jointR (i 0) (arg1.view.read (Elt F) f1) (arg2.view.read (Elt F) f2) (arg3.view.read (Elt F) f3) (arg4.view.read (Elt F) f4)
      (arg5.view.read (Elt F) f5) (arg6.view.read (Elt F) f6) (arg8.view.read (Elt F) f8) (arg9.view.read (Elt F) f9)
      (arg14.view.read (Elt F) f14) (arg15.view.read (Elt F) f15) (arg16.view.read (Elt F) f16)) (nRows (arg2.view.read (Elt F) f2 (ix1 (i 0))))) :
    iprop((arg1.view.loc (c : Thread nD τ) ↦[arg1.view.set]{fullShare} f1) ∗ (arg2.view.loc (c : Thread nD τ) ↦[arg2.view.set]{fullShare} f2) ∗ at3 c arg3 f3
        ∗ (arg4.view.loc (c : Thread nD τ) ↦[arg4.view.set]{fullShare} f4) ∗ at5 c arg5 f5 ∗ at6 c arg6 f6
        ∗ (arg7.view.loc (c : Thread nD τ) ↦[arg7.view.set]{fullShare} f7)
        ∗ (arg8.view.loc (c : Thread nD τ) ↦[arg8.view.set]{fullShare} f8) ∗ (arg9.view.loc (c : Thread nD τ) ↦[arg9.view.set]{fullShare} f9)
        ∗ (∃ g, arg10.view.loc (c : Thread nD τ) ↦[arg10.view.set]{fullShare} g) ∗ (∃ g, arg11.view.loc (c : Thread nD τ) ↦[arg11.view.set]{fullShare} g)
        ∗ (∃ g, arg12.view.loc (c : Thread nD τ) ↦[arg12.view.set]{fullShare} g) ∗ (∃ g, arg13.view.loc (c : Thread nD τ) ↦[arg13.view.set]{fullShare} g)
        ∗ at14 c arg14 f14 ∗ at15 c arg15 f15 ∗ at15 c arg16 f16 ∗ (∃ g, at17 c arg17 g) ∗ (∃ g, at18 c arg18 g))
      ⊢ wp frame (wpE (defs₀ (F := F)) Variants.none c none) Set.univ (cc1_joint (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ =>
        iprop((arg1.view.loc (c : Thread nD τ) ↦[arg1.view.set]{fullShare} f1) ∗ (arg2.view.loc (c : Thread nD τ) ↦[arg2.view.set]{fullShare} f2) ∗ at3 c arg3 f3
          ∗ (arg4.view.loc (c : Thread nD τ) ↦[arg4.view.set]{fullShare} f4) ∗ at5 c arg5 f5 ∗ at6 c arg6 f6
          ∗ (arg7.view.loc (c : Thread nD τ) ↦[arg7.view.set]{fullShare} f7)
          ∗ (arg8.view.loc (c : Thread nD τ) ↦[arg8.view.set]{fullShare} f8) ∗ (arg9.view.loc (c : Thread nD τ) ↦[arg9.view.set]{fullShare} f9)
          ∗ atAny c arg10 (k1_pay1 (k1_pay54 (plane X 0))) ∗ atAny c arg11 (k1_pay2 (plane X 1)) ∗ atAny c arg12 (k1_pay3 (plane X 2)) ∗ atAny c arg13 (k1_pay4 (plane X 3))
          ∗ at14 c arg14 f14 ∗ at15 c arg15 f15 ∗ at15 c arg16 f16 ∗ (∃ g, at17 c arg17 g) ∗ (∃ g, at18 c arg18 g))) := by
  simp only [cc1_joint_eq_skeleton]; unfold cc1_joint_skel
  simp only [k1_part7_eq_skeleton]; unfold k1_part7_skel
  iintro ⟨H1, H2, H3, H4, H5, H6, H7, H8, H9, ⟨%g10, H10⟩, ⟨%g11, H11⟩, ⟨%g12, H12⟩, ⟨%g13, H13⟩, H14, H15, H16, ⟨%g17, H17⟩, ⟨%g18, H18⟩⟩
  sl_exec
  have hc := chk1_all i (rest_run.sl.r_2 c i arg2 f2)
  have htr := trips2_eq (rest_run.sl.r_2 c i arg2 f2)
  sl_exec
  ihave HI : (invAt c i arg3 arg5 arg6 arg14 arg15 arg16 arg17 arg18 (rest_run.sl.r c arg4 f4)
    (View.readAt (Elt F) arg8.view (Rect.unit (s := S1x513) ![0, 512] S1x1.size inb_S1x513_S1x1_0_512).toLoadRect f8)
    (View.readAt (Elt F) arg9.view (Rect.unit (s := S1x513) ![0, 512] S1x1.size inb_S1x513_S1x1_0_512).toLoadRect f9)
    (rest_run.sl.r_1 c i arg1 f1) (rest_run.sl.r_2 c i arg2 f2) rest_run.sl.v12 f3 f5 f6 f14 f15 f16 0) $$ [H3 H5 H6 H14 H15 H16 H17 H18]
  · unfold invAt
    isplitr; · ipureintro; exact hy
    iframe
    isplitl [H17]; · iexists _; iexact H17
    iexists _; isplitr; swap; · iexact H18
    ipureintro
    rw [planes_zero]
    exact View.read_writes_full arg18.view _ _ _ _
  rw [wp_bind]
  iapply (Scf.wp_for_bind _ _ _ _ _ _ _ _ _ (fun k _ => invAt c i arg3 arg5 arg6 arg14 arg15 arg16 arg17 arg18 (rest_run.sl.r c arg4 f4)
    (View.readAt (Elt F) arg8.view (Rect.unit (s := S1x513) ![0, 512] S1x1.size inb_S1x513_S1x1_0_512).toLoadRect f8)
    (View.readAt (Elt F) arg9.view (Rect.unit (s := S1x513) ![0, 512] S1x1.size inb_S1x513_S1x1_0_512).toLoadRect f9)
    (rest_run.sl.r_1 c i arg1 f1) (rest_run.sl.r_2 c i arg2 f2) rest_run.sl.v12 f3 f5 f6 f14 f15 f16 k)
    (fun k acc => inv_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ hc _ f3 f5 f6 f14 f15 f16 k acc)) $$ HI
  iintro %acc HI
  unfold invAt
  icases HI with ⟨%_, H3, H5, H6, H14, H15, H16, H17, ⟨%g, %hg, H18⟩⟩
  sl_exec
  sl_step
  have hgX : arg18.view.read (Elt F) g = X := by
    have e4 : rest_run.sl.r c arg4 f4 = arg4.view.read (Elt F) f4 (ix1 0) := readAt_one arg4.view f4 _ _
    have e1 : rest_run.sl.r_1 c i arg1 f1 = arg1.view.read (Elt F) f1 (ix1 (i 0)) := readAt_item arg1.view f1 i _ _
    have e2 : rest_run.sl.r_2 c i arg2 f2 = arg2.view.read (Elt F) f2 (ix1 (i 0)) := readAt_item arg2.view f2 i _ _
    rw [hg, hX, show Scf.trips (k1_t1_loop (rest_run.sl.r_2 c i arg2 f2)).lb (k1_t1_loop (rest_run.sl.r_2 c i arg2 f2)).ub
        (k1_t1_loop (rest_run.sl.r_2 c i arg2 f2)).st = _ from trips1_eq (rest_run.sl.r_2 c i arg2 f2), e1, e2, e4,
      readAt_corner arg8.view, readAt_corner arg9.view]
    rfl
  iframe
  isplitl [H10]
  · iexists _; isplitr; swap; · iexact H10
    ipureintro
    rw [View.read_writes_full]
    exact congrArg (fun x => k1_pay1 (k1_pay54 x)) ((readAt_plane arg18.view g 0 (by omega) _).trans (congrArg (plane · 0) hgX))
  isplitl [H11]
  · iexists _; isplitr; swap; · iexact H11
    ipureintro
    rw [View.read_writes_full]
    exact congrArg k1_pay2 ((readAt_plane arg18.view g 1 (by omega) _).trans (congrArg (plane · 1) hgX))
  isplitl [H12]
  · iexists _; isplitr; swap; · iexact H12
    ipureintro
    rw [View.read_writes_full]
    exact congrArg k1_pay3 ((readAt_plane arg18.view g 2 (by omega) _).trans (congrArg (plane · 2) hgX))
  isplitl [H13]
  · iexists _; isplitr; swap; · iexact H13
    ipureintro
    rw [View.read_writes_full]
    exact congrArg k1_pay4 ((readAt_plane arg18.view g 3 (by omega) _).trans (congrArg (plane · 3) hgX))
  iexists g; iexact H18

set_option maxHeartbeats 2000000 in
/-- The first point: the three shared buffers filled, the four blocks written. -/
theorem first_run (hi : (Scalar.cmpi .ne (Scalar.extui (Scalar.cmpi .eq (BitVec.ofNat 32 (i 0).val) 0#32)) 0#32 : BitVec 1) = 1#1)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (hy : ∀ j, (arg3.view.read (Elt F) f3 j : BitVec 32).toNat < 512) (X : Vec F S4x48x128 .f32)
    (hX : X = planes (jointR (i 0) (arg1.view.read (Elt F) f1) (arg2.view.read (Elt F) f2) (arg3.view.read (Elt F) f3) (arg4.view.read (Elt F) f4)
      (arg5.view.read (Elt F) f5) (arg6.view.read (Elt F) f6) (arg8.view.read (Elt F) f8) (arg9.view.read (Elt F) f9)
      (scrW (arg7.view.read (Elt F) f7))
      (scrC (arg4.view.read (Elt F) f4 (ix1 0)) (arg8.view.read (Elt F) f8)) (scrD (arg9.view.read (Elt F) f9))) (nRows (arg2.view.read (Elt F) f2 (ix1 (i 0))))) :
    iprop((arg1.view.loc (c : Thread nD τ) ↦[arg1.view.set]{fullShare} f1) ∗ (arg2.view.loc (c : Thread nD τ) ↦[arg2.view.set]{fullShare} f2) ∗ at3 c arg3 f3
        ∗ (arg4.view.loc (c : Thread nD τ) ↦[arg4.view.set]{fullShare} f4) ∗ at5 c arg5 f5 ∗ at6 c arg6 f6
        ∗ (arg7.view.loc (c : Thread nD τ) ↦[arg7.view.set]{fullShare} f7)
        ∗ (arg8.view.loc (c : Thread nD τ) ↦[arg8.view.set]{fullShare} f8) ∗ (arg9.view.loc (c : Thread nD τ) ↦[arg9.view.set]{fullShare} f9)
        ∗ (∃ g, arg10.view.loc (c : Thread nD τ) ↦[arg10.view.set]{fullShare} g) ∗ (∃ g, arg11.view.loc (c : Thread nD τ) ↦[arg11.view.set]{fullShare} g)
        ∗ (∃ g, arg12.view.loc (c : Thread nD τ) ↦[arg12.view.set]{fullShare} g) ∗ (∃ g, arg13.view.loc (c : Thread nD τ) ↦[arg13.view.set]{fullShare} g)
        ∗ (∃ g, at14 c arg14 g) ∗ (∃ g, at15 c arg15 g) ∗ (∃ g, at15 c arg16 g) ∗ (∃ g, at17 c arg17 g) ∗ (∃ g, at18 c arg18 g))
      ⊢ wp frame (wpE (defs₀ (F := F)) Variants.none c none) Set.univ (cc1_joint (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ =>
        iprop((arg1.view.loc (c : Thread nD τ) ↦[arg1.view.set]{fullShare} f1) ∗ (arg2.view.loc (c : Thread nD τ) ↦[arg2.view.set]{fullShare} f2) ∗ at3 c arg3 f3
          ∗ (arg4.view.loc (c : Thread nD τ) ↦[arg4.view.set]{fullShare} f4) ∗ at5 c arg5 f5 ∗ at6 c arg6 f6
          ∗ (arg7.view.loc (c : Thread nD τ) ↦[arg7.view.set]{fullShare} f7)
          ∗ (arg8.view.loc (c : Thread nD τ) ↦[arg8.view.set]{fullShare} f8) ∗ (arg9.view.loc (c : Thread nD τ) ↦[arg9.view.set]{fullShare} f9)
          ∗ atAny c arg10 (k1_pay1 (k1_pay54 (plane X 0))) ∗ atAny c arg11 (k1_pay2 (plane X 1)) ∗ atAny c arg12 (k1_pay3 (plane X 2)) ∗ atAny c arg13 (k1_pay4 (plane X 3))
          ∗ atAny c arg14 (scrW (arg7.view.read (Elt F) f7)) ∗ atAny c arg15 (scrC (arg4.view.read (Elt F) f4 (ix1 0)) (arg8.view.read (Elt F) f8))
          ∗ atAny c arg16 (scrD (arg9.view.read (Elt F) f9)) ∗ (∃ g, at17 c arg17 g) ∗ (∃ g, at18 c arg18 g))) := by
  simp only [cc1_joint_eq_skeleton]; unfold cc1_joint_skel
  simp only [k1_part7_eq_skeleton]; unfold k1_part7_skel
  simp only [k1_part1_eq_skeleton, k1_part2_eq_skeleton]; unfold k1_part1_skel k1_part2_skel
  iintro ⟨H1, H2, H3, H4, H5, H6, H7, H8, H9, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩⟩
  sl_exec
  ihave H14' : iprop(∃ g, ⌜arg14.view.read (Elt F) g = scrW (arg7.view.read (Elt F) f7)⌝ ∗ at14 c arg14 g) $$ [H14]
  · iexists _; isplitr; swap; · iexact H14
    ipureintro
    exact read_scrW arg14.view g14 _ arg7.view f7 _ _ _ _ _ _
  ihave H15' : iprop(∃ g, ⌜arg15.view.read (Elt F) g = scrC (arg4.view.read (Elt F) f4 (ix1 0)) (arg8.view.read (Elt F) f8)⌝ ∗ at15 c arg15 g) $$ [H15]
  · iexists _; isplitr; swap; · iexact H15
    ipureintro
    have e4 : first_run.sl.r c arg4 f4 = arg4.view.read (Elt F) f4 (ix1 0) := readAt_one arg4.view f4 _ _
    rw [e4, readAt_seg arg8.view f8 3 (by omega) ![0, 384] rfl, readAt_seg arg8.view f8 2 (by omega) ![0, 256] rfl,
      readAt_seg arg8.view f8 1 (by omega) ![0, 128] rfl, readAt_seg arg8.view f8 0 (by omega) ![0, 0] rfl]
    simp only [pay10_eq, pay12_eq, pay40_eq]
    exact read_four_blocks arg15.view g15 (fun q => k1_pay8 (arg4.view.read (Elt F) f4 (ix1 0)) (seg (arg8.view.read (Elt F) f8) q)) _ _ _ _
  ihave H16' : iprop(∃ g, ⌜arg16.view.read (Elt F) g = scrD (arg9.view.read (Elt F) f9)⌝ ∗ at15 c arg16 g) $$ [H16]
  · iexists _; isplitr; swap; · iexact H16
    ipureintro
    rw [readAt_seg arg9.view f9 3 (by omega) ![0, 384] rfl, readAt_seg arg9.view f9 2 (by omega) ![0, 256] rfl,
      readAt_seg arg9.view f9 1 (by omega) ![0, 128] rfl, readAt_seg arg9.view f9 0 (by omega) ![0, 0] rfl]
    simp only [pay11_eq, pay39_eq, pay41_eq]
    exact read_four_blocks arg16.view g16 (fun q => k1_pay9 (seg (arg9.view.read (Elt F) f9) q)) _ _ _ _
  icases H14' with ⟨%f14, %h14, H14⟩
  icases H15' with ⟨%f15, %h15, H15⟩
  icases H16' with ⟨%f16, %h16, H16⟩
  rw [← h14, ← h15, ← h16] at hX
  have hc := chk1_all i (first_run.sl.r_2 c i arg2 f2)
  have htr := trips2_eq (first_run.sl.r_2 c i arg2 f2)
  sl_exec
  ihave HI : (invAt c i arg3 arg5 arg6 arg14 arg15 arg16 arg17 arg18 (first_run.sl.r c arg4 f4)
    (View.readAt (Elt F) arg8.view (Rect.unit (s := S1x513) ![0, 512] S1x1.size inb_S1x513_S1x1_0_512).toLoadRect f8)
    (View.readAt (Elt F) arg9.view (Rect.unit (s := S1x513) ![0, 512] S1x1.size inb_S1x513_S1x1_0_512).toLoadRect f9)
    (first_run.sl.r_1 c i arg1 f1) (first_run.sl.r_2 c i arg2 f2) (iota .tc S1x128 32 [1] iota_S1x128_d1_w32) f3 f5 f6 f14 f15 f16 0) $$ [H3 H5 H6 H14 H15 H16 H17 H18]
  · unfold invAt
    isplitr; · ipureintro; exact hy
    iframe
    isplitl [H17]; · iexists _; iexact H17
    iexists _; isplitr; swap; · iexact H18
    ipureintro
    rw [planes_zero]
    exact View.read_writes_full arg18.view _ _ _ _
  rw [wp_bind]
  iapply (Scf.wp_for_bind _ _ _ _ _ _ _ _ _ (fun k _ => invAt c i arg3 arg5 arg6 arg14 arg15 arg16 arg17 arg18 (first_run.sl.r c arg4 f4)
    (View.readAt (Elt F) arg8.view (Rect.unit (s := S1x513) ![0, 512] S1x1.size inb_S1x513_S1x1_0_512).toLoadRect f8)
    (View.readAt (Elt F) arg9.view (Rect.unit (s := S1x513) ![0, 512] S1x1.size inb_S1x513_S1x1_0_512).toLoadRect f9)
    (first_run.sl.r_1 c i arg1 f1) (first_run.sl.r_2 c i arg2 f2) (iota .tc S1x128 32 [1] iota_S1x128_d1_w32) f3 f5 f6 f14 f15 f16 k)
    (fun k acc => inv_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ hc _ f3 f5 f6 f14 f15 f16 k acc)) $$ HI
  iintro %acc HI
  unfold invAt
  icases HI with ⟨%_, H3, H5, H6, H14, H15, H16, H17, ⟨%g, %hg, H18⟩⟩
  sl_exec
  sl_step
  have hgX : arg18.view.read (Elt F) g = X := by
    have e4 : first_run.sl.r c arg4 f4 = arg4.view.read (Elt F) f4 (ix1 0) := readAt_one arg4.view f4 _ _
    have e1 : first_run.sl.r_1 c i arg1 f1 = arg1.view.read (Elt F) f1 (ix1 (i 0)) := readAt_item arg1.view f1 i _ _
    have e2 : first_run.sl.r_2 c i arg2 f2 = arg2.view.read (Elt F) f2 (ix1 (i 0)) := readAt_item arg2.view f2 i _ _
    rw [hg, hX, show Scf.trips (k1_t1_loop (first_run.sl.r_2 c i arg2 f2)).lb (k1_t1_loop (first_run.sl.r_2 c i arg2 f2)).ub
        (k1_t1_loop (first_run.sl.r_2 c i arg2 f2)).st = _ from trips1_eq (first_run.sl.r_2 c i arg2 f2), e1, e2, e4,
      readAt_corner arg8.view, readAt_corner arg9.view]
    rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro
    rw [View.read_writes_full]
    exact congrArg (fun x => k1_pay1 (k1_pay54 x)) ((readAt_plane arg18.view g 0 (by omega) _).trans (congrArg (plane · 0) hgX))
  isplitl [H11]
  · iexists _; isplitr; swap; · iexact H11
    ipureintro
    rw [View.read_writes_full]
    exact congrArg k1_pay2 ((readAt_plane arg18.view g 1 (by omega) _).trans (congrArg (plane · 1) hgX))
  isplitl [H12]
  · iexists _; isplitr; swap; · iexact H12
    ipureintro
    rw [View.read_writes_full]
    exact congrArg k1_pay3 ((readAt_plane arg18.view g 2 (by omega) _).trans (congrArg (plane · 2) hgX))
  isplitl [H13]
  · iexists _; isplitr; swap; · iexact H13
    ipureintro
    rw [View.read_writes_full]
    exact congrArg k1_pay4 ((readAt_plane arg18.view g 3 (by omega) _).trans (congrArg (plane · 3) hgX))
  isplitl [H14]
  · iexists f14; isplitr; swap; · iexact H14
    ipureintro; exact h14
  isplitl [H15]
  · iexists f15; isplitr; swap; · iexact H15
    ipureintro; exact h15
  isplitl [H16]
  · iexists f16; isplitr; swap; · iexact H16
    ipureintro; exact h16
  isplitl [H17]; · iexact H17
  iexists g; iexact H18

end Body
end Cert.Kernel.Gen
end
-- ==== Proof.Kernel.Region1.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import proofs.«01_k».proof.Proof.Kernel.Words
public import proofs.«01_k».proof.Proof.Kernel.Trip
public import proofs.«01_k».proof.Proof.Kernel.Joint

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body of the second call, on whole memrefs -/

/-- The words of the comparison that guards the first point's fills. -/
theorem guard_iff (n : Fin 12) :
    (Scalar.cmpi .ne (Scalar.extui (Scalar.cmpi .eq (BitVec.ofNat 32 n.val) 0#32)) 0#32 : BitVec 1) = 1#1 ↔ n.val = 0 := by
  revert n; decide

section Body

variable (c : Dev nD) (i : grid1.Coords) (arg1 : Memref sig .tc .smem S12 .i32) (harg1 : arg1.IsWhole) (arg2 : Memref sig .tc .smem S12 .i32) (harg2 : arg2.IsWhole) (arg3 : Memref sig .tc .smem S480 .i32) (harg3 : arg3.IsWhole) (arg4 : Memref sig .tc .smem S1 .f32) (harg4 : arg4.IsWhole) (arg5 : Memref sig .tc .vmem S1x128x640 .f32) (harg5 : arg5.IsWhole) (arg6 : Memref sig .tc .vmem S1x41x640 .f32) (harg6 : arg6.IsWhole) (arg7 : Memref sig .tc .vmem S513x640 .i8) (harg7 : arg7.IsWhole) (arg8 : Memref sig .tc .vmem S1x513 .f32) (harg8 : arg8.IsWhole) (arg9 : Memref sig .tc .vmem S1x513 .f32) (harg9 : arg9.IsWhole) (arg10 : Memref sig .tc .vmem S1x128x41 .f32) (harg10 : arg10.IsWhole) (arg11 : Memref sig .tc .vmem S1x128x40 .f32) (harg11 : arg11.IsWhole) (arg12 : Memref sig .tc .vmem S1x128x41 .f32) (harg12 : arg12.IsWhole) (arg13 : Memref sig .tc .vmem S1x128x40 .f32) (harg13 : arg13.IsWhole) (arg14 : Memref sig .tc .vmem S528x640 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4x48x128 .f32) (harg18 : arg18.IsWhole)

/-- The five scratch buffers before point `n`: the first three at anything before the first point, then at the values it fills them with. -/
def scr (c : Dev nD) (arg14 : Memref sig .tc .vmem S528x640 .bf16) (arg15 arg16 arg17 : Memref sig .tc .vmem S512x128 .f32) (arg18 : Memref sig .tc .vmem S4x48x128 .f32)
    (W : Vec F S528x640 .bf16) (C D : Vec F S512x128 .f32) (n : ℕ) : sProp 𝕄 :=
  iprop((∃ g, ⌜n ≠ 0 → arg14.view.read (Elt F) g = W⌝ ∗ at14 c arg14 g) ∗ (∃ g, ⌜n ≠ 0 → arg15.view.read (Elt F) g = C⌝ ∗ at15 c arg15 g)
    ∗ (∃ g, ⌜n ≠ 0 → arg16.view.read (Elt F) g = D⌝ ∗ at15 c arg16 g) ∗ (∃ g, at17 c arg17 g) ∗ (∃ g, at18 c arg18 g))

/-- The four planes after a point, from its input blocks. -/
def jointX (b : Fin 12) (x0 x1 : Vec F S12 .i32) (x2 : Vec F S480 .i32) (x3 : Vec F S1 .f32) (x4 : Vec F S1x128x640 .f32) (x5 : Vec F S1x41x640 .f32)
    (x6 : Vec F S513x640 .i8) (x7 x8 : Vec F S1x513 .f32) : Vec F S4x48x128 .f32 :=
  planes (jointR b x0 x1 x2 x3 x4 x5 x7 x8 (scrW x6) (scrC (x3 (ix1 0)) x7) (scrD x8)) (nRows (x1 (ix1 b)))

/-- The body at a point: the input blocks kept, the four output blocks at the planes' transposes, the scratch buffers at their next state. -/
theorem sound_kernel1 (x0 x1 : Vec F S12 .i32) (x2 : Vec F S480 .i32) (x3 : Vec F S1 .f32) (x4 : Vec F S1x128x640 .f32) (x5 : Vec F S1x41x640 .f32)
    (x6 : Vec F S513x640 .i8) (x7 x8 : Vec F S1x513 .f32) (hy : ∀ j, (x2 j : BitVec 32).toNat < 512) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ scr c arg14 arg15 arg16 arg17 arg18 (scrW x6) (scrC (x3 (ix1 0)) x7) (scrD x8) (i 0).val
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare (k1_pay1 (k1_pay54 (plane (jointX (i 0) x0 x1 x2 x3 x4 x5 x6 x7 x8) 0)))
        ∗ owns (c : Thread nD τ) arg11 fullShare (k1_pay2 (plane (jointX (i 0) x0 x1 x2 x3 x4 x5 x6 x7 x8) 1))
        ∗ owns (c : Thread nD τ) arg12 fullShare (k1_pay3 (plane (jointX (i 0) x0 x1 x2 x3 x4 x5 x6 x7 x8) 2))
        ∗ owns (c : Thread nD τ) arg13 fullShare (k1_pay4 (plane (jointX (i 0) x0 x1 x2 x3 x4 x5 x6 x7 x8) 3))
        ∗ scr c arg14 arg15 arg16 arg17 arg18 (scrW x6) (scrC (x3 (ix1 0)) x7) (scrD x8) ((i 0).val + 1)) -∗ K ⟨⟩))
      ⊢ wp frame (wpE (defs₀ (F := F)) Variants.none c none) Set.univ (cc1_joint (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns scr
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩,
    ⟨%d10, %f10, -, H10⟩, ⟨%d11, %f11, -, H11⟩, ⟨%d12, %f12, -, H12⟩, ⟨%d13, %f13, -, H13⟩,
    ⟨⟨%f14, %h14, H14⟩, ⟨%f15, %h15, H15⟩, ⟨%f16, %h16, H16⟩, H17, H18⟩, Hk⟩
  subst h1 h2 h3 h4 h5 h6 h7 h8 h9
  by_cases hi : (i 0).val = 0
  · iapply (wp_wand_r Idealize.ShloMosaic.frame (wpE (defs₀ (F := F)) Variants.none (c : Thread nD τ) none) Set.univ)
    isplitl [H1 H2 H3 H4 H5 H6 H7 H8 H9 H10 H11 H12 H13 H14 H15 H16 H17 H18]
    · iapply (first_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ((guard_iff (i 0)).mpr hi) f1 f2 f3 f4 f5 f6 f7 f8 f9 hy _ rfl)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists f10; iexact H10
      isplitl [H11]; · iexists f11; iexact H11
      isplitl [H12]; · iexists f12; iexact H12
      isplitl [H13]; · iexists f13; iexact H13
      isplitl [H14]; · iexists f14; iexact H14
      isplitl [H15]; · iexists f15; iexact H15
      isplitl [H16]; · iexists f16; iexact H16
      isplitl [H17]; · iexact H17
      iexact H18
    iintro %_ ⟨H1, H2, H3, H4, H5, H6, H7, H8, H9, H10, H11, H12, H13, ⟨%g14, %e14, H14⟩, ⟨%g15, %e15, H15⟩, ⟨%g16, %e16, H16⟩, H17, H18⟩
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    isplitl [H10]; · iexact H10
    isplitl [H11]; · iexact H11
    isplitl [H12]; · iexact H12
    isplitl [H13]; · iexact H13
    isplitl [H14]; · iexists g14; isplitr; · ipureintro; exact fun _ => e14
                     iexact H14
    isplitl [H15]; · iexists g15; isplitr; · ipureintro; exact fun _ => e15
                     iexact H15
    isplitl [H16]; · iexists g16; isplitr; · ipureintro; exact fun _ => e16
                     iexact H16
    isplitl [H17]; · iexact H17
    iexact H18
  · iapply (wp_wand_r Idealize.ShloMosaic.frame (wpE (defs₀ (F := F)) Variants.none (c : Thread nD τ) none) Set.univ)
    isplitl [H1 H2 H3 H4 H5 H6 H7 H8 H9 H10 H11 H12 H13 H14 H15 H16 H17 H18]
    · iapply (rest_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => hi ((guard_iff (i 0)).mp h)) f1 f2 f3 f4 f5 f6 f7 f8 f9 f14 f15 f16 hy
        (jointX (i 0) (arg1.view.read (Elt F) f1) (arg2.view.read (Elt F) f2) (arg3.view.read (Elt F) f3) (arg4.view.read (Elt F) f4)
          (arg5.view.read (Elt F) f5) (arg6.view.read (Elt F) f6) (arg7.view.read (Elt F) f7) (arg8.view.read (Elt F) f8) (arg9.view.read (Elt F) f9))
        (by unfold jointX; rw [h14 hi, h15 hi, h16 hi]))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists f10; iexact H10
      isplitl [H11]; · iexists f11; iexact H11
      isplitl [H12]; · iexists f12; iexact H12
      isplitl [H13]; · iexists f13; iexact H13
      isplitl [H14]; · iexact H14
      isplitl [H15]; · iexact H15
      isplitl [H16]; · iexact H16
      isplitl [H17]; · iexact H17
      iexact H18
    iintro %_ ⟨H1, H2, H3, H4, H5, H6, H7, H8, H9, H10, H11, H12, H13, H14, H15, H16, H17, H18⟩
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    isplitl [H10]; · iexact H10
    isplitl [H11]; · iexact H11
    isplitl [H12]; · iexact H12
    isplitl [H13]; · iexact H13
    isplitl [H14]; · iexists f14; isplitr; · ipureintro; exact fun _ => h14 hi
                     iexact H14
    isplitl [H15]; · iexists f15; isplitr; · ipureintro; exact fun _ => h15 hi
                     iexact H15
    isplitl [H16]; · iexists f16; isplitr; · ipureintro; exact fun _ => h16 hi
                     iexact H16
    isplitl [H17]; · iexact H17
    iexact H18

end Body

/-! ## The proof data of the second call -/

section Regions

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The first point. -/
abbrev t1z : Fin cfg1.N := t1_0

theorem iblk1_3_const (c : Dev nD) (t : Fin cfg1.N) : iblk1 V c 3 t = iblk1 V c 3 t1z := rfl
theorem iblk1_6_const (c : Dev nD) (t : Fin cfg1.N) : iblk1 V c 6 t = iblk1 V c 6 t1z := rfl
theorem iblk1_7_const (c : Dev nD) (t : Fin cfg1.N) : iblk1 V c 7 t = iblk1 V c 7 t1z := rfl
theorem iblk1_8_const (c : Dev nD) (t : Fin cfg1.N) : iblk1 V c 8 t = iblk1 V c 8 t1z := rfl

/-- The planes after point `t`. -/
def X1 (c : Dev nD) (t : Fin cfg1.N) : Vec F S4x48x128 .f32 :=
  jointX (grid1.coords t 0) (iblk1 V c 0 t) (iblk1 V c 1 t) (iblk1 V c 2 t) (iblk1 V c 3 t) (iblk1 V c 4 t) (iblk1 V c 5 t) (iblk1 V c 6 t) (iblk1 V c 7 t) (iblk1 V c 8 t)

/-- The call's scratch buffers before point `n`. -/
abbrev scr1 (c : Dev nD) (n : ℕ) : sProp 𝕄 :=
  scr c (Memref.whole cc1_scratch0) (Memref.whole cc1_scratch1) (Memref.whole cc1_scratch2) (Memref.whole cc1_scratch3) (Memref.whole cc1_scratch4)
    (scrW (iblk1 V c 6 t1z)) (scrC ((iblk1 V c 3 t1z : Vec F S1 .f32) (ix1 0)) (iblk1 V c 7 t1z)) (scrD (iblk1 V c 8 t1z)) n

/-- The invariant before point `n`: the scratch buffers, the other scoped buffers and the generator register. -/
def Φ1 (c : Dev nD) (n : ℕ) : sProp 𝕄 :=
  iprop(scr1 V c n ∗ Pipeline.scopedRestBut (Ix := Unit) (Name := ℕ) (U := UR sig nD τ) (Lvl := ℕ) (Val := Elt F) spec1 c [cc1_scratch0, cc1_scratch1, cc1_scratch2, cc1_scratch3, cc1_scratch4]
    ∗ ∃ r, prngReg c r)

/-- The scratch buffers before the first point, whatever they hold, -/
theorem scr_in (c : Dev nD) (arg14 : Memref sig .tc .vmem S528x640 .bf16) (arg15 arg16 arg17 : Memref sig .tc .vmem S512x128 .f32) (arg18 : Memref sig .tc .vmem S4x48x128 .f32)
    (W : Vec F S528x640 .bf16) (C D : Vec F S512x128 .f32) :
    iprop((∃ g, at14 c arg14 g) ∗ (∃ g, at15 c arg15 g) ∗ (∃ g, at15 c arg16 g) ∗ (∃ g, at17 c arg17 g) ∗ (∃ g, at18 c arg18 g)) ⊢ scr c arg14 arg15 arg16 arg17 arg18 W C D 0 := by
  unfold scr
  iintro ⟨⟨%g0, H0⟩, ⟨%g1, H1⟩, ⟨%g2, H2⟩, H3, H4⟩
  isplitl [H0]; · iexists g0; isplitr; · ipureintro; exact fun h => absurd rfl h
                  iexact H0
  isplitl [H1]; · iexists g1; isplitr; · ipureintro; exact fun h => absurd rfl h
                  iexact H1
  isplitl [H2]; · iexists g2; isplitr; · ipureintro; exact fun h => absurd rfl h
                  iexact H2
  isplitl [H3]; · iexact H3
  iexact H4

/-- and after the last, forgetting what they hold. -/
theorem scr_out (c : Dev nD) (arg14 : Memref sig .tc .vmem S528x640 .bf16) (arg15 arg16 arg17 : Memref sig .tc .vmem S512x128 .f32) (arg18 : Memref sig .tc .vmem S4x48x128 .f32)
    (W : Vec F S528x640 .bf16) (C D : Vec F S512x128 .f32) (n : ℕ) :
    scr c arg14 arg15 arg16 arg17 arg18 W C D n ⊢ iprop((∃ g, at14 c arg14 g) ∗ (∃ g, at15 c arg15 g) ∗ (∃ g, at15 c arg16 g) ∗ (∃ g, at17 c arg17 g) ∗ (∃ g, at18 c arg18 g)) := by
  unfold scr
  iintro ⟨⟨%g0, -, H0⟩, ⟨%g1, -, H1⟩, ⟨%g2, -, H2⟩, H3, H4⟩
  isplitl [H0]; · iexists g0; iexact H0
  isplitl [H1]; · iexists g1; iexact H1
  isplitl [H2]; · iexists g2; iexact H2
  isplitl [H3]; · iexact H3
  iexact H4

/-- A buffer owned whole is its whole memref's cells. -/
theorem whole_cells (c : Dev nD) (b : Ref sig .tc) :
    iprop(∃ f, (c : Thread nD τ).loc b ↦{fullShare} f : sProp 𝕄) = iprop(∃ g, (Memref.whole b).view.loc (c : Thread nD τ) ↦[(Memref.whole b).view.set]{fullShare} g) := by
  simp only [Memref.view_whole, View.set_whole]

/-- Regrouping three conjuncts, the first weakened. -/
theorem regroup {P Q R S : sProp 𝕄} (h : P ⊢ Q) : iprop(P ∗ R ∗ S) ⊢ iprop((Q ∗ R) ∗ S) := by
  iintro ⟨H, Hr, Hp⟩
  ihave H := h $$ H
  isplitr [Hp]
  · isplitl [H]; · iexact H
    iexact Hr
  iexact Hp

/-- Regrouping three conjuncts the other way, the first weakened. -/
theorem regroup' {P Q R S : sProp 𝕄} (h : P ⊢ Q) : iprop((P ∗ R) ∗ S) ⊢ iprop(Q ∗ R ∗ S) := by
  iintro ⟨⟨H, Hr⟩, Hp⟩
  ihave H := h $$ H
  isplitl [H]; · iexact H
  isplitl [Hr]; · iexact Hr
  iexact Hp

/-- Into the invariant at the region's entry, -/
theorem Φ1_in (c : Dev nD) : iprop(Pipeline.scopedRest (Ix := Unit) (Name := ℕ) (U := UR sig nD τ) (Lvl := ℕ) (Val := Elt F) spec1 c ∗ ∃ r, prngReg c r) ⊢ Φ1 V c 0 := by
  unfold Φ1 scr1
  rw [scopedRest1_split, whole_cells c cc1_scratch0, whole_cells c cc1_scratch1, whole_cells c cc1_scratch2, whole_cells c cc1_scratch3, whole_cells c cc1_scratch4]
  exact regroup' (scr_in c (Memref.whole cc1_scratch0) (Memref.whole cc1_scratch1) (Memref.whole cc1_scratch2) (Memref.whole cc1_scratch3) (Memref.whole cc1_scratch4) _ _ _)

/-- and out of it at the exit. -/
theorem Φ1_out (c : Dev nD) (n : ℕ) : Φ1 V c n ⊢ iprop(Pipeline.scopedRest (Ix := Unit) (Name := ℕ) (U := UR sig nD τ) (Lvl := ℕ) (Val := Elt F) spec1 c ∗ ∃ r, prngReg c r) := by
  unfold Φ1 scr1
  rw [scopedRest1_split, whole_cells c cc1_scratch0, whole_cells c cc1_scratch1, whole_cells c cc1_scratch2, whole_cells c cc1_scratch3, whole_cells c cc1_scratch4]
  exact regroup (scr_out c (Memref.whole cc1_scratch0) (Memref.whole cc1_scratch1) (Memref.whole cc1_scratch2) (Memref.whole cc1_scratch3) (Memref.whole cc1_scratch4) _ _ _ n)

/-- The proof data of the second call on core `c`: the arrays as the region finds them; after the body at point `t` each input's
    buffer at its block and each output's at the transposed plane; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay1 (k1_pay54 (plane (X1 V c t) 0))
    | ⟨10, _⟩ => k1_pay2 (plane (X1 V c t) 1)
    | ⟨11, _⟩ => k1_pay3 (plane (X1 V c t) 2)
    | ⟨12, _⟩ => k1_pay4 (plane (X1 V c t) 3)
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = k1_pay1 (k1_pay54 (plane (X1 V c t) 0)) := by dsimp only [dat1]
theorem after1_10 (c : Dev nD) (t : Fin cfg1.N) : (dat1 V c).after 10 t = k1_pay2 (plane (X1 V c t) 1) := by dsimp only [dat1]
theorem after1_11 (c : Dev nD) (t : Fin cfg1.N) : (dat1 V c).after 11 t = k1_pay3 (plane (X1 V c t) 2) := by dsimp only [dat1]
theorem after1_12 (c : Dev nD) (t : Fin cfg1.N) : (dat1 V c).after 12 t = k1_pay4 (plane (X1 V c t) 3) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The coordinate of a point is its number. -/
theorem coords1 (t : Fin cfg1.N) : (grid1.coords t 0).val = t.val := by
  revert t; decide

/-- The body at any point, from the region's entry contents: the words of the label table below 512. -/
theorem sound_body1 (hy : ∀ (c : Dev nD) (t : Fin cfg1.N) j, ((iblk1 V c 2 t : Vec F S480 .i32) j : BitVec 32).toNat < 512) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = Φ1 V c (t.val + 1) from rfl, show (dat1 V c).Φ t.castSucc = Φ1 V c t.val from rfl,
    show (dat1 V c).owesAt () t.succ = (dat1 V c).owesAt () t.castSucc from rfl, after1_0, after1_1, after1_2, after1_3, after1_4, after1_5, after1_6, after1_7, after1_8, after1_9, after1_10, after1_11, after1_12, ← coords1 t]
  unfold Φ1
  iintro ⟨⟨Hs, Hr, Hp⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩⟩
  iapply (sound_kernel1 c (grid1.coords t) _ _ _ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (hy c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [Hs]; · iexact Hs
  iintro ⟨H0, H1, H2, H3, H4, H5, H6, H7, H8, H9, H10, H11, H12, Hs⟩
  isplitl [Hs Hr Hp]
  · isplitl [Hs]; · iexact Hs
    isplitl [Hr]; · iexact Hr
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (hy : ∀ (c : Dev nD) (t : Fin cfg1.N) j, ((iblk1 V c 2 t : Vec F S480 .i32) j : BitVec 32).toNat < 512) (c : Dev nD) :
    BodyObligation (dat1 (F := F) V c) (defs₀ (F := F)) Variants.none () Set.univ := fun t => by
  rw [bigSep_W1, bigSep_W1, defs₀_row1]
  exact triple_restated (sound_body1 V hy c t) rfl .rfl fun _ => .rfl

end Regions

end Cert.Kernel.Gen
end
-- ==== Proof.Kernel.Run.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import proofs.«01_k».proof.Proof.Kernel.Region0
public import proofs.«01_k».proof.Proof.Kernel.Region1

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5, main_v6, main_v7, main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)

/-- The label words as the second call finds them are below 512. -/
abbrev LabelWords : Prop := ∀ (c : Dev nD) (t : Fin cfg1.N) j, ((iblk1 (V3 m ρ) c 2 t : Vec F S480 .i32) j : BitVec 32).toNat < 512

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 (hy : LabelWords m ρ) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) hy c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V3 m ρ) c 0 from rfl]
    iintro ⟨Hp, -, Hr⟩
    iapply (Φ1_in (V3 m ρ) c)
    isplitl [Hr]; · iexact Hr
    iexact Hp
  hout c := by
    rw [Pipeline.ownSems0_none, show (pdats m ρ 1 c).Φ (Fin.last _) = Φ1 (V3 m ρ) c 12 from rfl]
    iintro H
    ihave H := (Φ1_out (V3 m ρ) c 12) $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs (hy : LabelWords m ρ) : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ hy),
    .host (hseg hostOps2 hostOps2_sub hostOps2_fresh (W4 m ρ)) ]
/-- @main IS the run of the segments: `Gen.main_chain`, then the segments' run against that chain by the kernel's
    definitional check (`chain_rfl`). -/
theorem main_run (hy : LabelWords m ρ) (c : Dev nD) : main (F := F) c = Pipeline.Seg.run (segs m ρ hy) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters whose label words are below 512, every weakly fair execution of @main on
    the TensorCores terminates, nothing faulting, with every unscoped buffer at the last boundary's contents `W5` and every
    semaphore counter at zero. -/
theorem run (hy : LabelWords m ρ) : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ hy)
    (fun c Q => by rw [main_run m ρ hy c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the argument arrays end as launched and every counter at zero. -/
theorem frame (hy : LabelWords m ρ) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c),
       (h.1 c _ (mem_uc main_arg7 (by decide))).trans (W5_main_arg7 m ρ c),
       (h.1 c _ (mem_uc main_arg8 (by decide))).trans (W5_main_arg8 m ρ c),
       (h.1 c _ (mem_uc main_arg9 (by decide))).trans (W5_main_arg9 m ρ c),
       (h.1 c _ (mem_uc main_arg10 (by decide))).trans (W5_main_arg10 m ρ c),
       (h.1 c _ (mem_uc main_arg11 (by decide))).trans (W5_main_arg11 m ρ c),
       (h.1 c _ (mem_uc main_arg12 (by decide))).trans (W5_main_arg12 m ρ c),
       (h.1 c _ (mem_uc main_arg13 (by decide))).trans (W5_main_arg13 m ρ c),
       (h.1 c _ (mem_uc main_arg14 (by decide))).trans (W5_main_arg14 m ρ c)⟩, h.2⟩) (run m ρ hy)

end Cert.Kernel.Gen
end
-- ==== Proof.Kernel.LabelWords.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import Idealize.ShloMosaic.Lib.Claim
public import proofs.«01_k».proof.Proof.Kernel.Run

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The label words at the second call -/

variable (m : (ℓ : Loc nD τ sig) → Buf (Elt F) ℓ) (ρ : Dev nD → PrngReg)

/-- The label words as the second call finds them: the label argument, its two axes read as one. -/
theorem V3_main_v7 (c : Dev nD) : V3 m ρ c main_v7 = shapeCast S480 (m ((c : Thread nD τ).loc main_arg12) : Vec F S12x40 .i32) shapeCasts_S12x40_S480 := by
  have h : V3 m ρ c main_v7 = shapeCast S480 (W2 m ρ c (Proc.devRef .tc main_arg12) : Vec F S12x40 .i32) shapeCasts_S12x40_S480 := by
    unfold_abbrev_sides
    after_results
    rfl
  rw [h, W2_args m ρ c main_arg12 (by decide)]

/-- With every label below 512 they are so. -/
theorem labelWords (h : ∀ (c : Dev nD) i, ((m ((c : Thread nD τ).loc main_arg12) : Vec F S12x40 .i32) i : BitVec 32).toNat < 512) : LabelWords m ρ := by
  intro c t j
  show ((V3 m ρ c main_v7 : Vec F S480 .i32) (((cfg1.win 2).blk t).view.emb j) : BitVec 32).toNat < 512
  rw [V3_main_v7]
  exact h c _

end Cert.Kernel.Gen
end
-- ==== Proof.KernelIdeal.Region0.lean ====
/- The first call, `project`: the values that its six output windows hold after the body, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_project` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x128x512 := Rect.unit (s := S1x128x512) ![0, 0, 0] S1x128x512.size inb_S1x128x512_S1x128x512_0_0_0
abbrev r0_1 : Rect S1x1x128 := Rect.unit (s := S1x1x128) ![0, 0, 0] S1x1x128.size inb_S1x1x128_S1x1x128_0_0_0
abbrev r0_2 : Rect S512x640 := Rect.unit (s := S512x640) ![0, 0] S512x640.size inb_S512x640_S512x640_0_0
abbrev r0_3 : Rect S1x640 := Rect.unit (s := S1x640) ![0, 0] S1x640.size inb_S1x640_S1x640_0_0
abbrev r0_4 : Rect S1x128x640 := Rect.unit (s := S1x128x640) ![0, 0, 0] S1x128x640.size inb_S1x128x640_S1x128x640_0_0_0
abbrev r0_5 : Rect S1x41x320 := Rect.unit (s := S1x41x320) ![0, 0, 0] S1x41x320.size inb_S1x41x320_S1x41x320_0_0_0
abbrev r0_6 : Rect S1x1x41 := Rect.unit (s := S1x1x41) ![0, 0, 0] S1x1x41.size inb_S1x1x41_S1x1x41_0_0_0
abbrev r0_7 : Rect S320x640 := Rect.unit (s := S320x640) ![0, 0] S320x640.size inb_S320x640_S320x640_0_0
abbrev r0_8 : Rect S1x41x640 := Rect.unit (s := S1x41x640) ![0, 0, 0] S1x41x640.size inb_S1x41x640_S1x41x640_0_0_0

/-! ## What the body leaves in each output window's buffer -/

/-- Window 8's staging buffer after the body, from the input windows' blocks: its 1 store as pieces, LAST
    FIRST (Lib/Pipeline/FrameBody.lean `View.canon`; the payloads are the skeleton's). -/
def out0_8 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x128x640 .f32 :=
  View.canon [⟨r0_4, k0_pay9 (k0_pay8 (View.ld x0 r0_0) (View.ld x2 r0_2)) (View.ld x3 r0_3) (View.ld x4 r0_3)⟩]

/-- Its stores tile the buffer (checked by evaluation), so they cover it. -/
theorem cover0_8 (p0 : Vec F S1x128x640 .f32) (y : S1x128x640.Idx) :
    ∃ pc ∈ ([⟨r0_4, p0⟩] : List (View.Piece (Elt F) S1x128x640 .f32)), y ∈ pc.1.set :=
  View.cover_of_tiled [⟨r0_4, p0⟩] S1x128x640.size (by rfl) y

/-- Window 9's staging buffer after the body, from the input windows' blocks: its 1 store as pieces, LAST
    FIRST (Lib/Pipeline/FrameBody.lean `View.canon`; the payloads are the skeleton's). -/
def out0_9 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x41x640 .f32 :=
  View.canon [⟨r0_8, k0_pay2 (k0_pay11 (View.ld x1 r0_5)) (k0_pay12 (View.ld x1 r0_5)) (View.ld x5 r0_7) (View.ld x6 r0_3) (View.ld x7 r0_3)⟩]

/-- Its stores tile the buffer (checked by evaluation), so they cover it. -/
theorem cover0_9 (p0 : Vec F S1x41x640 .f32) (y : S1x41x640.Idx) :
    ∃ pc ∈ ([⟨r0_8, p0⟩] : List (View.Piece (Elt F) S1x41x640 .f32)), y ∈ pc.1.set :=
  View.cover_of_tiled [⟨r0_8, p0⟩] S1x41x640.size (by rfl) y

/-- Window 10's staging buffer after the body, from the input windows' blocks: its 1 store as pieces, LAST
    FIRST (Lib/Pipeline/FrameBody.lean `View.canon`; the payloads are the skeleton's). -/
def out0_10 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x128x512 .i8 :=
  View.canon [⟨r0_0, k0_pay6 (View.ld x0 r0_0)⟩]

/-- Its stores tile the buffer (checked by evaluation), so they cover it. -/
theorem cover0_10 (p0 : Vec F S1x128x512 .i8) (y : S1x128x512.Idx) :
    ∃ pc ∈ ([⟨r0_0, p0⟩] : List (View.Piece (Elt F) S1x128x512 .i8)), y ∈ pc.1.set :=
  View.cover_of_tiled [⟨r0_0, p0⟩] S1x128x512.size (by rfl) y

/-- Window 11's staging buffer after the body, from the input windows' blocks: its 1 store as pieces, LAST
    FIRST (Lib/Pipeline/FrameBody.lean `View.canon`; the payloads are the skeleton's). -/
def out0_11 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x1x128 .f32 :=
  View.canon [⟨r0_1, k0_pay7 (View.ld x0 r0_0)⟩]

/-- Its stores tile the buffer (checked by evaluation), so they cover it. -/
theorem cover0_11 (p0 : Vec F S1x1x128 .f32) (y : S1x1x128.Idx) :
    ∃ pc ∈ ([⟨r0_1, p0⟩] : List (View.Piece (Elt F) S1x1x128 .f32)), y ∈ pc.1.set :=
  View.cover_of_tiled [⟨r0_1, p0⟩] S1x1x128.size (by rfl) y

/-- Window 12's staging buffer after the body, from the input windows' blocks: its 1 store as pieces, LAST
    FIRST (Lib/Pipeline/FrameBody.lean `View.canon`; the payloads are the skeleton's). -/
def out0_12 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x41x320 .i8 :=
  View.canon [⟨r0_5, k0_pay13 (View.ld x1 r0_5)⟩]

/-- Its stores tile the buffer (checked by evaluation), so they cover it. -/
theorem cover0_12 (p0 : Vec F S1x41x320 .i8) (y : S1x41x320.Idx) :
    ∃ pc ∈ ([⟨r0_5, p0⟩] : List (View.Piece (Elt F) S1x41x320 .i8)), y ∈ pc.1.set :=
  View.cover_of_tiled [⟨r0_5, p0⟩] S1x41x320.size (by rfl) y

/-- Window 13's staging buffer after the body, from the input windows' blocks: its 1 store as pieces, LAST
    FIRST (Lib/Pipeline/FrameBody.lean `View.canon`; the payloads are the skeleton's). -/
def out0_13 (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) : Vec F S1x1x41 .f32 :=
  View.canon [⟨r0_6, k0_pay1 (k0_pay14 (View.ld x1 r0_5))⟩]

/-- Its stores tile the buffer (checked by evaluation), so they cover it. -/
theorem cover0_13 (p0 : Vec F S1x1x41 .f32) (y : S1x1x41.Idx) :
    ∃ pc ∈ ([⟨r0_6, p0⟩] : List (View.Piece (Elt F) S1x1x41 .f32)), y ∈ pc.1.set :=
  View.cover_of_tiled [⟨r0_6, p0⟩] S1x1x41.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x128x512 .bf16) (harg1 : arg1.IsWhole) (arg2 : Memref sig .tc .vmem S1x41x320 .bf16) (harg2 : arg2.IsWhole) (arg3 : Memref sig .tc .vmem S512x640 .i8) (harg3 : arg3.IsWhole) (arg4 : Memref sig .tc .vmem S1x640 .f32) (harg4 : arg4.IsWhole) (arg5 : Memref sig .tc .vmem S1x640 .f32) (harg5 : arg5.IsWhole) (arg6 : Memref sig .tc .vmem S320x640 .i8) (harg6 : arg6.IsWhole) (arg7 : Memref sig .tc .vmem S1x640 .f32) (harg7 : arg7.IsWhole) (arg8 : Memref sig .tc .vmem S1x640 .f32) (harg8 : arg8.IsWhole) (arg9 : Memref sig .tc .vmem S1x128x640 .f32) (harg9 : arg9.IsWhole) (arg10 : Memref sig .tc .vmem S1x41x640 .f32) (harg10 : arg10.IsWhole) (arg11 : Memref sig .tc .vmem S1x128x512 .i8) (harg11 : arg11.IsWhole) (arg12 : Memref sig .tc .vmem S1x1x128 .f32) (harg12 : arg12.IsWhole) (arg13 : Memref sig .tc .vmem S1x41x320 .i8) (harg13 : arg13.IsWhole) (arg14 : Memref sig .tc .vmem S1x1x41 .f32) (harg14 : arg14.IsWhole)
    (x0 : Vec F S1x128x512 .bf16) (x1 : Vec F S1x41x320 .bf16) (x2 : Vec F S512x640 .i8) (x3 : Vec F S1x640 .f32) (x4 : Vec F S1x640 .f32) (x5 : Vec F S320x640 .i8) (x6 : Vec F S1x640 .f32) (x7 : Vec F S1x640 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7) ∗ owns (c : Thread nD τ) arg13 fullShare (out0_12 x0 x1 x2 x3 x4 x5 x6 x7) ∗ owns (c : Thread nD τ) arg14 fullShare (out0_13 x0 x1 x2 x3 x4 x5 x6 x7)) -∗ K ⟨⟩))
      ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_project_eq_skeleton]; unfold cc0_project_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions
end Cert.KernelIdeal.Gen
end
-- ==== Proof.KernelIdeal.Words.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The second call's counted loop: its trips, and the offsets that a trip computes

The main loop runs `min 40 (max 0 u) + 1` trips, `u` the word `ulen[b]` read signed; the printed remainder loop runs
none. Every offset of a trip is within its buffer, whatever the word is. -/

/-- The clipped word is one of 41. -/
theorem clip_word (v : BitVec 32) : ∃ n : Fin 41, Scalar.minsi 40#32 (Scalar.maxsi 0#32 v) = BitVec.ofNat 32 n.val
    ∧ (n.val : Int) = min 40 (max 0 v.toInt) := by
  have hm : (Scalar.maxsi 0#32 v).toInt = max 0 v.toInt := by
    simp only [Scalar.maxsi, IntOp.maxsi]; split <;> rename_i h <;> simp [BitVec.slt, BitVec.sle] at h ⊢ <;> omega
  have hw : (Scalar.minsi 40#32 (Scalar.maxsi 0#32 v)).toInt = min 40 (max 0 v.toInt) := by
    rw [← hm]
    simp only [Scalar.minsi, IntOp.minsi]; split <;> rename_i h <;> simp [BitVec.slt, BitVec.sle] at h ⊢ <;> omega
  generalize Scalar.minsi 40#32 (Scalar.maxsi 0#32 v) = w at hw
  have hc := BitVec.toInt_eq_toNat_cond w
  have hn : w.toNat < 41 ∧ (w.toNat : Int) = w.toInt := by split at hc <;> omega
  exact ⟨⟨w.toNat, hn.1⟩, by simp, by rw [hn.2, hw]⟩

/-- The number of rows that the loop computes for the word `v`. -/
def nRows (v : BitVec 32) : ℕ := (min 40 (max 0 v.toInt)).toNat + 1

theorem nRows_le (v : BitVec 32) : nRows v ≤ 41 := by unfold nRows; omega

theorem trips1_lit : ∀ n : Fin 41, Scf.trips 0#32 (Scalar.addi 0#32 (Scalar.muli (Scalar.divsi (Scalar.subi (Scalar.addi (BitVec.ofNat 32 n.val) 1#32) 0#32) 1#32) 1#32)) 1#32 = n.val + 1 := by
  decide
theorem trips2_lit : ∀ n : Fin 41, Scf.trips (Scalar.addi 0#32 (Scalar.muli (Scalar.divsi (Scalar.subi (Scalar.addi (BitVec.ofNat 32 n.val) 1#32) 0#32) 1#32) 1#32))
    (Scalar.addi 0#32 (Scalar.subi (Scalar.addi (BitVec.ofNat 32 n.val) 1#32) 0#32)) 1#32 = 0 := by
  decide

/-- The main loop's trip count. -/
theorem trips1_eq (v : BitVec 32) : (k1_t1_loop v).trips = nRows v := by
  obtain ⟨n, hn, he⟩ := clip_word v
  show Scf.trips 0#32 (Scalar.addi 0#32 (Scalar.muli (Scalar.divsi (Scalar.subi (Scalar.addi (Scalar.minsi 40#32 (Scalar.maxsi 0#32 v)) 1#32) 0#32) 1#32) 1#32)) 1#32 = _
  rw [hn, trips1_lit n]; unfold nRows; omega
/-- The remainder loop runs no trip. -/
theorem trips2_eq (v : BitVec 32) : (k1_t2_loop v).trips = 0 := by
  obtain ⟨n, hn, he⟩ := clip_word v
  show Scf.trips (Scalar.addi 0#32 (Scalar.muli (Scalar.divsi (Scalar.subi (Scalar.addi (Scalar.minsi 40#32 (Scalar.maxsi 0#32 v)) 1#32) 0#32) 1#32) 1#32))
    (Scalar.addi 0#32 (Scalar.subi (Scalar.addi (Scalar.minsi 40#32 (Scalar.maxsi 0#32 v)) 1#32) 0#32)) 1#32 = _
  rw [hn, trips2_lit n]

theorem trip_lt (v : BitVec 32) (k : Fin (k1_t1_loop v).trips) : k.val < 41 :=
  lt_of_lt_of_le k.isLt (by rw [trips1_eq]; exact nRows_le v)

theorem iv_lit : ∀ k : Fin 41, (Scalar.indexCast (Scf.iv 0#32 1#32 k.val)).toNat = k.val := by decide
theorem yoff_lit : ∀ (i : Fin 12) (k : Fin 41),
    (Scalar.indexCast (Scalar.addi (Scalar.muli (BitVec.ofNat 32 i.val) 40#32) (Scalar.minsi (Scf.iv 0#32 1#32 k.val) 39#32))).toNat = i.val * 40 + min k.val 39 := by decide

theorem off2_eq (v : BitVec 32) (k : Fin (k1_t1_loop v).trips) : k1_off2 v k = ![0, k.val, 0] := by
  show (![0, (Scalar.indexCast (Scf.iv 0#32 1#32 k.val)).toNat, 0] : Fin 3 → Nat) = _
  rw [iv_lit ⟨k.val, trip_lt v k⟩]
theorem off5_eq (v : BitVec 32) (k : Fin (k1_t1_loop v).trips) : k1_off5 v k = ![0, k.val, 0] := by
  show (![0, (Scalar.indexCast (Scf.iv 0#32 1#32 k.val)).toNat, 0] : Fin 3 → Nat) = _
  rw [iv_lit ⟨k.val, trip_lt v k⟩]
theorem off6_eq (v : BitVec 32) (k : Fin (k1_t1_loop v).trips) : k1_off6 v k = ![1, k.val, 0] := by
  show (![1, (Scalar.indexCast (Scf.iv 0#32 1#32 k.val)).toNat, 0] : Fin 3 → Nat) = _
  rw [iv_lit ⟨k.val, trip_lt v k⟩]
theorem off7_eq (v : BitVec 32) (k : Fin (k1_t1_loop v).trips) : k1_off7 v k = ![2, k.val, 0] := by
  show (![2, (Scalar.indexCast (Scf.iv 0#32 1#32 k.val)).toNat, 0] : Fin 3 → Nat) = _
  rw [iv_lit ⟨k.val, trip_lt v k⟩]
theorem off8_eq (v : BitVec 32) (k : Fin (k1_t1_loop v).trips) : k1_off8 v k = ![3, k.val, 0] := by
  show (![3, (Scalar.indexCast (Scf.iv 0#32 1#32 k.val)).toNat, 0] : Fin 3 → Nat) = _
  rw [iv_lit ⟨k.val, trip_lt v k⟩]
theorem off3_eq (i : grid1.Coords) (v : BitVec 32) (k : Fin (k1_t1_loop v).trips) : k1_off3 i v k = ![(i 0).val * 40 + min k.val 39] := by
  show (![_] : Fin 1 → Nat) = _
  rw [show Scalar.indexCast (Scalar.addi (Scalar.muli (BitVec.ofNat 32 (i 0).val) 40#32) (Scalar.minsi (Scf.iv 0#32 1#32 k.val) 39#32)) = _ from rfl, yoff_lit (i 0) ⟨k.val, trip_lt v k⟩]

theorem ok1_lit : ∀ n : Fin 41, (⟨0#32, Scalar.addi 0#32 (Scalar.muli (Scalar.divsi (Scalar.subi (Scalar.addi (BitVec.ofNat 32 n.val) 1#32) 0#32) 1#32) 1#32), 1#32⟩ : Scf.Loop 32).OK := by
  decide
theorem ok2_lit : ∀ n : Fin 41, (⟨Scalar.addi 0#32 (Scalar.muli (Scalar.divsi (Scalar.subi (Scalar.addi (BitVec.ofNat 32 n.val) 1#32) 0#32) 1#32) 1#32),
    Scalar.addi 0#32 (Scalar.subi (Scalar.addi (BitVec.ofNat 32 n.val) 1#32) 0#32), 1#32⟩ : Scf.Loop 32).OK := by
  decide
theorem ok1 (v : BitVec 32) : (k1_t1_loop v).OK := by
  obtain ⟨n, hn, -⟩ := clip_word v
  show (⟨0#32, Scalar.addi 0#32 (Scalar.muli (Scalar.divsi (Scalar.subi (Scalar.addi (Scalar.minsi 40#32 (Scalar.maxsi 0#32 v)) 1#32) 0#32) 1#32) 1#32), 1#32⟩ : Scf.Loop 32).OK
  rw [hn]; exact ok1_lit n
theorem ok2 (v : BitVec 32) : (k1_t2_loop v).OK := by
  obtain ⟨n, hn, -⟩ := clip_word v
  show (⟨Scalar.addi 0#32 (Scalar.muli (Scalar.divsi (Scalar.subi (Scalar.addi (Scalar.minsi 40#32 (Scalar.maxsi 0#32 v)) 1#32) 0#32) 1#32) 1#32),
    Scalar.addi 0#32 (Scalar.subi (Scalar.addi (Scalar.minsi 40#32 (Scalar.maxsi 0#32 v)) 1#32) 0#32), 1#32⟩ : Scf.Loop 32).OK
  rw [hn]; exact ok2_lit n

theorem inb3 {x y z a b c A B C : ℕ} (h0 : x + a ≤ A) (h1 : y + b ≤ B) (h2 : z + c ≤ C) :
    ∀ j : Fin 3, (![x, y, z] : Fin 3 → ℕ) j + (![a, b, c] : Fin 3 → ℕ) j ≤ (![A, B, C] : Fin 3 → ℕ) j := by
  intro j; fin_cases j; exacts [h0, h1, h2]

/-- The side condition of the loaded word holds of every word. -/
theorem chk1_all (i : grid1.Coords) (v : BitVec 32) : k1_chk1 i v := by
  have no : ∀ {P : Fin (k1_t2_loop v).trips → Prop}, ∀ k, P k := fun k => (Nat.not_lt_zero _ (lt_of_lt_of_eq k.isLt (trips2_eq v))).elim
  refine ⟨ok1 v, fun k => ?_, fun k => ?_, fun k => ?_, fun k => ?_, fun k => ?_, fun k => ?_, ok2 v, no, no, no, no, no, no⟩
  all_goals have hk := trip_lt v k
  · rw [off2_eq]; exact inb3 (by omega) (by omega) (by omega)
  · rw [off3_eq]; have hi : (i 0).val < 12 := (i 0).isLt
    intro a; fin_cases a; show (i 0).val * 40 + min k.val 39 + 1 ≤ 480; omega
  · rw [off5_eq]; exact inb3 (by omega) (by omega) (by omega)
  · rw [off6_eq]; exact inb3 (by omega) (by omega) (by omega)
  · rw [off7_eq]; exact inb3 (by omega) (by omega) (by omega)
  · rw [off8_eq]; exact inb3 (by omega) (by omega) (by omega)

/-- The side condition of a label word: a word below 512. -/
theorem chk2_of_lt (w : BitVec 32) (h : w.toNat < 512) : k1_chk2 w := by
  unfold k1_chk2 k1_off4; intro a; fin_cases a
  · show (Scalar.indexCast w).toNat + 1 ≤ 512
    have : (Scalar.indexCast w).toNat = w.toNat := rfl
    omega
  · show 0 + 128 ≤ 128; omega

end Cert.KernelIdeal.Gen
end
-- ==== Proof.KernelIdeal.Trip.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import proofs.«01_k».proof.Proof.KernelIdeal.Words

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one trip writes -/

/-- Row `u` of the prediction projection's block. -/
def prow (P : Vec F S1x41x640 .f32) (u : ℕ) : Vec F S1x1x640 .f32 := fun z => P (ix3 0 (Fin.ofNat 41 u) (z 2))
/-- The row of a table of 512 rows that a word names. -/
def trow (T : Vec F S512x128 .f32) (w : BitVec 32) : Vec F S1x128 .f32 := fun z => T (ix2 (Fin.ofNat 512 w.toNat) (z 1))
/-- The label word of row `b` at step `u`: the last label is read again at the step past the labels. -/
def yword (Y : Vec F S480 .i32) (b u : ℕ) : BitVec 32 := Y (ix1 (Fin.ofNat 480 (b * 40 + min u 39)))
/-- The factor from a natural logarithm to a binary one. -/
def jcst : F .f32 := Named.named κ "log2e" 0x3FB8AA3B#32

/-- What trip `u` writes at lane `l` of row `u` of output plane `a`, from the buffers' contents: `Y` the labels, `E` the
    encoder projection's block, `P` the prediction projection's, `W` the widened weights, `C` and `D` the label classes'
    factors and offsets. -/
def rowVal (b : ℕ) (Y : Vec F S480 .i32) (E : Vec F S1x128x640 .f32) (P : Vec F S1x41x640 .f32) (W : Vec F S528x640 .bf16) (C D : Vec F S512x128 .f32)
    (v0 : Elt F .f32) (v4 v6 : Vec F S1x1 .f32) (v9 v11 : Elt F .i32) (v12 : IVec S1x128 32) (a : Fin 4) (u : ℕ) (l : Fin 128) : Elt F .f32 :=
  match a with
  | 0 => k1_pay46 (k1_pay26 v0 (k1_pay42 v4) (k1_pay43 v6) v9 v12 (k1_pay15 (k1_pay45 v0) E (prow P u) W)) (ix3 0 0 l)
  | 1 => k1_pay47 (k1_pay24 (F := F) v9 v11 v12 (Scf.iv 0#32 1#32 u))
      (k1_pay25 v0 (k1_pay42 v4) (k1_pay43 v6) (k1_pay15 (k1_pay45 v0) E (prow P u) W) (k1_pay18 (k1_pay45 v0) E (prow P u) W C D)
        (k1_pay19 (k1_pay45 v0) E (prow P u) W C D) jcst (trow (k1_pay17 (k1_pay45 v0) E (prow P u) W C D) (yword Y b u))) (ix3 0 0 l)
  | 2 => k1_pay48 (k1_pay20 (k1_pay18 (k1_pay45 v0) E (prow P u) W C D) (k1_pay19 (k1_pay45 v0) E (prow P u) W C D) jcst) (k1_pay23 (F := F) v9 v12) (ix3 0 0 l)
  | 3 => k1_pay49 (k1_pay22 (trow (k1_pay17 (k1_pay45 v0) E (prow P u) W C D) (yword Y b u))) (k1_pay24 (F := F) v9 v11 v12 (Scf.iv 0#32 1#32 u)) (ix3 0 0 l)

/-- The output planes with row `u` written. -/
def setRow (R : Fin 4 → Fin 128 → Elt F .f32) (u : ℕ) (X : Vec F S4x48x128 .f32) : Vec F S4x48x128 .f32 :=
  fun y => if (y 1).val = u then R (y 0) (y 2) else X y

/-- A load of the row that a word names. -/
theorem readAt_trow (v : View sig .tc .vmem S512x128 .f32) (f : v.ty.Contents (Elt F)) (w : BitVec 32) (h : w.toNat < 512) (o : Fin 2 → ℕ) (ho : o = ![w.toNat, 0])
    (inb : ∀ a, o a + S1x128.size a ≤ S512x128.size a) :
    v.readAt (Elt F) (Rect.unit (s := S512x128) o S1x128.size inb).toLoadRect f = trow (v.read (Elt F) f) w := by
  subst ho
  funext z
  refine congrArg (v.read (Elt F) f) (funext fun a => Fin.ext ?_)
  fin_cases a
  · show w.toNat + 1 * (z 0).val = w.toNat % 512
    have : (z 0).val < 1 := (z 0).isLt
    omega
  · show 0 + 1 * (z 1).val = (z 1).val
    omega

section FourRows
variable (v : View sig .tc .vmem S4x48x128 .f32) (f : v.ty.Contents (Elt F)) (n u : ℕ) (o : Fin 3 → ℕ) (ho : o = ![n, u, 0])
  (inb : ∀ a, o a + S1x1x128.size a ≤ S4x48x128.size a) (p : Vec F S1x1x128 .f32) (L : List (View.Piece (Elt F) S4x48x128 .f32)) (y0 : Fin 4) (y1 : Fin 48) (y2 : Fin 128)

include ho in
/-- Away from a stored row, the store changes nothing. -/
theorem row_skip (h : ¬ (y0.val = n ∧ y1.val = u)) :
    v.read (Elt F) (v.writes (Elt F) f (⟨Rect.unit (s := S4x48x128) o S1x1x128.size inb, p⟩ :: L)) (ix3 y0 y1 y2) = v.read (Elt F) (v.writes (Elt F) f L) (ix3 y0 y1 y2) := by
  by_cases h0 : y0.val = n
  · have h1 : y1.val ≠ u := fun e => h ⟨h0, e⟩
    exact View.read_writes_cons_unit_of_not_mem v f inb p L _ ho (1 : Fin 3) (show y1.val < u ∨ u + 1 ≤ y1.val by omega)
  · exact View.read_writes_cons_unit_of_not_mem v f inb p L _ ho (0 : Fin 3) (show y0.val < n ∨ n + 1 ≤ y0.val by omega)

include ho in
/-- On a stored row, the stored vector is read. -/
theorem row_hit (h0 : y0.val = n) (h1 : y1.val = u) :
    v.read (Elt F) (v.writes (Elt F) f (⟨Rect.unit (s := S4x48x128) o S1x1x128.size inb, p⟩ :: L)) (ix3 y0 y1 y2) = p (ix3 0 0 y2) := by
  refine View.read_writes_cons_unit_of_mem v f inb p L _ (ix3 (0 : Fin 1) (0 : Fin 1) y2 : S1x1x128.Idx) ho fun a => ?_
  fin_cases a
  · exact h0
  · exact h1
  · exact (Nat.zero_add _).symm

end FourRows

/-- Four stores, one row of each plane, read back as `setRow`. -/
theorem read_four_rows (v : View sig .tc .vmem S4x48x128 .f32) (f : v.ty.Contents (Elt F)) (u : ℕ) (o0 o1 o2 o3 : Fin 3 → ℕ)
    (h0 : o0 = ![0, u, 0]) (h1 : o1 = ![1, u, 0]) (h2 : o2 = ![2, u, 0]) (h3 : o3 = ![3, u, 0])
    (i0 : ∀ a, o0 a + S1x1x128.size a ≤ S4x48x128.size a) (i1 : ∀ a, o1 a + S1x1x128.size a ≤ S4x48x128.size a)
    (i2 : ∀ a, o2 a + S1x1x128.size a ≤ S4x48x128.size a) (i3 : ∀ a, o3 a + S1x1x128.size a ≤ S4x48x128.size a)
    (p0 p1 p2 p3 : Vec F S1x1x128 .f32) (R : Fin 4 → Fin 128 → Elt F .f32)
    (e0 : ∀ l, p0 (ix3 0 0 l) = R 0 l) (e1 : ∀ l, p1 (ix3 0 0 l) = R 1 l) (e2 : ∀ l, p2 (ix3 0 0 l) = R 2 l) (e3 : ∀ l, p3 (ix3 0 0 l) = R 3 l) :
    v.read (Elt F) (v.writes (Elt F) f [⟨Rect.unit (s := S4x48x128) o3 S1x1x128.size i3, p3⟩, ⟨Rect.unit (s := S4x48x128) o2 S1x1x128.size i2, p2⟩,
        ⟨Rect.unit (s := S4x48x128) o1 S1x1x128.size i1, p1⟩, ⟨Rect.unit (s := S4x48x128) o0 S1x1x128.size i0, p0⟩])
      = setRow R u (v.read (Elt F) f) := by
  funext y
  obtain ⟨y0, y1, y2, rfl⟩ : ∃ (a : Fin 4) (b : Fin 48) (c : Fin 128), y = ix3 a b c := ⟨y 0, y 1, y 2, eq_ix3 y⟩
  by_cases hu : y1.val = u
  · refine Eq.trans ?_ (if_pos (show ((ix3 y0 y1 y2 : S4x48x128.Idx) 1).val = u from hu)).symm
    have hy : y0 = 0 ∨ y0 = 1 ∨ y0 = 2 ∨ y0 = 3 := by revert y0; decide
    rcases hy with rfl | rfl | rfl | rfl
    · rw [row_skip v f 3 u o3 h3 i3 p3 _ _ _ _ (fun h => absurd h.1 (by decide)), row_skip v f 2 u o2 h2 i2 p2 _ _ _ _ (fun h => absurd h.1 (by decide)),
        row_skip v f 1 u o1 h1 i1 p1 _ _ _ _ (fun h => absurd h.1 (by decide)), row_hit v f 0 u o0 h0 i0 p0 _ _ _ _ rfl hu]
      exact e0 y2
    · rw [row_skip v f 3 u o3 h3 i3 p3 _ _ _ _ (fun h => absurd h.1 (by decide)), row_skip v f 2 u o2 h2 i2 p2 _ _ _ _ (fun h => absurd h.1 (by decide)),
        row_hit v f 1 u o1 h1 i1 p1 _ _ _ _ rfl hu]
      exact e1 y2
    · rw [row_skip v f 3 u o3 h3 i3 p3 _ _ _ _ (fun h => absurd h.1 (by decide)), row_hit v f 2 u o2 h2 i2 p2 _ _ _ _ rfl hu]
      exact e2 y2
    · rw [row_hit v f 3 u o3 h3 i3 p3 _ _ _ _ rfl hu]
      exact e3 y2
  · refine Eq.trans ?_ (if_neg (show ¬ ((ix3 y0 y1 y2 : S4x48x128.Idx) 1).val = u from hu)).symm
    rw [row_skip v f 3 u o3 h3 i3 p3 _ _ _ _ (fun h => hu h.2), row_skip v f 2 u o2 h2 i2 p2 _ _ _ _ (fun h => hu h.2),
      row_skip v f 1 u o1 h1 i1 p1 _ _ _ _ (fun h => hu h.2), row_skip v f 0 u o0 h0 i0 p0 _ _ _ _ (fun h => hu h.2)]
    rfl

section Trip

variable (c : Dev nD) (i : grid1.Coords) (arg1 : Memref sig .tc .smem S12 .i32) (harg1 : arg1.IsWhole) (arg2 : Memref sig .tc .smem S12 .i32) (harg2 : arg2.IsWhole) (arg3 : Memref sig .tc .smem S480 .i32) (harg3 : arg3.IsWhole) (arg4 : Memref sig .tc .smem S1 .f32) (harg4 : arg4.IsWhole) (arg5 : Memref sig .tc .vmem S1x128x640 .f32) (harg5 : arg5.IsWhole) (arg6 : Memref sig .tc .vmem S1x41x640 .f32) (harg6 : arg6.IsWhole) (arg7 : Memref sig .tc .vmem S513x640 .i8) (harg7 : arg7.IsWhole) (arg8 : Memref sig .tc .vmem S1x513 .f32) (harg8 : arg8.IsWhole) (arg9 : Memref sig .tc .vmem S1x513 .f32) (harg9 : arg9.IsWhole) (arg10 : Memref sig .tc .vmem S1x128x41 .f32) (harg10 : arg10.IsWhole) (arg11 : Memref sig .tc .vmem S1x128x40 .f32) (harg11 : arg11.IsWhole) (arg12 : Memref sig .tc .vmem S1x128x41 .f32) (harg12 : arg12.IsWhole) (arg13 : Memref sig .tc .vmem S1x128x40 .f32) (harg13 : arg13.IsWhole) (arg14 : Memref sig .tc .vmem S528x640 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4x48x128 .f32) (harg18 : arg18.IsWhole)
  (v0 : Elt F .f32) (v4 : Vec F S1x1 .f32) (v6 : Vec F S1x1 .f32) (v9 : Elt F .i32) (v11 : Elt F .i32) (hw : k1_chk1 i v11) (v12 : IVec S1x128 32)

abbrev at3 (f : Buf (Elt F) (arg3.view.loc (c : Thread nD τ))) : sProp 𝕄 := arg3.view.loc (c : Thread nD τ) ↦[arg3.view.set]{fullShare} f
abbrev at5 (f : Buf (Elt F) (arg5.view.loc (c : Thread nD τ))) : sProp 𝕄 := arg5.view.loc (c : Thread nD τ) ↦[arg5.view.set]{fullShare} f
abbrev at6 (f : Buf (Elt F) (arg6.view.loc (c : Thread nD τ))) : sProp 𝕄 := arg6.view.loc (c : Thread nD τ) ↦[arg6.view.set]{fullShare} f
abbrev at14 (f : Buf (Elt F) (arg14.view.loc (c : Thread nD τ))) : sProp 𝕄 := arg14.view.loc (c : Thread nD τ) ↦[arg14.view.set]{fullShare} f
abbrev at15 (f : Buf (Elt F) (arg15.view.loc (c : Thread nD τ))) : sProp 𝕄 := arg15.view.loc (c : Thread nD τ) ↦[arg15.view.set]{fullShare} f
abbrev at17 (f : Buf (Elt F) (arg17.view.loc (c : Thread nD τ))) : sProp 𝕄 := arg17.view.loc (c : Thread nD τ) ↦[arg17.view.set]{fullShare} f
abbrev at18 (f : Buf (Elt F) (arg18.view.loc (c : Thread nD τ))) : sProp 𝕄 := arg18.view.loc (c : Thread nD τ) ↦[arg18.view.set]{fullShare} f

set_option maxHeartbeats 1000000 in
theorem trip_run (k : Fin (k1_t1_loop v11).trips) (acc : BitVec 32) (f3 : Buf (Elt F) (arg3.view.loc (c : Thread nD τ))) (f5 : Buf (Elt F) (arg5.view.loc (c : Thread nD τ)))
    (f6 : Buf (Elt F) (arg6.view.loc (c : Thread nD τ))) (f14 : Buf (Elt F) (arg14.view.loc (c : Thread nD τ))) (f15 : Buf (Elt F) (arg15.view.loc (c : Thread nD τ)))
    (f16 : Buf (Elt F) (arg16.view.loc (c : Thread nD τ))) (f18 : Buf (Elt F) (arg18.view.loc (c : Thread nD τ)))
    (hy : ∀ j, (arg3.view.read (Elt F) f3 j : BitVec 32).toNat < 512) :
    iprop(at3 c arg3 f3 ∗ at5 c arg5 f5 ∗ at6 c arg6 f6 ∗ at14 c arg14 f14 ∗ at15 c arg15 f15 ∗ at15 c arg16 f16 ∗ (∃ g, at17 c arg17 g) ∗ at18 c arg18 f18)
      ⊢ wp frame (wpE (defs₀ (F := F)) Variants.none c none) Set.univ
          (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v0 v4 v6 v9 v11 hw v12 k acc)
          (fun _ => iprop(at3 c arg3 f3 ∗ at5 c arg5 f5 ∗ at6 c arg6 f6 ∗ at14 c arg14 f14 ∗ at15 c arg15 f15 ∗ at15 c arg16 f16 ∗ (∃ g, at17 c arg17 g)
            ∗ (∃ g, ⌜arg18.view.read (Elt F) g = setRow (fun a l => rowVal (i 0).val (arg3.view.read (Elt F) f3) (arg5.view.read (Elt F) f5) (arg6.view.read (Elt F) f6)
                (arg14.view.read (Elt F) f14) (arg15.view.read (Elt F) f15) (arg16.view.read (Elt F) f16) v0 v4 v6 v9 v11 v12 a k.val l) k.val (arg18.view.read (Elt F) f18)⌝ ∗ at18 c arg18 g))) := by
  unfold k1_t1_body
  simp only [k1_part3_eq_skeleton, k1_part4_eq_skeleton]
  iintro ⟨H3, H5, H6, H14, H15, H16, ⟨%g, H17⟩, H18⟩
  have hw3 : ∀ w : BitVec 32, (∃ j, w = arg3.view.read (Elt F) f3 j) → k1_chk2 w := by
    rintro w ⟨j, rfl⟩; exact chk2_of_lt _ (hy j)
  sl_exec
  have hc : k1_chk2 (trip_run.sl.r_3 c i arg3 v11 hw k f3) := by
    refine hw3 _ ?_
    unfold trip_run.sl.r_3
    exact ⟨_, rfl⟩
  sl_exec
  sl_step
  iframe
  isplitl [H17]; · iexists _; iexact H17
  iexists _; isplitr; swap; · iexact H18
  ipureintro
  have hy3 : trip_run.sl.r_3 c i arg3 v11 hw k f3 = yword (arg3.view.read (Elt F) f3) (i 0).val k.val := by
    unfold trip_run.sl.r_3 yword
    rw [View.readAt_unit arg3.view f3 _ (off3_eq i v11 k) (fun a => by rw [← off3_eq i v11 k]; exact k1_off3_inb i v11 hw k a)]
    refine congrArg (arg3.view.read (Elt F) f3) (funext fun a => Fin.ext ?_)
    fin_cases a
    have hi : (i 0).val < 12 := (i 0).isLt
    show (i 0).val * 40 + min k.val 39 + 1 * 0 = ((i 0).val * 40 + min k.val 39) % 480
    omega
  have hP : View.readAt (Elt F) arg6.view (Rect.unit (s := S1x41x640) (k1_off2 v11 k) S1x1x640.size (k1_off2_inb i v11 hw k)).toLoadRect f6 = prow (arg6.view.read (Elt F) f6) k.val := by
    rw [View.readAt_unit arg6.view f6 _ (off2_eq v11 k) (fun a => by rw [← off2_eq v11 k]; exact k1_off2_inb i v11 hw k a)]
    funext z
    refine congrArg (arg6.view.read (Elt F) f6) (funext fun a => Fin.ext ?_)
    have hk := trip_lt v11 k
    fin_cases a
    · show 0 + 1 * (z 0).val = 0
      have : (z 0).val < 1 := (z 0).isLt
      omega
    · show k.val + 1 * (z 1).val = k.val % 41
      have : (z 1).val < 1 := (z 1).isLt
      omega
    · show 0 + 1 * (z 2).val = (z 2).val
      omega
  have hT : trip_run.sl.v112 c i arg3 arg5 arg6 arg14 arg15 arg16 arg17 v0 v11 hw k f3 f5 f6 f14 f15 f16 hc
      = trow (k1_pay17 (k1_pay45 v0) (arg5.view.read (Elt F) f5) (prow (arg6.view.read (Elt F) f6) k.val) (arg14.view.read (Elt F) f14)
          (arg15.view.read (Elt F) f15) (arg16.view.read (Elt F) f16)) (yword (arg3.view.read (Elt F) f3) (i 0).val k.val) := by
    unfold trip_run.sl.v112
    rw [hP, View.readAt_full arg5.view, View.readAt_full arg14.view, View.readAt_full arg15.view, View.readAt_full arg16.view]
    have hlt : (yword (arg3.view.read (Elt F) f3) (i 0).val k.val).toNat < 512 := hy _
    have ho : k1_off4 (trip_run.sl.r_3 c i arg3 v11 hw k f3) = ![(yword (arg3.view.read (Elt F) f3) (i 0).val k.val).toNat, 0] := by rw [hy3]; rfl
    rw [readAt_trow arg17.view _ _ hlt _ ho, View.read_writes_full]
  refine read_four_rows arg18.view f18 k.val _ _ _ _ (off5_eq v11 k) (off6_eq v11 k) (off7_eq v11 k) (off8_eq v11 k) _ _ _ _ _ _ _ _ _ ?_ ?_ ?_ ?_
  · intro l; unfold trip_run.sl.r_8 trip_run.sl.r rowVal
    rw [hP, View.readAt_full, View.readAt_full]
  · intro l; unfold trip_run.sl.r_6 trip_run.sl.arg19 trip_run.sl.r_7 trip_run.sl.r trip_run.sl.r_1 trip_run.sl.r_2 rowVal
    rw [hP, hT, View.readAt_full arg5.view, View.readAt_full arg14.view, View.readAt_full arg15.view, View.readAt_full arg16.view]
    try rfl
  · intro l; unfold trip_run.sl.r_4 trip_run.sl.r_1 trip_run.sl.r_2 rowVal
    rw [hP, View.readAt_full arg5.view, View.readAt_full arg14.view, View.readAt_full arg15.view, View.readAt_full arg16.view]
    try rfl
  · intro l; unfold trip_run.sl.r_5 trip_run.sl.r_6 trip_run.sl.arg19 rowVal
    rw [hT]
    try rfl

end Trip
end Cert.KernelIdeal.Gen
end
-- ==== Proof.KernelIdeal.Joint.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import proofs.«01_k».proof.Proof.KernelIdeal.Words
public import proofs.«01_k».proof.Proof.KernelIdeal.Trip

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The loop -/

/-- The output planes before trip `k`: the rows below `k` written, the others at zero. -/
def planes (R : Fin 4 → ℕ → Fin 128 → Elt F .f32) (k : ℕ) : Vec F S4x48x128 .f32 :=
  fun y => if (y 1).val < k then R (y 0) (y 1).val (y 2) else k1_pay44 (F := F) y

theorem planes_zero (R : Fin 4 → ℕ → Fin 128 → Elt F .f32) : planes R 0 = k1_pay44 (F := F) :=
  funext fun y => if_neg (Nat.not_lt_zero _)

theorem planes_succ (R : Fin 4 → ℕ → Fin 128 → Elt F .f32) (k : ℕ) : setRow (fun a l => R a k l) k (planes R k) = planes R (k + 1) := by
  funext y; unfold setRow planes
  by_cases h : (y 1).val = k
  · rw [if_pos h, if_pos (by omega), h]
  · rw [if_neg h]
    by_cases h' : (y 1).val < k
    · rw [if_pos h', if_pos (by omega)]
    · rw [if_neg h', if_neg (by omega)]

section Loop

variable (c : Dev nD) (i : grid1.Coords) (arg1 : Memref sig .tc .smem S12 .i32) (harg1 : arg1.IsWhole) (arg2 : Memref sig .tc .smem S12 .i32) (harg2 : arg2.IsWhole) (arg3 : Memref sig .tc .smem S480 .i32) (harg3 : arg3.IsWhole) (arg4 : Memref sig .tc .smem S1 .f32) (harg4 : arg4.IsWhole) (arg5 : Memref sig .tc .vmem S1x128x640 .f32) (harg5 : arg5.IsWhole) (arg6 : Memref sig .tc .vmem S1x41x640 .f32) (harg6 : arg6.IsWhole) (arg7 : Memref sig .tc .vmem S513x640 .i8) (harg7 : arg7.IsWhole) (arg8 : Memref sig .tc .vmem S1x513 .f32) (harg8 : arg8.IsWhole) (arg9 : Memref sig .tc .vmem S1x513 .f32) (harg9 : arg9.IsWhole) (arg10 : Memref sig .tc .vmem S1x128x41 .f32) (harg10 : arg10.IsWhole) (arg11 : Memref sig .tc .vmem S1x128x40 .f32) (harg11 : arg11.IsWhole) (arg12 : Memref sig .tc .vmem S1x128x41 .f32) (harg12 : arg12.IsWhole) (arg13 : Memref sig .tc .vmem S1x128x40 .f32) (harg13 : arg13.IsWhole) (arg14 : Memref sig .tc .vmem S528x640 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4x48x128 .f32) (harg18 : arg18.IsWhole)
  (v0 : Elt F .f32) (v4 : Vec F S1x1 .f32) (v6 : Vec F S1x1 .f32) (v9 : Elt F .i32) (v11 : Elt F .i32) (hw : k1_chk1 i v11) (v12 : IVec S1x128 32)

/-- Before trip `k`: the buffers that the trip reads at their contents, the table of label logits at anything, the planes at `planes … k`. -/
def invAt (f3 : Buf (Elt F) (arg3.view.loc (c : Thread nD τ))) (f5 : Buf (Elt F) (arg5.view.loc (c : Thread nD τ)))
    (f6 : Buf (Elt F) (arg6.view.loc (c : Thread nD τ))) (f14 : Buf (Elt F) (arg14.view.loc (c : Thread nD τ))) (f15 : Buf (Elt F) (arg15.view.loc (c : Thread nD τ)))
    (f16 : Buf (Elt F) (arg16.view.loc (c : Thread nD τ))) (k : ℕ) : sProp 𝕄 :=
  iprop(⌜∀ j, (arg3.view.read (Elt F) f3 j : BitVec 32).toNat < 512⌝ ∗ at3 c arg3 f3 ∗ at5 c arg5 f5 ∗ at6 c arg6 f6 ∗ at14 c arg14 f14 ∗ at15 c arg15 f15 ∗ at15 c arg16 f16
    ∗ (∃ g, at17 c arg17 g)
    ∗ (∃ g, ⌜arg18.view.read (Elt F) g = planes (fun a u l => rowVal (i 0).val (arg3.view.read (Elt F) f3) (arg5.view.read (Elt F) f5) (arg6.view.read (Elt F) f6)
        (arg14.view.read (Elt F) f14) (arg15.view.read (Elt F) f15) (arg16.view.read (Elt F) f16) v0 v4 v6 v9 v11 v12 a u l) k⌝ ∗ at18 c arg18 g))

/-- One trip takes the invariant to the next. -/
theorem inv_step (f3 : Buf (Elt F) (arg3.view.loc (c : Thread nD τ))) (f5 : Buf (Elt F) (arg5.view.loc (c : Thread nD τ)))
    (f6 : Buf (Elt F) (arg6.view.loc (c : Thread nD τ))) (f14 : Buf (Elt F) (arg14.view.loc (c : Thread nD τ))) (f15 : Buf (Elt F) (arg15.view.loc (c : Thread nD τ)))
    (f16 : Buf (Elt F) (arg16.view.loc (c : Thread nD τ))) (k : Fin (k1_t1_loop v11).trips) (acc : BitVec 32) :
    invAt c i arg3 arg5 arg6 arg14 arg15 arg16 arg17 arg18 v0 v4 v6 v9 v11 v12 f3 f5 f6 f14 f15 f16 k.val
      ⊢ wp frame (wpE (defs₀ (F := F)) Variants.none c none) Set.univ
          (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) v0 v4 v6 v9 v11 hw v12 k acc)
          (fun _ => invAt c i arg3 arg5 arg6 arg14 arg15 arg16 arg17 arg18 v0 v4 v6 v9 v11 v12 f3 f5 f6 f14 f15 f16 (k.val + 1)) := by
  unfold invAt
  iintro ⟨%hy, H3, H5, H6, H14, H15, H16, H17, ⟨%g, %hg, H18⟩⟩
  iapply (wp_wand_r Idealize.ShloMosaic.frame (wpE (defs₀ (F := F)) Variants.none (c : Thread nD τ) none) Set.univ)
  isplitl [H3 H5 H6 H14 H15 H16 H17 H18]
  · iapply (trip_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 v6 v9 v11 hw v12 k acc f3 f5 f6 f14 f15 f16 g hy)
    iframe
  · iintro %_ ⟨H3, H5, H6, H14, H15, H16, H17, ⟨%g', %hg', H18⟩⟩
    isplitr; · ipureintro; exact hy
    iframe
    iexists g'; isplitr; swap; · iexact H18
    ipureintro
    rw [hg', hg]; exact planes_succ _ _

end Loop

/-! ## The results of a grid point -/

/-- What a point's loop writes: row `u` of plane `a` of batch item `b`, from the blocks it is given and the three buffers the first point fills. -/
def jointR (b : Fin 12) (L U : Vec F S12 .i32) (Y : Vec F S480 .i32) (so : Vec F S1 .f32) (E : Vec F S1x128x640 .f32) (P : Vec F S1x41x640 .f32)
    (S B : Vec F S1x513 .f32) (W : Vec F S528x640 .bf16) (C D : Vec F S512x128 .f32) (a : Fin 4) (u : ℕ) (l : Fin 128) : Elt F .f32 :=
  rowVal b.val Y E P W C D (so (ix1 0)) (fun _ => S (ix2 0 (512 : Fin 513))) (fun _ => B (ix2 0 (512 : Fin 513))) (L (ix1 b)) (U (ix1 b))
    (iota .tc S1x128 32 [1] iota_S1x128_d1_w32) a u l

/-- One plane of the four. -/
def plane (X : Vec F S4x48x128 .f32) (a : Fin 4) : Vec F S1x48x128 .f32 := fun z => X (ix3 a (z 1) (z 2))

theorem readAt_plane (v : View sig .tc .vmem S4x48x128 .f32) (f : v.ty.Contents (Elt F)) (n : ℕ) (hn : n < 4)
    (inb : ∀ a, (![n, 0, 0] : Fin 3 → ℕ) a + S1x48x128.size a ≤ S4x48x128.size a) :
    v.readAt (Elt F) (Rect.unit (s := S4x48x128) ![n, 0, 0] S1x48x128.size inb).toLoadRect f = plane (v.read (Elt F) f) ⟨n, hn⟩ := by
  funext z
  refine congrArg (v.read (Elt F) f) (funext fun a => Fin.ext ?_)
  have hz : (z 0).val < 1 := (z 0).isLt
  fin_cases a
  · show n + 1 * (z 0).val = n
    omega
  · show 0 + 1 * (z 1).val = (z 1).val
    omega
  · show 0 + 1 * (z 2).val = (z 2).val
    omega

theorem readAt_corner (v : View sig .tc .vmem S1x513 .f32) (f : v.ty.Contents (Elt F))
    (inb : ∀ a, (![0, 512] : Fin 2 → ℕ) a + S1x1.size a ≤ S1x513.size a) :
    v.readAt (Elt F) (Rect.unit (s := S1x513) ![0, 512] S1x1.size inb).toLoadRect f = fun _ => v.read (Elt F) f (ix2 0 (512 : Fin 513)) := by
  funext z
  refine congrArg (v.read (Elt F) f) (funext fun a => Fin.ext ?_)
  have hz : (z 0).val < 1 := (z 0).isLt
  have hz1 : (z 1).val < 1 := (z 1).isLt
  fin_cases a
  · show 0 + 1 * (z 0).val = 0
    omega
  · show 512 + 1 * (z 1).val = 512
    omega

theorem readAt_item (v : View sig .tc .smem S12 .i32) (f : v.ty.Contents (Elt F)) (i : grid1.Coords)
    (inb : ∀ a, k1_off1 i a + S1.size a ≤ S12.size a) (z : (Rect.unit (s := S12) (k1_off1 i) S1.size inb).shape.Idx) :
    v.readAt (Elt F) (Rect.unit (s := S12) (k1_off1 i) S1.size inb).toLoadRect f z = v.read (Elt F) f (ix1 (i 0)) := by
  refine congrArg (v.read (Elt F) f) (funext fun a => Fin.ext ?_)
  have hi : (i 0).val < 12 := (i 0).isLt
  have hz : (z 0).val < 1 := (z 0).isLt
  fin_cases a
  show k1_off1 i 0 + 1 * (z 0).val = (i 0).val
  have : k1_off1 i 0 = (i 0).val := by
    show (BitVec.ofNat 32 (i 0).val).toNat = (i 0).val
    rw [BitVec.toNat_ofNat]; omega
  omega

theorem readAt_one (v : View sig .tc .smem S1 .f32) (f : v.ty.Contents (Elt F))
    (inb : ∀ a, (![0] : Fin 1 → ℕ) a + S1.size a ≤ S1.size a) (z : (Rect.unit (s := S1) ![0] S1.size inb).shape.Idx) :
    v.readAt (Elt F) (Rect.unit (s := S1) ![0] S1.size inb).toLoadRect f z = v.read (Elt F) f (ix1 0) := by
  refine congrArg (v.read (Elt F) f) (funext fun a => Fin.ext ?_)
  have hz : (z 0).val < 1 := (z 0).isLt
  fin_cases a
  show 0 + 1 * (z 0).val = 0
  omega

/-- The first shared buffer once filled: the weights' codes as bf16, rows 513 and on at zero. -/
def scrW (w : Vec F S513x640 .i8) : Vec F S528x640 .bf16 := fun y =>
  if (y 0).val < 512 then k1_pay6 (fun z => w (ix2 (Fin.ofNat 513 (z 0).val) (z 1))) (ix2 (Fin.ofNat 512 (y 0).val) (y 1))
  else if (y 0).val = 512 then k1_pay7 (fun z => w (ix2 (512 : Fin 513) (z 1))) (ix2 (0 : Fin 1) (y 1))
  else k1_pay5 (F := F) y

/-- 128 columns of a row of 513, from column `128 * q` on. -/
def seg (S : Vec F S1x513 .f32) (q : ℕ) : Vec F S1x128 .f32 := fun z => S (ix2 (0 : Fin 1) (Fin.ofNat 513 (128 * q + (z 1).val)))

/-- The second shared buffer once filled: the label scales, down the rows. -/
def scrC (v0 : Elt F .f32) (S : Vec F S1x513 .f32) : Vec F S512x128 .f32 := fun y =>
  k1_pay8 v0 (seg S ((y 0).val / 128)) (ix2 (Fin.ofNat 128 ((y 0).val % 128)) (y 1))

/-- The third shared buffer once filled: the label biases, down the rows. -/
def scrD (B : Vec F S1x513 .f32) : Vec F S512x128 .f32 := fun y =>
  k1_pay9 (seg B ((y 0).val / 128)) (ix2 (Fin.ofNat 128 ((y 0).val % 128)) (y 1))

theorem readAt_seg (v : View sig .tc .vmem S1x513 .f32) (f : v.ty.Contents (Elt F)) (q : ℕ) (hq : q < 4) (o : Fin 2 → ℕ) (ho : o = ![0, 128 * q])
    (inb : ∀ a, o a + S1x128.size a ≤ S1x513.size a) :
    v.readAt (Elt F) (Rect.unit (s := S1x513) o S1x128.size inb).toLoadRect f = seg (v.read (Elt F) f) q := by
  subst ho
  funext z
  refine congrArg (v.read (Elt F) f) (funext fun a => Fin.ext ?_)
  have hz : (z 0).val < 1 := (z 0).isLt
  have hz1 : (z 1).val < 128 := (z 1).isLt
  fin_cases a
  · show 0 + 1 * (z 0).val = 0
    omega
  · show 128 * q + 1 * (z 1).val = (128 * q + (z 1).val) % 513
    omega

/-- Four blocks of 128 rows, stored top to bottom, read back as one column of blocks. -/
theorem read_four_blocks (v : View sig .tc .vmem S512x128 .f32) (f : v.ty.Contents (Elt F)) (G : ℕ → Vec F S128x128 .f32)
    (b0 : ∀ a, (![0, 0] : Fin 2 → ℕ) a + S128x128.size a ≤ S512x128.size a) (b1 : ∀ a, (![128, 0] : Fin 2 → ℕ) a + S128x128.size a ≤ S512x128.size a)
    (b2 : ∀ a, (![256, 0] : Fin 2 → ℕ) a + S128x128.size a ≤ S512x128.size a) (b3 : ∀ a, (![384, 0] : Fin 2 → ℕ) a + S128x128.size a ≤ S512x128.size a) :
    v.read (Elt F) (v.writes (Elt F) f [⟨Rect.unit (s := S512x128) ![384, 0] S128x128.size b3, G 3⟩, ⟨Rect.unit (s := S512x128) ![256, 0] S128x128.size b2, G 2⟩,
        ⟨Rect.unit (s := S512x128) ![128, 0] S128x128.size b1, G 1⟩, ⟨Rect.unit (s := S512x128) ![0, 0] S128x128.size b0, G 0⟩])
      = fun y => G ((y 0).val / 128) (ix2 (Fin.ofNat 128 ((y 0).val % 128)) (y 1)) := by
  funext y
  have hy : (y 0).val < 512 := (y 0).isLt
  have key : ∀ q, (y 0).val / 128 = q → ∀ a : Fin 2, (y a).val = (![128 * q, 0] : Fin 2 → ℕ) a + ((ix2 (Fin.ofNat 128 ((y 0).val % 128)) (y 1) : S128x128.Idx) a).val := by
    intro q hq a
    fin_cases a
    · show (y 0).val = 128 * q + (y 0).val % 128 % 128
      omega
    · show (y 1).val = 0 + (y 1).val
      omega
  rcases (by omega : (y 0).val / 128 = 3 ∨ (y 0).val / 128 = 2 ∨ (y 0).val / 128 = 1 ∨ (y 0).val / 128 = 0) with h | h | h | h
  · rw [h]; exact View.read_writes_cons_unit_of_mem v f b3 _ _ _ _ rfl (key 3 h)
  · rw [h, View.read_writes_cons_unit_of_not_mem v f b3 _ _ y rfl 0 (Or.inl (by show (y 0).val < 384; omega))]
    exact View.read_writes_cons_unit_of_mem v f b2 _ _ _ _ rfl (key 2 h)
  · rw [h, View.read_writes_cons_unit_of_not_mem v f b3 _ _ y rfl 0 (Or.inl (by show (y 0).val < 384; omega)),
      View.read_writes_cons_unit_of_not_mem v f b2 _ _ y rfl 0 (Or.inl (by show (y 0).val < 256; omega))]
    exact View.read_writes_cons_unit_of_mem v f b1 _ _ _ _ rfl (key 1 h)
  · rw [h, View.read_writes_cons_unit_of_not_mem v f b3 _ _ y rfl 0 (Or.inl (by show (y 0).val < 384; omega)),
      View.read_writes_cons_unit_of_not_mem v f b2 _ _ y rfl 0 (Or.inl (by show (y 0).val < 256; omega)),
      View.read_writes_cons_unit_of_not_mem v f b1 _ _ y rfl 0 (Or.inl (by show (y 0).val < 128; omega))]
    exact View.read_writes_cons_unit_of_mem v f b0 _ _ _ _ rfl (key 0 h)

theorem pay10_eq (v0 : Elt F .f32) (s : Vec F S1x128 .f32) : k1_pay10 v0 s = k1_pay8 v0 s := rfl
theorem pay12_eq (v0 : Elt F .f32) (s : Vec F S1x128 .f32) : k1_pay12 v0 s = k1_pay8 v0 s := rfl
theorem pay40_eq (v0 : Elt F .f32) (s : Vec F S1x128 .f32) : k1_pay40 v0 s = k1_pay8 v0 s := rfl
theorem pay11_eq (s : Vec F S1x128 .f32) : k1_pay11 s = k1_pay9 s := rfl
theorem pay39_eq (s : Vec F S1x128 .f32) : k1_pay39 (k1_pay13 s) (k1_pay14 (F := F)) = k1_pay9 s := rfl
theorem pay41_eq (s : Vec F S1x128 .f32) : k1_pay41 s = k1_pay9 s := rfl

/-- Below the first 512 rows, the first two stores of the first shared buffer leave the zeros. -/
theorem read_two (v : View sig .tc .vmem S528x640 .bf16) (f : v.ty.Contents (Elt F)) (p0 : Vec F S528x640 .bf16) (p1 : Vec F S512x640 .bf16)
    (b0 : ∀ a, (![0, 0] : Fin 2 → ℕ) a + S528x640.size a ≤ S528x640.size a) (b1 : ∀ a, (![0, 0] : Fin 2 → ℕ) a + S512x640.size a ≤ S528x640.size a)
    (y : S528x640.Idx) (hy : 512 ≤ (y 0).val) :
    v.read (Elt F) (v.writes (Elt F) f [⟨Rect.unit (s := S528x640) ![0, 0] S512x640.size b1, p1⟩, ⟨Rect.unit (s := S528x640) ![0, 0] S528x640.size b0, p0⟩]) y = p0 y := by
  rw [View.read_writes_cons_unit_of_not_mem v f b1 _ _ y rfl 0 (Or.inr (by show 0 + 512 ≤ (y 0).val; omega))]
  exact congrFun (View.read_writes_full v f b0 p0 []) y

/-- The three stores that fill the first shared buffer. -/
theorem read_scrW (v : View sig .tc .vmem S528x640 .bf16) (f f' : v.ty.Contents (Elt F)) (m : View sig .tc .vmem S513x640 .i8) (f7 : m.ty.Contents (Elt F))
    (b0 : ∀ a, (![0, 0] : Fin 2 → ℕ) a + S528x640.size a ≤ S528x640.size a) (b1 : ∀ a, (![0, 0] : Fin 2 → ℕ) a + S512x640.size a ≤ S528x640.size a)
    (b2 : ∀ a, (![512, 0] : Fin 2 → ℕ) a + S2x640.size a ≤ S528x640.size a)
    (c1 : ∀ a, (![0, 0] : Fin 2 → ℕ) a + S512x640.size a ≤ S513x640.size a) (c2 : ∀ a, (![512, 0] : Fin 2 → ℕ) a + S1x640.size a ≤ S513x640.size a)
    (hs : S2x640.Slices ![0, 0] S1x640) :
    v.read (Elt F) (v.writes (Elt F) f [⟨Rect.unit (s := S528x640) ![512, 0] S2x640.size b2,
        updateSlice (s := S2x640) (v.readAt (Elt F) (Rect.unit (s := S528x640) ![512, 0] S2x640.size b2).toLoadRect
          (v.writes (Elt F) f' [⟨Rect.unit (s := S528x640) ![0, 0] S512x640.size b1,
            k1_pay6 (m.readAt (Elt F) (Rect.unit (s := S513x640) ![0, 0] S512x640.size c1).toLoadRect f7)⟩, ⟨Rect.unit (s := S528x640) ![0, 0] S528x640.size b0, k1_pay5 (F := F)⟩]))
          (k1_pay7 (m.readAt (Elt F) (Rect.unit (s := S513x640) ![512, 0] S1x640.size c2).toLoadRect f7)) ![0, 0] hs⟩,
        ⟨Rect.unit (s := S528x640) ![0, 0] S512x640.size b1, k1_pay6 (m.readAt (Elt F) (Rect.unit (s := S513x640) ![0, 0] S512x640.size c1).toLoadRect f7)⟩,
        ⟨Rect.unit (s := S528x640) ![0, 0] S528x640.size b0, k1_pay5 (F := F)⟩])
      = scrW (m.read (Elt F) f7) := by
  have e1 : m.readAt (Elt F) (Rect.unit (s := S513x640) ![0, 0] S512x640.size c1).toLoadRect f7
      = fun z => m.read (Elt F) f7 (ix2 (Fin.ofNat 513 (z 0).val) (z 1)) := by
    funext z
    refine congrArg (m.read (Elt F) f7) (funext fun a => Fin.ext ?_)
    have h0 : (z 0).val < 512 := (z 0).isLt
    fin_cases a
    · show 0 + 1 * (z 0).val = (z 0).val % 513
      omega
    · show 0 + 1 * (z 1).val = (z 1).val
      omega
  have e2 : m.readAt (Elt F) (Rect.unit (s := S513x640) ![512, 0] S1x640.size c2).toLoadRect f7
      = fun z => m.read (Elt F) f7 (ix2 (512 : Fin 513) (z 1)) := by
    funext z
    refine congrArg (m.read (Elt F) f7) (funext fun a => Fin.ext ?_)
    have h0 : (z 0).val < 1 := (z 0).isLt
    fin_cases a
    · show 512 + 1 * (z 0).val = 512
      omega
    · show 0 + 1 * (z 1).val = (z 1).val
      omega
  rw [e1, e2]
  funext y
  unfold scrW
  by_cases h1 : (y 0).val < 512
  · rw [if_pos h1, View.read_writes_cons_unit_of_not_mem v f b2 _ _ y rfl 0 (Or.inl h1)]
    refine View.read_writes_cons_unit_of_mem v f b1 _ _ y (ix2 (Fin.ofNat 512 (y 0).val) (y 1) : S512x640.Idx) rfl fun a => ?_
    fin_cases a
    · show (y 0).val = 0 + (y 0).val % 512
      omega
    · show (y 1).val = 0 + (y 1).val
      omega
  · rw [if_neg h1]
    by_cases h2 : (y 0).val = 512
    · rw [if_pos h2, View.read_writes_cons_unit_of_mem v f b2 _ _ y (ix2 (0 : Fin 2) (y 1) : S2x640.Idx) rfl (fun a => by
        fin_cases a
        · exact h2
        · exact (Nat.zero_add _).symm)]
      unfold updateSlice
      rw [dif_pos (fun a => by
        fin_cases a
        · exact ⟨le_refl 0, (by omega : (0 : ℕ) < 0 + 1)⟩
        · exact ⟨Nat.zero_le _, by show (y 1).val < 0 + 640; have : (y 1).val < 640 := (y 1).isLt; omega⟩)]
      refine congrArg _ (funext fun a => Fin.ext ?_)
      fin_cases a <;> rfl
    · rw [if_neg h2]
      by_cases h3 : (y 0).val = 513
      · rw [View.read_writes_cons_unit_of_mem v f b2 _ _ y (ix2 (1 : Fin 2) (y 1) : S2x640.Idx) rfl (fun a => by
          fin_cases a
          · exact h3
          · exact (Nat.zero_add _).symm)]
        unfold updateSlice
        rw [dif_neg (fun h => absurd (show (1 : ℕ) < 0 + 1 from (h 0).2) (by omega))]
        have hy : (Rect.unit (s := S528x640) ![512, 0] S2x640.size b2).emb (ix2 (1 : Fin 2) (y 1) : S2x640.Idx) = y := funext fun a => Fin.ext (by
          fin_cases a
          · show 512 + 1 * 1 = (y 0).val
            omega
          · show 0 + 1 * (y 1).val = (y 1).val
            omega)
        refine (read_two v f' _ _ b0 b1 _ ?_).trans (congrArg _ hy)
        show 512 ≤ 512 + 1 * 1
        omega
      · rw [View.read_writes_cons_unit_of_not_mem v f b2 _ _ y rfl 0 (Or.inr (by show 512 + 2 ≤ (y 0).val; omega))]
        exact read_two v f _ _ b0 b1 y (by omega)

section Body

variable (c : Dev nD) (i : grid1.Coords) (arg1 : Memref sig .tc .smem S12 .i32) (harg1 : arg1.IsWhole) (arg2 : Memref sig .tc .smem S12 .i32) (harg2 : arg2.IsWhole) (arg3 : Memref sig .tc .smem S480 .i32) (harg3 : arg3.IsWhole) (arg4 : Memref sig .tc .smem S1 .f32) (harg4 : arg4.IsWhole) (arg5 : Memref sig .tc .vmem S1x128x640 .f32) (harg5 : arg5.IsWhole) (arg6 : Memref sig .tc .vmem S1x41x640 .f32) (harg6 : arg6.IsWhole) (arg7 : Memref sig .tc .vmem S513x640 .i8) (harg7 : arg7.IsWhole) (arg8 : Memref sig .tc .vmem S1x513 .f32) (harg8 : arg8.IsWhole) (arg9 : Memref sig .tc .vmem S1x513 .f32) (harg9 : arg9.IsWhole) (arg10 : Memref sig .tc .vmem S1x128x41 .f32) (harg10 : arg10.IsWhole) (arg11 : Memref sig .tc .vmem S1x128x40 .f32) (harg11 : arg11.IsWhole) (arg12 : Memref sig .tc .vmem S1x128x41 .f32) (harg12 : arg12.IsWhole) (arg13 : Memref sig .tc .vmem S1x128x40 .f32) (harg13 : arg13.IsWhole) (arg14 : Memref sig .tc .vmem S528x640 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4x48x128 .f32) (harg18 : arg18.IsWhole)

abbrev atAny {sp : Space} {s : Shape} {e : EltTy} (c : Dev nD) (m : Memref sig .tc sp s e) (X : Vec F s e) : sProp 𝕄 :=
  iprop(∃ g, ⌜m.view.read (Elt F) g = X⌝ ∗ (m.view.loc (c : Thread nD τ) ↦[m.view.set]{fullShare} g))

set_option maxHeartbeats 2000000 in
/-- A point after the first: the three shared buffers as they are, the four blocks written. -/
theorem rest_run (hi : ¬ (Scalar.cmpi .ne (Scalar.extui (Scalar.cmpi .eq (BitVec.ofNat 32 (i 0).val) 0#32)) 0#32 : BitVec 1) = 1#1)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f14 : Buf (Elt F) (arg14.view.loc (c : Thread nD τ))) (f15 : Buf (Elt F) (arg15.view.loc (c : Thread nD τ)))
    (f16 : Buf (Elt F) (arg16.view.loc (c : Thread nD τ)))
    (hy : ∀ j, (arg3.view.read (Elt F) f3 j : BitVec 32).toNat < 512) (X : Vec F S4x48x128 .f32)
    (hX : X = planes (jointR (i 0) (arg1.view.read (Elt F) f1) (arg2.view.read (Elt F) f2) (arg3.view.read (Elt F) f3) (arg4.view.read (Elt F) f4)
      (arg5.view.read (Elt F) f5) (arg6.view.read (Elt F) f6) (arg8.view.read (Elt F) f8) (arg9.view.read (Elt F) f9)
      (arg14.view.read (Elt F) f14) (arg15.view.read (Elt F) f15) (arg16.view.read (Elt F) f16)) (nRows (arg2.view.read (Elt F) f2 (ix1 (i 0))))) :
    iprop((arg1.view.loc (c : Thread nD τ) ↦[arg1.view.set]{fullShare} f1) ∗ (arg2.view.loc (c : Thread nD τ) ↦[arg2.view.set]{fullShare} f2) ∗ at3 c arg3 f3
        ∗ (arg4.view.loc (c : Thread nD τ) ↦[arg4.view.set]{fullShare} f4) ∗ at5 c arg5 f5 ∗ at6 c arg6 f6
        ∗ (arg7.view.loc (c : Thread nD τ) ↦[arg7.view.set]{fullShare} f7)
        ∗ (arg8.view.loc (c : Thread nD τ) ↦[arg8.view.set]{fullShare} f8) ∗ (arg9.view.loc (c : Thread nD τ) ↦[arg9.view.set]{fullShare} f9)
        ∗ (∃ g, arg10.view.loc (c : Thread nD τ) ↦[arg10.view.set]{fullShare} g) ∗ (∃ g, arg11.view.loc (c : Thread nD τ) ↦[arg11.view.set]{fullShare} g)
        ∗ (∃ g, arg12.view.loc (c : Thread nD τ) ↦[arg12.view.set]{fullShare} g) ∗ (∃ g, arg13.view.loc (c : Thread nD τ) ↦[arg13.view.set]{fullShare} g)
        ∗ at14 c arg14 f14 ∗ at15 c arg15 f15 ∗ at15 c arg16 f16 ∗ (∃ g, at17 c arg17 g) ∗ (∃ g, at18 c arg18 g))
      ⊢ wp frame (wpE (defs₀ (F := F)) Variants.none c none) Set.univ (cc1_joint (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ =>
        iprop((arg1.view.loc (c : Thread nD τ) ↦[arg1.view.set]{fullShare} f1) ∗ (arg2.view.loc (c : Thread nD τ) ↦[arg2.view.set]{fullShare} f2) ∗ at3 c arg3 f3
          ∗ (arg4.view.loc (c : Thread nD τ) ↦[arg4.view.set]{fullShare} f4) ∗ at5 c arg5 f5 ∗ at6 c arg6 f6
          ∗ (arg7.view.loc (c : Thread nD τ) ↦[arg7.view.set]{fullShare} f7)
          ∗ (arg8.view.loc (c : Thread nD τ) ↦[arg8.view.set]{fullShare} f8) ∗ (arg9.view.loc (c : Thread nD τ) ↦[arg9.view.set]{fullShare} f9)
          ∗ atAny c arg10 (k1_pay1 (k1_pay54 (plane X 0))) ∗ atAny c arg11 (k1_pay2 (plane X 1)) ∗ atAny c arg12 (k1_pay3 (plane X 2)) ∗ atAny c arg13 (k1_pay4 (plane X 3))
          ∗ at14 c arg14 f14 ∗ at15 c arg15 f15 ∗ at15 c arg16 f16 ∗ (∃ g, at17 c arg17 g) ∗ (∃ g, at18 c arg18 g))) := by
  simp only [cc1_joint_eq_skeleton]; unfold cc1_joint_skel
  simp only [k1_part7_eq_skeleton]; unfold k1_part7_skel
  iintro ⟨H1, H2, H3, H4, H5, H6, H7, H8, H9, ⟨%g10, H10⟩, ⟨%g11, H11⟩, ⟨%g12, H12⟩, ⟨%g13, H13⟩, H14, H15, H16, ⟨%g17, H17⟩, ⟨%g18, H18⟩⟩
  sl_exec
  have hc := chk1_all i (rest_run.sl.r_2 c i arg2 f2)
  have htr := trips2_eq (rest_run.sl.r_2 c i arg2 f2)
  sl_exec
  ihave HI : (invAt c i arg3 arg5 arg6 arg14 arg15 arg16 arg17 arg18 (rest_run.sl.r c arg4 f4)
    (View.readAt (Elt F) arg8.view (Rect.unit (s := S1x513) ![0, 512] S1x1.size inb_S1x513_S1x1_0_512).toLoadRect f8)
    (View.readAt (Elt F) arg9.view (Rect.unit (s := S1x513) ![0, 512] S1x1.size inb_S1x513_S1x1_0_512).toLoadRect f9)
    (rest_run.sl.r_1 c i arg1 f1) (rest_run.sl.r_2 c i arg2 f2) rest_run.sl.v12 f3 f5 f6 f14 f15 f16 0) $$ [H3 H5 H6 H14 H15 H16 H17 H18]
  · unfold invAt
    isplitr; · ipureintro; exact hy
    iframe
    isplitl [H17]; · iexists _; iexact H17
    iexists _; isplitr; swap; · iexact H18
    ipureintro
    rw [planes_zero]
    exact View.read_writes_full arg18.view _ _ _ _
  rw [wp_bind]
  iapply (Scf.wp_for_bind _ _ _ _ _ _ _ _ _ (fun k _ => invAt c i arg3 arg5 arg6 arg14 arg15 arg16 arg17 arg18 (rest_run.sl.r c arg4 f4)
    (View.readAt (Elt F) arg8.view (Rect.unit (s := S1x513) ![0, 512] S1x1.size inb_S1x513_S1x1_0_512).toLoadRect f8)
    (View.readAt (Elt F) arg9.view (Rect.unit (s := S1x513) ![0, 512] S1x1.size inb_S1x513_S1x1_0_512).toLoadRect f9)
    (rest_run.sl.r_1 c i arg1 f1) (rest_run.sl.r_2 c i arg2 f2) rest_run.sl.v12 f3 f5 f6 f14 f15 f16 k)
    (fun k acc => inv_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ hc _ f3 f5 f6 f14 f15 f16 k acc)) $$ HI
  iintro %acc HI
  unfold invAt
  icases HI with ⟨%_, H3, H5, H6, H14, H15, H16, H17, ⟨%g, %hg, H18⟩⟩
  sl_exec
  sl_step
  have hgX : arg18.view.read (Elt F) g = X := by
    have e4 : rest_run.sl.r c arg4 f4 = arg4.view.read (Elt F) f4 (ix1 0) := readAt_one arg4.view f4 _ _
    have e1 : rest_run.sl.r_1 c i arg1 f1 = arg1.view.read (Elt F) f1 (ix1 (i 0)) := readAt_item arg1.view f1 i _ _
    have e2 : rest_run.sl.r_2 c i arg2 f2 = arg2.view.read (Elt F) f2 (ix1 (i 0)) := readAt_item arg2.view f2 i _ _
    rw [hg, hX, show Scf.trips (k1_t1_loop (rest_run.sl.r_2 c i arg2 f2)).lb (k1_t1_loop (rest_run.sl.r_2 c i arg2 f2)).ub
        (k1_t1_loop (rest_run.sl.r_2 c i arg2 f2)).st = _ from trips1_eq (rest_run.sl.r_2 c i arg2 f2), e1, e2, e4,
      readAt_corner arg8.view, readAt_corner arg9.view]
    rfl
  iframe
  isplitl [H10]
  · iexists _; isplitr; swap; · iexact H10
    ipureintro
    rw [View.read_writes_full]
    exact congrArg (fun x => k1_pay1 (k1_pay54 x)) ((readAt_plane arg18.view g 0 (by omega) _).trans (congrArg (plane · 0) hgX))
  isplitl [H11]
  · iexists _; isplitr; swap; · iexact H11
    ipureintro
    rw [View.read_writes_full]
    exact congrArg k1_pay2 ((readAt_plane arg18.view g 1 (by omega) _).trans (congrArg (plane · 1) hgX))
  isplitl [H12]
  · iexists _; isplitr; swap; · iexact H12
    ipureintro
    rw [View.read_writes_full]
    exact congrArg k1_pay3 ((readAt_plane arg18.view g 2 (by omega) _).trans (congrArg (plane · 2) hgX))
  isplitl [H13]
  · iexists _; isplitr; swap; · iexact H13
    ipureintro
    rw [View.read_writes_full]
    exact congrArg k1_pay4 ((readAt_plane arg18.view g 3 (by omega) _).trans (congrArg (plane · 3) hgX))
  iexists g; iexact H18

set_option maxHeartbeats 2000000 in
/-- The first point: the three shared buffers filled, the four blocks written. -/
theorem first_run (hi : (Scalar.cmpi .ne (Scalar.extui (Scalar.cmpi .eq (BitVec.ofNat 32 (i 0).val) 0#32)) 0#32 : BitVec 1) = 1#1)
    (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (hy : ∀ j, (arg3.view.read (Elt F) f3 j : BitVec 32).toNat < 512) (X : Vec F S4x48x128 .f32)
    (hX : X = planes (jointR (i 0) (arg1.view.read (Elt F) f1) (arg2.view.read (Elt F) f2) (arg3.view.read (Elt F) f3) (arg4.view.read (Elt F) f4)
      (arg5.view.read (Elt F) f5) (arg6.view.read (Elt F) f6) (arg8.view.read (Elt F) f8) (arg9.view.read (Elt F) f9)
      (scrW (arg7.view.read (Elt F) f7))
      (scrC (arg4.view.read (Elt F) f4 (ix1 0)) (arg8.view.read (Elt F) f8)) (scrD (arg9.view.read (Elt F) f9))) (nRows (arg2.view.read (Elt F) f2 (ix1 (i 0))))) :
    iprop((arg1.view.loc (c : Thread nD τ) ↦[arg1.view.set]{fullShare} f1) ∗ (arg2.view.loc (c : Thread nD τ) ↦[arg2.view.set]{fullShare} f2) ∗ at3 c arg3 f3
        ∗ (arg4.view.loc (c : Thread nD τ) ↦[arg4.view.set]{fullShare} f4) ∗ at5 c arg5 f5 ∗ at6 c arg6 f6
        ∗ (arg7.view.loc (c : Thread nD τ) ↦[arg7.view.set]{fullShare} f7)
        ∗ (arg8.view.loc (c : Thread nD τ) ↦[arg8.view.set]{fullShare} f8) ∗ (arg9.view.loc (c : Thread nD τ) ↦[arg9.view.set]{fullShare} f9)
        ∗ (∃ g, arg10.view.loc (c : Thread nD τ) ↦[arg10.view.set]{fullShare} g) ∗ (∃ g, arg11.view.loc (c : Thread nD τ) ↦[arg11.view.set]{fullShare} g)
        ∗ (∃ g, arg12.view.loc (c : Thread nD τ) ↦[arg12.view.set]{fullShare} g) ∗ (∃ g, arg13.view.loc (c : Thread nD τ) ↦[arg13.view.set]{fullShare} g)
        ∗ (∃ g, at14 c arg14 g) ∗ (∃ g, at15 c arg15 g) ∗ (∃ g, at15 c arg16 g) ∗ (∃ g, at17 c arg17 g) ∗ (∃ g, at18 c arg18 g))
      ⊢ wp frame (wpE (defs₀ (F := F)) Variants.none c none) Set.univ (cc1_joint (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ =>
        iprop((arg1.view.loc (c : Thread nD τ) ↦[arg1.view.set]{fullShare} f1) ∗ (arg2.view.loc (c : Thread nD τ) ↦[arg2.view.set]{fullShare} f2) ∗ at3 c arg3 f3
          ∗ (arg4.view.loc (c : Thread nD τ) ↦[arg4.view.set]{fullShare} f4) ∗ at5 c arg5 f5 ∗ at6 c arg6 f6
          ∗ (arg7.view.loc (c : Thread nD τ) ↦[arg7.view.set]{fullShare} f7)
          ∗ (arg8.view.loc (c : Thread nD τ) ↦[arg8.view.set]{fullShare} f8) ∗ (arg9.view.loc (c : Thread nD τ) ↦[arg9.view.set]{fullShare} f9)
          ∗ atAny c arg10 (k1_pay1 (k1_pay54 (plane X 0))) ∗ atAny c arg11 (k1_pay2 (plane X 1)) ∗ atAny c arg12 (k1_pay3 (plane X 2)) ∗ atAny c arg13 (k1_pay4 (plane X 3))
          ∗ atAny c arg14 (scrW (arg7.view.read (Elt F) f7)) ∗ atAny c arg15 (scrC (arg4.view.read (Elt F) f4 (ix1 0)) (arg8.view.read (Elt F) f8))
          ∗ atAny c arg16 (scrD (arg9.view.read (Elt F) f9)) ∗ (∃ g, at17 c arg17 g) ∗ (∃ g, at18 c arg18 g))) := by
  simp only [cc1_joint_eq_skeleton]; unfold cc1_joint_skel
  simp only [k1_part7_eq_skeleton]; unfold k1_part7_skel
  simp only [k1_part1_eq_skeleton, k1_part2_eq_skeleton]; unfold k1_part1_skel k1_part2_skel
  iintro ⟨H1, H2, H3, H4, H5, H6, H7, H8, H9, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩⟩
  sl_exec
  ihave H14' : iprop(∃ g, ⌜arg14.view.read (Elt F) g = scrW (arg7.view.read (Elt F) f7)⌝ ∗ at14 c arg14 g) $$ [H14]
  · iexists _; isplitr; swap; · iexact H14
    ipureintro
    exact read_scrW arg14.view g14 _ arg7.view f7 _ _ _ _ _ _
  ihave H15' : iprop(∃ g, ⌜arg15.view.read (Elt F) g = scrC (arg4.view.read (Elt F) f4 (ix1 0)) (arg8.view.read (Elt F) f8)⌝ ∗ at15 c arg15 g) $$ [H15]
  · iexists _; isplitr; swap; · iexact H15
    ipureintro
    have e4 : first_run.sl.r c arg4 f4 = arg4.view.read (Elt F) f4 (ix1 0) := readAt_one arg4.view f4 _ _
    rw [e4, readAt_seg arg8.view f8 3 (by omega) ![0, 384] rfl, readAt_seg arg8.view f8 2 (by omega) ![0, 256] rfl,
      readAt_seg arg8.view f8 1 (by omega) ![0, 128] rfl, readAt_seg arg8.view f8 0 (by omega) ![0, 0] rfl]
    simp only [pay10_eq, pay12_eq, pay40_eq]
    exact read_four_blocks arg15.view g15 (fun q => k1_pay8 (arg4.view.read (Elt F) f4 (ix1 0)) (seg (arg8.view.read (Elt F) f8) q)) _ _ _ _
  ihave H16' : iprop(∃ g, ⌜arg16.view.read (Elt F) g = scrD (arg9.view.read (Elt F) f9)⌝ ∗ at15 c arg16 g) $$ [H16]
  · iexists _; isplitr; swap; · iexact H16
    ipureintro
    rw [readAt_seg arg9.view f9 3 (by omega) ![0, 384] rfl, readAt_seg arg9.view f9 2 (by omega) ![0, 256] rfl,
      readAt_seg arg9.view f9 1 (by omega) ![0, 128] rfl, readAt_seg arg9.view f9 0 (by omega) ![0, 0] rfl]
    simp only [pay11_eq, pay39_eq, pay41_eq]
    exact read_four_blocks arg16.view g16 (fun q => k1_pay9 (seg (arg9.view.read (Elt F) f9) q)) _ _ _ _
  icases H14' with ⟨%f14, %h14, H14⟩
  icases H15' with ⟨%f15, %h15, H15⟩
  icases H16' with ⟨%f16, %h16, H16⟩
  rw [← h14, ← h15, ← h16] at hX
  have hc := chk1_all i (first_run.sl.r_2 c i arg2 f2)
  have htr := trips2_eq (first_run.sl.r_2 c i arg2 f2)
  sl_exec
  ihave HI : (invAt c i arg3 arg5 arg6 arg14 arg15 arg16 arg17 arg18 (first_run.sl.r c arg4 f4)
    (View.readAt (Elt F) arg8.view (Rect.unit (s := S1x513) ![0, 512] S1x1.size inb_S1x513_S1x1_0_512).toLoadRect f8)
    (View.readAt (Elt F) arg9.view (Rect.unit (s := S1x513) ![0, 512] S1x1.size inb_S1x513_S1x1_0_512).toLoadRect f9)
    (first_run.sl.r_1 c i arg1 f1) (first_run.sl.r_2 c i arg2 f2) (iota .tc S1x128 32 [1] iota_S1x128_d1_w32) f3 f5 f6 f14 f15 f16 0) $$ [H3 H5 H6 H14 H15 H16 H17 H18]
  · unfold invAt
    isplitr; · ipureintro; exact hy
    iframe
    isplitl [H17]; · iexists _; iexact H17
    iexists _; isplitr; swap; · iexact H18
    ipureintro
    rw [planes_zero]
    exact View.read_writes_full arg18.view _ _ _ _
  rw [wp_bind]
  iapply (Scf.wp_for_bind _ _ _ _ _ _ _ _ _ (fun k _ => invAt c i arg3 arg5 arg6 arg14 arg15 arg16 arg17 arg18 (first_run.sl.r c arg4 f4)
    (View.readAt (Elt F) arg8.view (Rect.unit (s := S1x513) ![0, 512] S1x1.size inb_S1x513_S1x1_0_512).toLoadRect f8)
    (View.readAt (Elt F) arg9.view (Rect.unit (s := S1x513) ![0, 512] S1x1.size inb_S1x513_S1x1_0_512).toLoadRect f9)
    (first_run.sl.r_1 c i arg1 f1) (first_run.sl.r_2 c i arg2 f2) (iota .tc S1x128 32 [1] iota_S1x128_d1_w32) f3 f5 f6 f14 f15 f16 k)
    (fun k acc => inv_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ hc _ f3 f5 f6 f14 f15 f16 k acc)) $$ HI
  iintro %acc HI
  unfold invAt
  icases HI with ⟨%_, H3, H5, H6, H14, H15, H16, H17, ⟨%g, %hg, H18⟩⟩
  sl_exec
  sl_step
  have hgX : arg18.view.read (Elt F) g = X := by
    have e4 : first_run.sl.r c arg4 f4 = arg4.view.read (Elt F) f4 (ix1 0) := readAt_one arg4.view f4 _ _
    have e1 : first_run.sl.r_1 c i arg1 f1 = arg1.view.read (Elt F) f1 (ix1 (i 0)) := readAt_item arg1.view f1 i _ _
    have e2 : first_run.sl.r_2 c i arg2 f2 = arg2.view.read (Elt F) f2 (ix1 (i 0)) := readAt_item arg2.view f2 i _ _
    rw [hg, hX, show Scf.trips (k1_t1_loop (first_run.sl.r_2 c i arg2 f2)).lb (k1_t1_loop (first_run.sl.r_2 c i arg2 f2)).ub
        (k1_t1_loop (first_run.sl.r_2 c i arg2 f2)).st = _ from trips1_eq (first_run.sl.r_2 c i arg2 f2), e1, e2, e4,
      readAt_corner arg8.view, readAt_corner arg9.view]
    rfl
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro
    rw [View.read_writes_full]
    exact congrArg (fun x => k1_pay1 (k1_pay54 x)) ((readAt_plane arg18.view g 0 (by omega) _).trans (congrArg (plane · 0) hgX))
  isplitl [H11]
  · iexists _; isplitr; swap; · iexact H11
    ipureintro
    rw [View.read_writes_full]
    exact congrArg k1_pay2 ((readAt_plane arg18.view g 1 (by omega) _).trans (congrArg (plane · 1) hgX))
  isplitl [H12]
  · iexists _; isplitr; swap; · iexact H12
    ipureintro
    rw [View.read_writes_full]
    exact congrArg k1_pay3 ((readAt_plane arg18.view g 2 (by omega) _).trans (congrArg (plane · 2) hgX))
  isplitl [H13]
  · iexists _; isplitr; swap; · iexact H13
    ipureintro
    rw [View.read_writes_full]
    exact congrArg k1_pay4 ((readAt_plane arg18.view g 3 (by omega) _).trans (congrArg (plane · 3) hgX))
  isplitl [H14]
  · iexists f14; isplitr; swap; · iexact H14
    ipureintro; exact h14
  isplitl [H15]
  · iexists f15; isplitr; swap; · iexact H15
    ipureintro; exact h15
  isplitl [H16]
  · iexists f16; isplitr; swap; · iexact H16
    ipureintro; exact h16
  isplitl [H17]; · iexact H17
  iexists g; iexact H18

end Body
end Cert.KernelIdeal.Gen
end
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import proofs.«01_k».proof.Proof.KernelIdeal.Words
public import proofs.«01_k».proof.Proof.KernelIdeal.Trip
public import proofs.«01_k».proof.Proof.KernelIdeal.Joint

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body of the second call, on whole memrefs -/

/-- The words of the comparison that guards the first point's fills. -/
theorem guard_iff (n : Fin 12) :
    (Scalar.cmpi .ne (Scalar.extui (Scalar.cmpi .eq (BitVec.ofNat 32 n.val) 0#32)) 0#32 : BitVec 1) = 1#1 ↔ n.val = 0 := by
  revert n; decide

section Body

variable (c : Dev nD) (i : grid1.Coords) (arg1 : Memref sig .tc .smem S12 .i32) (harg1 : arg1.IsWhole) (arg2 : Memref sig .tc .smem S12 .i32) (harg2 : arg2.IsWhole) (arg3 : Memref sig .tc .smem S480 .i32) (harg3 : arg3.IsWhole) (arg4 : Memref sig .tc .smem S1 .f32) (harg4 : arg4.IsWhole) (arg5 : Memref sig .tc .vmem S1x128x640 .f32) (harg5 : arg5.IsWhole) (arg6 : Memref sig .tc .vmem S1x41x640 .f32) (harg6 : arg6.IsWhole) (arg7 : Memref sig .tc .vmem S513x640 .i8) (harg7 : arg7.IsWhole) (arg8 : Memref sig .tc .vmem S1x513 .f32) (harg8 : arg8.IsWhole) (arg9 : Memref sig .tc .vmem S1x513 .f32) (harg9 : arg9.IsWhole) (arg10 : Memref sig .tc .vmem S1x128x41 .f32) (harg10 : arg10.IsWhole) (arg11 : Memref sig .tc .vmem S1x128x40 .f32) (harg11 : arg11.IsWhole) (arg12 : Memref sig .tc .vmem S1x128x41 .f32) (harg12 : arg12.IsWhole) (arg13 : Memref sig .tc .vmem S1x128x40 .f32) (harg13 : arg13.IsWhole) (arg14 : Memref sig .tc .vmem S528x640 .bf16) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4x48x128 .f32) (harg18 : arg18.IsWhole)

/-- The five scratch buffers before point `n`: the first three at anything before the first point, then at the values it fills them with. -/
def scr (c : Dev nD) (arg14 : Memref sig .tc .vmem S528x640 .bf16) (arg15 arg16 arg17 : Memref sig .tc .vmem S512x128 .f32) (arg18 : Memref sig .tc .vmem S4x48x128 .f32)
    (W : Vec F S528x640 .bf16) (C D : Vec F S512x128 .f32) (n : ℕ) : sProp 𝕄 :=
  iprop((∃ g, ⌜n ≠ 0 → arg14.view.read (Elt F) g = W⌝ ∗ at14 c arg14 g) ∗ (∃ g, ⌜n ≠ 0 → arg15.view.read (Elt F) g = C⌝ ∗ at15 c arg15 g)
    ∗ (∃ g, ⌜n ≠ 0 → arg16.view.read (Elt F) g = D⌝ ∗ at15 c arg16 g) ∗ (∃ g, at17 c arg17 g) ∗ (∃ g, at18 c arg18 g))

/-- The four planes after a point, from its input blocks. -/
def jointX (b : Fin 12) (x0 x1 : Vec F S12 .i32) (x2 : Vec F S480 .i32) (x3 : Vec F S1 .f32) (x4 : Vec F S1x128x640 .f32) (x5 : Vec F S1x41x640 .f32)
    (x6 : Vec F S513x640 .i8) (x7 x8 : Vec F S1x513 .f32) : Vec F S4x48x128 .f32 :=
  planes (jointR b x0 x1 x2 x3 x4 x5 x7 x8 (scrW x6) (scrC (x3 (ix1 0)) x7) (scrD x8)) (nRows (x1 (ix1 b)))

/-- The body at a point: the input blocks kept, the four output blocks at the planes' transposes, the scratch buffers at their next state. -/
theorem sound_kernel1 (x0 x1 : Vec F S12 .i32) (x2 : Vec F S480 .i32) (x3 : Vec F S1 .f32) (x4 : Vec F S1x128x640 .f32) (x5 : Vec F S1x41x640 .f32)
    (x6 : Vec F S513x640 .i8) (x7 x8 : Vec F S1x513 .f32) (hy : ∀ j, (x2 j : BitVec 32).toNat < 512) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ scr c arg14 arg15 arg16 arg17 arg18 (scrW x6) (scrC (x3 (ix1 0)) x7) (scrD x8) (i 0).val
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare (k1_pay1 (k1_pay54 (plane (jointX (i 0) x0 x1 x2 x3 x4 x5 x6 x7 x8) 0)))
        ∗ owns (c : Thread nD τ) arg11 fullShare (k1_pay2 (plane (jointX (i 0) x0 x1 x2 x3 x4 x5 x6 x7 x8) 1))
        ∗ owns (c : Thread nD τ) arg12 fullShare (k1_pay3 (plane (jointX (i 0) x0 x1 x2 x3 x4 x5 x6 x7 x8) 2))
        ∗ owns (c : Thread nD τ) arg13 fullShare (k1_pay4 (plane (jointX (i 0) x0 x1 x2 x3 x4 x5 x6 x7 x8) 3))
        ∗ scr c arg14 arg15 arg16 arg17 arg18 (scrW x6) (scrC (x3 (ix1 0)) x7) (scrD x8) ((i 0).val + 1)) -∗ K ⟨⟩))
      ⊢ wp frame (wpE (defs₀ (F := F)) Variants.none c none) Set.univ (cc1_joint (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns scr
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩,
    ⟨%d10, %f10, -, H10⟩, ⟨%d11, %f11, -, H11⟩, ⟨%d12, %f12, -, H12⟩, ⟨%d13, %f13, -, H13⟩,
    ⟨⟨%f14, %h14, H14⟩, ⟨%f15, %h15, H15⟩, ⟨%f16, %h16, H16⟩, H17, H18⟩, Hk⟩
  subst h1 h2 h3 h4 h5 h6 h7 h8 h9
  by_cases hi : (i 0).val = 0
  · iapply (wp_wand_r Idealize.ShloMosaic.frame (wpE (defs₀ (F := F)) Variants.none (c : Thread nD τ) none) Set.univ)
    isplitl [H1 H2 H3 H4 H5 H6 H7 H8 H9 H10 H11 H12 H13 H14 H15 H16 H17 H18]
    · iapply (first_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ((guard_iff (i 0)).mpr hi) f1 f2 f3 f4 f5 f6 f7 f8 f9 hy _ rfl)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists f10; iexact H10
      isplitl [H11]; · iexists f11; iexact H11
      isplitl [H12]; · iexists f12; iexact H12
      isplitl [H13]; · iexists f13; iexact H13
      isplitl [H14]; · iexists f14; iexact H14
      isplitl [H15]; · iexists f15; iexact H15
      isplitl [H16]; · iexists f16; iexact H16
      isplitl [H17]; · iexact H17
      iexact H18
    iintro %_ ⟨H1, H2, H3, H4, H5, H6, H7, H8, H9, H10, H11, H12, H13, ⟨%g14, %e14, H14⟩, ⟨%g15, %e15, H15⟩, ⟨%g16, %e16, H16⟩, H17, H18⟩
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    isplitl [H10]; · iexact H10
    isplitl [H11]; · iexact H11
    isplitl [H12]; · iexact H12
    isplitl [H13]; · iexact H13
    isplitl [H14]; · iexists g14; isplitr; · ipureintro; exact fun _ => e14
                     iexact H14
    isplitl [H15]; · iexists g15; isplitr; · ipureintro; exact fun _ => e15
                     iexact H15
    isplitl [H16]; · iexists g16; isplitr; · ipureintro; exact fun _ => e16
                     iexact H16
    isplitl [H17]; · iexact H17
    iexact H18
  · iapply (wp_wand_r Idealize.ShloMosaic.frame (wpE (defs₀ (F := F)) Variants.none (c : Thread nD τ) none) Set.univ)
    isplitl [H1 H2 H3 H4 H5 H6 H7 H8 H9 H10 H11 H12 H13 H14 H15 H16 H17 H18]
    · iapply (rest_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (fun h => hi ((guard_iff (i 0)).mp h)) f1 f2 f3 f4 f5 f6 f7 f8 f9 f14 f15 f16 hy
        (jointX (i 0) (arg1.view.read (Elt F) f1) (arg2.view.read (Elt F) f2) (arg3.view.read (Elt F) f3) (arg4.view.read (Elt F) f4)
          (arg5.view.read (Elt F) f5) (arg6.view.read (Elt F) f6) (arg7.view.read (Elt F) f7) (arg8.view.read (Elt F) f8) (arg9.view.read (Elt F) f9))
        (by unfold jointX; rw [h14 hi, h15 hi, h16 hi]))
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists f10; iexact H10
      isplitl [H11]; · iexists f11; iexact H11
      isplitl [H12]; · iexists f12; iexact H12
      isplitl [H13]; · iexists f13; iexact H13
      isplitl [H14]; · iexact H14
      isplitl [H15]; · iexact H15
      isplitl [H16]; · iexact H16
      isplitl [H17]; · iexact H17
      iexact H18
    iintro %_ ⟨H1, H2, H3, H4, H5, H6, H7, H8, H9, H10, H11, H12, H13, H14, H15, H16, H17, H18⟩
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    isplitl [H10]; · iexact H10
    isplitl [H11]; · iexact H11
    isplitl [H12]; · iexact H12
    isplitl [H13]; · iexact H13
    isplitl [H14]; · iexists f14; isplitr; · ipureintro; exact fun _ => h14 hi
                     iexact H14
    isplitl [H15]; · iexists f15; isplitr; · ipureintro; exact fun _ => h15 hi
                     iexact H15
    isplitl [H16]; · iexists f16; isplitr; · ipureintro; exact fun _ => h16 hi
                     iexact H16
    isplitl [H17]; · iexact H17
    iexact H18

end Body

/-! ## The proof data of the second call -/

section Regions

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The first point. -/
abbrev t1z : Fin cfg1.N := t1_0

theorem iblk1_3_const (c : Dev nD) (t : Fin cfg1.N) : iblk1 V c 3 t = iblk1 V c 3 t1z := rfl
theorem iblk1_6_const (c : Dev nD) (t : Fin cfg1.N) : iblk1 V c 6 t = iblk1 V c 6 t1z := rfl
theorem iblk1_7_const (c : Dev nD) (t : Fin cfg1.N) : iblk1 V c 7 t = iblk1 V c 7 t1z := rfl
theorem iblk1_8_const (c : Dev nD) (t : Fin cfg1.N) : iblk1 V c 8 t = iblk1 V c 8 t1z := rfl

/-- The planes after point `t`. -/
def X1 (c : Dev nD) (t : Fin cfg1.N) : Vec F S4x48x128 .f32 :=
  jointX (grid1.coords t 0) (iblk1 V c 0 t) (iblk1 V c 1 t) (iblk1 V c 2 t) (iblk1 V c 3 t) (iblk1 V c 4 t) (iblk1 V c 5 t) (iblk1 V c 6 t) (iblk1 V c 7 t) (iblk1 V c 8 t)

/-- The call's scratch buffers before point `n`. -/
abbrev scr1 (c : Dev nD) (n : ℕ) : sProp 𝕄 :=
  scr c (Memref.whole cc1_scratch0) (Memref.whole cc1_scratch1) (Memref.whole cc1_scratch2) (Memref.whole cc1_scratch3) (Memref.whole cc1_scratch4)
    (scrW (iblk1 V c 6 t1z)) (scrC ((iblk1 V c 3 t1z : Vec F S1 .f32) (ix1 0)) (iblk1 V c 7 t1z)) (scrD (iblk1 V c 8 t1z)) n

/-- The invariant before point `n`: the scratch buffers, the other scoped buffers and the generator register. -/
def Φ1 (c : Dev nD) (n : ℕ) : sProp 𝕄 :=
  iprop(scr1 V c n ∗ Pipeline.scopedRestBut (Ix := Unit) (Name := ℕ) (U := UR sig nD τ) (Lvl := ℕ) (Val := Elt F) spec1 c [cc1_scratch0, cc1_scratch1, cc1_scratch2, cc1_scratch3, cc1_scratch4]
    ∗ ∃ r, prngReg c r)

/-- The scratch buffers before the first point, whatever they hold, -/
theorem scr_in (c : Dev nD) (arg14 : Memref sig .tc .vmem S528x640 .bf16) (arg15 arg16 arg17 : Memref sig .tc .vmem S512x128 .f32) (arg18 : Memref sig .tc .vmem S4x48x128 .f32)
    (W : Vec F S528x640 .bf16) (C D : Vec F S512x128 .f32) :
    iprop((∃ g, at14 c arg14 g) ∗ (∃ g, at15 c arg15 g) ∗ (∃ g, at15 c arg16 g) ∗ (∃ g, at17 c arg17 g) ∗ (∃ g, at18 c arg18 g)) ⊢ scr c arg14 arg15 arg16 arg17 arg18 W C D 0 := by
  unfold scr
  iintro ⟨⟨%g0, H0⟩, ⟨%g1, H1⟩, ⟨%g2, H2⟩, H3, H4⟩
  isplitl [H0]; · iexists g0; isplitr; · ipureintro; exact fun h => absurd rfl h
                  iexact H0
  isplitl [H1]; · iexists g1; isplitr; · ipureintro; exact fun h => absurd rfl h
                  iexact H1
  isplitl [H2]; · iexists g2; isplitr; · ipureintro; exact fun h => absurd rfl h
                  iexact H2
  isplitl [H3]; · iexact H3
  iexact H4

/-- and after the last, forgetting what they hold. -/
theorem scr_out (c : Dev nD) (arg14 : Memref sig .tc .vmem S528x640 .bf16) (arg15 arg16 arg17 : Memref sig .tc .vmem S512x128 .f32) (arg18 : Memref sig .tc .vmem S4x48x128 .f32)
    (W : Vec F S528x640 .bf16) (C D : Vec F S512x128 .f32) (n : ℕ) :
    scr c arg14 arg15 arg16 arg17 arg18 W C D n ⊢ iprop((∃ g, at14 c arg14 g) ∗ (∃ g, at15 c arg15 g) ∗ (∃ g, at15 c arg16 g) ∗ (∃ g, at17 c arg17 g) ∗ (∃ g, at18 c arg18 g)) := by
  unfold scr
  iintro ⟨⟨%g0, -, H0⟩, ⟨%g1, -, H1⟩, ⟨%g2, -, H2⟩, H3, H4⟩
  isplitl [H0]; · iexists g0; iexact H0
  isplitl [H1]; · iexists g1; iexact H1
  isplitl [H2]; · iexists g2; iexact H2
  isplitl [H3]; · iexact H3
  iexact H4

/-- A buffer owned whole is its whole memref's cells. -/
theorem whole_cells (c : Dev nD) (b : Ref sig .tc) :
    iprop(∃ f, (c : Thread nD τ).loc b ↦{fullShare} f : sProp 𝕄) = iprop(∃ g, (Memref.whole b).view.loc (c : Thread nD τ) ↦[(Memref.whole b).view.set]{fullShare} g) := by
  simp only [Memref.view_whole, View.set_whole]

/-- Regrouping three conjuncts, the first weakened. -/
theorem regroup {P Q R S : sProp 𝕄} (h : P ⊢ Q) : iprop(P ∗ R ∗ S) ⊢ iprop((Q ∗ R) ∗ S) := by
  iintro ⟨H, Hr, Hp⟩
  ihave H := h $$ H
  isplitr [Hp]
  · isplitl [H]; · iexact H
    iexact Hr
  iexact Hp

/-- Regrouping three conjuncts the other way, the first weakened. -/
theorem regroup' {P Q R S : sProp 𝕄} (h : P ⊢ Q) : iprop((P ∗ R) ∗ S) ⊢ iprop(Q ∗ R ∗ S) := by
  iintro ⟨⟨H, Hr⟩, Hp⟩
  ihave H := h $$ H
  isplitl [H]; · iexact H
  isplitl [Hr]; · iexact Hr
  iexact Hp

/-- Into the invariant at the region's entry, -/
theorem Φ1_in (c : Dev nD) : iprop(Pipeline.scopedRest (Ix := Unit) (Name := ℕ) (U := UR sig nD τ) (Lvl := ℕ) (Val := Elt F) spec1 c ∗ ∃ r, prngReg c r) ⊢ Φ1 V c 0 := by
  unfold Φ1 scr1
  rw [scopedRest1_split, whole_cells c cc1_scratch0, whole_cells c cc1_scratch1, whole_cells c cc1_scratch2, whole_cells c cc1_scratch3, whole_cells c cc1_scratch4]
  exact regroup' (scr_in c (Memref.whole cc1_scratch0) (Memref.whole cc1_scratch1) (Memref.whole cc1_scratch2) (Memref.whole cc1_scratch3) (Memref.whole cc1_scratch4) _ _ _)

/-- and out of it at the exit. -/
theorem Φ1_out (c : Dev nD) (n : ℕ) : Φ1 V c n ⊢ iprop(Pipeline.scopedRest (Ix := Unit) (Name := ℕ) (U := UR sig nD τ) (Lvl := ℕ) (Val := Elt F) spec1 c ∗ ∃ r, prngReg c r) := by
  unfold Φ1 scr1
  rw [scopedRest1_split, whole_cells c cc1_scratch0, whole_cells c cc1_scratch1, whole_cells c cc1_scratch2, whole_cells c cc1_scratch3, whole_cells c cc1_scratch4]
  exact regroup (scr_out c (Memref.whole cc1_scratch0) (Memref.whole cc1_scratch1) (Memref.whole cc1_scratch2) (Memref.whole cc1_scratch3) (Memref.whole cc1_scratch4) _ _ _ n)

/-- The proof data of the second call on core `c`: the arrays as the region finds them; after the body at point `t` each input's
    buffer at its block and each output's at the transposed plane; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay1 (k1_pay54 (plane (X1 V c t) 0))
    | ⟨10, _⟩ => k1_pay2 (plane (X1 V c t) 1)
    | ⟨11, _⟩ => k1_pay3 (plane (X1 V c t) 2)
    | ⟨12, _⟩ => k1_pay4 (plane (X1 V c t) 3)
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = k1_pay1 (k1_pay54 (plane (X1 V c t) 0)) := by dsimp only [dat1]
theorem after1_10 (c : Dev nD) (t : Fin cfg1.N) : (dat1 V c).after 10 t = k1_pay2 (plane (X1 V c t) 1) := by dsimp only [dat1]
theorem after1_11 (c : Dev nD) (t : Fin cfg1.N) : (dat1 V c).after 11 t = k1_pay3 (plane (X1 V c t) 2) := by dsimp only [dat1]
theorem after1_12 (c : Dev nD) (t : Fin cfg1.N) : (dat1 V c).after 12 t = k1_pay4 (plane (X1 V c t) 3) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The coordinate of a point is its number. -/
theorem coords1 (t : Fin cfg1.N) : (grid1.coords t 0).val = t.val := by
  revert t; decide

/-- The body at any point, from the region's entry contents: the words of the label table below 512. -/
theorem sound_body1 (hy : ∀ (c : Dev nD) (t : Fin cfg1.N) j, ((iblk1 V c 2 t : Vec F S480 .i32) j : BitVec 32).toNat < 512) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = Φ1 V c (t.val + 1) from rfl, show (dat1 V c).Φ t.castSucc = Φ1 V c t.val from rfl,
    show (dat1 V c).owesAt () t.succ = (dat1 V c).owesAt () t.castSucc from rfl, after1_0, after1_1, after1_2, after1_3, after1_4, after1_5, after1_6, after1_7, after1_8, after1_9, after1_10, after1_11, after1_12, ← coords1 t]
  unfold Φ1
  iintro ⟨⟨Hs, Hr, Hp⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩⟩
  iapply (sound_kernel1 c (grid1.coords t) _ _ _ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (hy c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [Hs]; · iexact Hs
  iintro ⟨H0, H1, H2, H3, H4, H5, H6, H7, H8, H9, H10, H11, H12, Hs⟩
  isplitl [Hs Hr Hp]
  · isplitl [Hs]; · iexact Hs
    isplitl [Hr]; · iexact Hr
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (hy : ∀ (c : Dev nD) (t : Fin cfg1.N) j, ((iblk1 V c 2 t : Vec F S480 .i32) j : BitVec 32).toNat < 512) (c : Dev nD) :
    BodyObligation (dat1 (F := F) V c) (defs₀ (F := F)) Variants.none () Set.univ := fun t => by
  rw [bigSep_W1, bigSep_W1, defs₀_row1]
  exact triple_restated (sound_body1 V hy c t) rfl .rfl fun _ => .rfl

end Regions

end Cert.KernelIdeal.Gen
end
-- ==== Proof.KernelIdeal.Run.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import proofs.«01_k».proof.Proof.KernelIdeal.Region0
public import proofs.«01_k».proof.Proof.KernelIdeal.Region1

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5, main_v6, main_v7, main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)

/-- The label words as the second call finds them are below 512. -/
abbrev LabelWords : Prop := ∀ (c : Dev nD) (t : Fin cfg1.N) j, ((iblk1 (V3 m ρ) c 2 t : Vec F S480 .i32) j : BitVec 32).toNat < 512

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 (hy : LabelWords m ρ) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) hy c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V3 m ρ) c 0 from rfl]
    iintro ⟨Hp, -, Hr⟩
    iapply (Φ1_in (V3 m ρ) c)
    isplitl [Hr]; · iexact Hr
    iexact Hp
  hout c := by
    rw [Pipeline.ownSems0_none, show (pdats m ρ 1 c).Φ (Fin.last _) = Φ1 (V3 m ρ) c 12 from rfl]
    iintro H
    ihave H := (Φ1_out (V3 m ρ) c 12) $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs (hy : LabelWords m ρ) : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ hy),
    .host (hseg hostOps2 hostOps2_sub hostOps2_fresh (W4 m ρ)) ]
/-- @main IS the run of the segments: `Gen.main_chain`, then the segments' run against that chain by the kernel's
    definitional check (`chain_rfl`). -/
theorem main_run (hy : LabelWords m ρ) (c : Dev nD) : main (F := F) c = Pipeline.Seg.run (segs m ρ hy) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters whose label words are below 512, every weakly fair execution of @main on
    the TensorCores terminates, nothing faulting, with every unscoped buffer at the last boundary's contents `W5` and every
    semaphore counter at zero. -/
theorem run (hy : LabelWords m ρ) : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ hy)
    (fun c Q => by rw [main_run m ρ hy c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the argument arrays end as launched and every counter at zero. -/
theorem frame (hy : LabelWords m ρ) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c),
       (h.1 c _ (mem_uc main_arg7 (by decide))).trans (W5_main_arg7 m ρ c),
       (h.1 c _ (mem_uc main_arg8 (by decide))).trans (W5_main_arg8 m ρ c),
       (h.1 c _ (mem_uc main_arg9 (by decide))).trans (W5_main_arg9 m ρ c),
       (h.1 c _ (mem_uc main_arg10 (by decide))).trans (W5_main_arg10 m ρ c),
       (h.1 c _ (mem_uc main_arg11 (by decide))).trans (W5_main_arg11 m ρ c),
       (h.1 c _ (mem_uc main_arg12 (by decide))).trans (W5_main_arg12 m ρ c),
       (h.1 c _ (mem_uc main_arg13 (by decide))).trans (W5_main_arg13 m ρ c),
       (h.1 c _ (mem_uc main_arg14 (by decide))).trans (W5_main_arg14 m ρ c)⟩, h.2⟩) (run m ρ hy)

end Cert.KernelIdeal.Gen
end
-- ==== Proof.KernelIdeal.LabelWords.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pointwise
public import Idealize.ShloMosaic.Lib.Claim
public import proofs.«01_k».proof.Proof.KernelIdeal.Run

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The label words at the second call -/

variable (m : (ℓ : Loc nD τ sig) → Buf (Elt F) ℓ) (ρ : Dev nD → PrngReg)

/-- The label words as the second call finds them: the label argument, its two axes read as one. -/
theorem V3_main_v7 (c : Dev nD) : V3 m ρ c main_v7 = shapeCast S480 (m ((c : Thread nD τ).loc main_arg12) : Vec F S12x40 .i32) shapeCasts_S12x40_S480 := by
  have h : V3 m ρ c main_v7 = shapeCast S480 (W2 m ρ c (Proc.devRef .tc main_arg12) : Vec F S12x40 .i32) shapeCasts_S12x40_S480 := by
    unfold_abbrev_sides
    after_results
    rfl
  rw [h, W2_args m ρ c main_arg12 (by decide)]

/-- With every label below 512 they are so. -/
theorem labelWords (h : ∀ (c : Dev nD) i, ((m ((c : Thread nD τ).loc main_arg12) : Vec F S12x40 .i32) i : BitVec 32).toNat < 512) : LabelWords m ρ := by
  intro c t j
  show ((V3 m ρ c main_v7 : Vec F S480 .i32) (((cfg1.win 2).blk t).view.emb j) : BitVec 32).toNat < 512
  rw [V3_main_v7]
  exact h c _

end Cert.KernelIdeal.Gen
end
-- ==== Proof.Spec.lean ====
/- What the two programs compute, written over extended reals and plain finite index ranges, and the laws that bring
   each program's own form to it. -/
module

public import Idealize.ShloMosaic.Lib.Pointwise

@[expose] public section

noncomputable section

namespace Cert.Spec

open Idealize.ShloMosaic

/-! ## The functions -/

/-- A word as the number it stands for. -/
def num {n : ℕ} (b : BitVec n) : EReal := ((b.toInt : ℝ) : EReal)

/-- A value rounded half to even and clipped to `[lo, 127]`. -/
def code (lo : BitVec 32) (x : EReal) : EReal := min (num 127#32) (max (num lo) (Ideal.liftRound Ideal.roundHalfEven x))

/-- The largest magnitude of a row. -/
def rowMax {n : ℕ} (v : Fin n → EReal) : EReal := Finset.univ.fold max (Ideal.ofBits .f32 4286578688#32) (fun k => max (v k) (-(v k)))

/-- The scale of a row: a zero row has scale one. -/
def rowScale {n : ℕ} (v : Fin n → EReal) : EReal := if rowMax v = 0 then 1 else Ideal.div (rowMax v) (Ideal.ofBits .f32 1123942400#32)

/-- The code of an entry of a row. -/
def rowCode {n : ℕ} (v : Fin n → EReal) (k : Fin n) : EReal := code 4294967169#32 (Ideal.div (v k) (rowScale v))

/-- One entry of the projection of a row: the codes against a column of weight codes, rescaled, with the offset. -/
def proj {n : ℕ} (v : Fin n → EReal) (w : Fin n → BitVec 8) (s b : EReal) : EReal := (∑ k, rowCode v k * num (w k)) * rowScale v * s + b

/-- The code of a joint activation. -/
def zCode (zs e p : EReal) : EReal := code 0#32 (Ideal.div (max (e + p) 0) zs)

/-- A logit. -/
def logit (z : Fin 640 → EReal) (w : Fin 640 → BitVec 8) (zs s b : EReal) : EReal := (∑ j, z j * num (w j)) * zs * s + b

/-- The factor from a natural logarithm to a binary one. -/
def L : EReal := (((Real.log 2)⁻¹ : ℝ) : EReal)
/-- The factor back. -/
def K : EReal := ((Real.log 2 : ℝ) : EReal)

/-- The shared exponent of a row of logits: the largest, in binary units, rounded up. -/
def expo (g : Fin 512 → EReal) : EReal := Ideal.liftRound Int.ceil (Finset.univ.fold max (Ideal.ofBits .f32 4286578688#32) (fun k => g k * L))

/-- The log-sum-exp of a row of logits, through powers of two. -/
def lse (g : Fin 512 → EReal) : EReal := (expo g + Ideal.log (∑ k, Ideal.exp2 (g k * L - expo g)) * L) * K

/-- The logarithm of the logistic function. -/
def logSig (v : EReal) : EReal := min v 0 - Ideal.log1p (Ideal.exp (-(max v (-v))))

/-- A value where a frame and a step are in range, zero elsewhere. -/
def gate (t u : ℕ) (tl : BitVec 32) (hi : ℤ) (x : EReal) : EReal := if (t : ℤ) < tl.toInt ∧ (u : ℤ) < hi then x else 0

/-! ## Words -/

theorem code_int (lo : BitVec 32) (h : -127 ≤ lo.toInt ∧ lo.toInt ≤ 127) (x : EReal) : ∃ n : ℤ, -127 ≤ n ∧ n ≤ 127 ∧ code lo x = ((n : ℝ) : EReal) := by
  have e127 : (num 127#32 : EReal) = (((127 : ℤ) : ℝ) : EReal) := by
    unfold num; rw [show (127#32 : BitVec 32).toInt = 127 from by decide]
  have hmin : ∀ a b : ℤ, min (((a : ℝ) : EReal)) ((b : ℝ) : EReal) = (((min a b : ℤ) : ℝ) : EReal) := fun a b => by
    rw [Int.cast_min, EReal.coe_strictMono.monotone.map_min]
  have hmax : ∀ a b : ℤ, max (((a : ℝ) : EReal)) ((b : ℝ) : EReal) = (((max a b : ℤ) : ℝ) : EReal) := fun a b => by
    rw [Int.cast_max, EReal.coe_strictMono.monotone.map_max]
  unfold code
  rw [e127]
  induction x with
  | bot => exact ⟨lo.toInt, h.1, h.2, by rw [Ideal.liftRound_bot, max_eq_left bot_le]; unfold num; rw [hmin, min_eq_right h.2]⟩
  | top => exact ⟨127, by omega, le_refl _, by rw [Ideal.liftRound_top, max_eq_right le_top, min_eq_left le_top]⟩
  | coe r => exact ⟨min 127 (max lo.toInt (Ideal.roundHalfEven r)), by omega, by omega, by rw [Ideal.liftRound_coe]; unfold num; rw [hmax, hmin]⟩

theorem fptosi_int (w : ℕ) (n : ℤ) : Ideal.fptosi w ((n : ℝ) : EReal) = BitVec.ofInt w (max (-(2 ^ (w - 1) : ℕ)) (min ((2 ^ (w - 1) : ℕ) - 1) n)) := by
  unfold Ideal.fptosi
  rw [Ideal.toIntClamped_coe, Int.floor_intCast, Int.ceil_intCast, ite_self]

theorem fptosi_small8 (n : ℤ) (h : -127 ≤ n ∧ n ≤ 127) : Ideal.fptosi 8 ((n : ℝ) : EReal) = BitVec.ofInt 8 n := by
  rw [fptosi_int]; congr 1; norm_num; omega
theorem fptosi_small32 (n : ℤ) (h : -127 ≤ n ∧ n ≤ 127) : Ideal.fptosi 32 ((n : ℝ) : EReal) = BitVec.ofInt 32 n := by
  rw [fptosi_int]; congr 1; norm_num; omega

theorem narrow (n : ℤ) (h : -127 ≤ n ∧ n ≤ 127) : BitVec.setWidth 8 (BitVec.ofInt 32 n) = BitVec.ofInt 8 n := by
  obtain ⟨k, rfl⟩ : ∃ k : Fin 255, n = (k.val : ℤ) - 127 := ⟨⟨(n + 127).toNat, by omega⟩, by simp only []; omega⟩
  revert k; decide +kernel

/-- A code narrowed through 32 bits is the code narrowed at once. -/
theorem code_word (lo : BitVec 32) (h : -127 ≤ lo.toInt ∧ lo.toInt ≤ 127) (x : EReal) : BitVec.setWidth 8 (Ideal.fptosi 32 (code lo x)) = Ideal.fptosi 8 (code lo x) := by
  obtain ⟨n, h1, h2, e⟩ := code_int lo h x
  rw [e, fptosi_small8 n ⟨h1, h2⟩, fptosi_small32 n ⟨h1, h2⟩, narrow n ⟨h1, h2⟩]

/-- A word widened stands for the same number. -/
theorem num_widen (w : BitVec 8) : num (BitVec.signExtend 32 w) = num w := by
  unfold num; rw [BitVec.toInt_signExtend_of_le (by decide)]

/-- A code stored and read back is the code. -/
theorem code_back (lo : BitVec 32) (h : -127 ≤ lo.toInt ∧ lo.toInt ≤ 127) (x : EReal) :
    num (BitVec.signExtend 32 (BitVec.setWidth 8 (Ideal.fptosi 32 (code lo x)))) = code lo x := by
  rw [code_word lo h, num_widen]
  obtain ⟨n, h1, h2, e⟩ := code_int lo h x
  rw [e, fptosi_small8 n ⟨h1, h2⟩]
  unfold num
  rw [BitVec.toInt_ofInt]
  congr 2
  simp only [Int.bmod]; norm_num; split <;> omega

theorem lo_neg : -127 ≤ (4294967169#32 : BitVec 32).toInt ∧ (4294967169#32 : BitVec 32).toInt ≤ 127 := by decide
theorem lo_zero : -127 ≤ (0#32 : BitVec 32).toInt ∧ (0#32 : BitVec 32).toInt ≤ 127 := by decide

/-! ## Logarithms -/

theorem log2_pos : 0 < Real.log 2 := Real.log_pos one_lt_two

theorem L_mul_K : L * K = 1 := by
  unfold L K; rw [← EReal.coe_mul, inv_mul_cancel₀ log2_pos.ne', EReal.coe_one]

theorem add_mul_L (x y : EReal) : (x + y) * L = x * L + y * L :=
  EReal.right_distrib_of_nonneg_of_ne_top (by show (0 : EReal) ≤ (((Real.log 2)⁻¹ : ℝ) : EReal); exact EReal.coe_nonneg.2 (inv_pos.2 log2_pos).le) (EReal.coe_ne_top _) x y

/-- A logit times the factor, as the kernel multiplies it out. -/
theorem logit_mul_L (a zs s b : EReal) : a * (s * (zs * L)) + b * L = (a * zs * s + b) * L := by
  rw [add_mul_L]; congr 1; rw [← mul_assoc, ← mul_assoc, mul_right_comm a s zs]

theorem mul_L_K (x : EReal) : x * L * K = x := by rw [mul_assoc, L_mul_K, mul_one]

theorem two_f32 : Ideal.ofBits .f32 0x40000000#32 = ((2 : ℝ) : EReal) := by
  simp [Ideal.ofBits, Ideal.ieee, -EReal.coe_mul]; norm_num

theorem log_two : Ideal.log (Ideal.ofBits .f32 1073741824#32) = K := by
  rw [show (1073741824#32 : BitVec 32) = 0x40000000#32 from rfl, two_f32, Ideal.log_coe, if_neg (by norm_num)]; rfl

theorem div_K (x : EReal) : Ideal.div x K = x * L := by
  unfold K L; rw [Ideal.div_coe log2_pos.ne', one_div]

theorem exp_mul_K (x : EReal) : Ideal.exp (x * K) = Ideal.exp2 x := by
  unfold K
  induction x with
  | bot => rw [EReal.bot_mul_coe_of_pos log2_pos]; simp
  | top => rw [EReal.top_mul_coe_of_pos log2_pos]; simp
  | coe r =>
    rw [← EReal.coe_mul, Ideal.exp_coe, Ideal.exp2_coe]
    congr 1
    rw [show Real.rpow 2 r = (2 : ℝ) ^ r from rfl, Real.rpow_def_of_pos two_pos, mul_comm]

/-! ## The logistic function -/

theorem log1p_exp_real (v : EReal) : ∃ r : ℝ, Ideal.log1p (Ideal.exp (-(max v (-v)))) = (r : EReal) := by
  have key : ∀ q : ℝ, ∃ r : ℝ, Ideal.log1p (Ideal.exp (q : EReal)) = (r : EReal) := fun q => by
    refine ⟨Real.log (1 + Real.exp q), ?_⟩
    have := Real.exp_pos q
    unfold Ideal.log1p
    rw [Ideal.exp_coe, ← EReal.coe_one, ← EReal.coe_add, Ideal.log_coe, if_neg (by linarith)]
  have key0 : ∃ r : ℝ, Ideal.log1p (Ideal.exp (⊥ : EReal)) = (r : EReal) := by
    refine ⟨Real.log 1, ?_⟩
    unfold Ideal.log1p
    rw [Ideal.exp_bot, add_zero, ← EReal.coe_one, Ideal.log_coe, if_neg (by norm_num)]
  induction v with
  | bot => simpa using key0
  | top => simpa using key0
  | coe r =>
    rw [← EReal.coe_neg, ← EReal.coe_strictMono.monotone.map_max, ← EReal.coe_neg]
    exact key _

/-- The reference's form of it: minus the soft-plus of the negated value. -/
theorem logSig_ref (v : EReal) : -(max (-v) 0 + Ideal.log1p (Ideal.exp (-(max (-v) (- -v))))) = logSig v := by
  unfold logSig
  rw [neg_neg, max_comm (-v) v]
  obtain ⟨r, hr⟩ := log1p_exp_real v
  rw [hr, EReal.neg_add (Or.inr (EReal.coe_ne_top r)) (Or.inr (EReal.coe_ne_bot r))]
  congr 1
  rw [show max (-v) (0 : EReal) = max (-v) (-0) from by rw [neg_zero], ← EReal.neg_strictAnti.antitone.map_min, neg_neg]

/-! ## The label's entry and the masks -/

theorem sum_hit (y : BitVec 32) (h : y.toNat < 512) (g : Fin 512 → EReal) (z : EReal) (hz : z = 0) :
    ∑ x : Fin 512, Scalar.select (IntOp.cmpi .eq (BitVec.ofNat 32 x.val) y) (g x) z = g ⟨y.toNat, h⟩ := by
  subst hz
  have hx : ∀ x : Fin 512, (BitVec.ofNat 32 x.val = y) ↔ x = ⟨y.toNat, h⟩ := fun x => by
    constructor
    · intro e; apply Fin.ext; have := congrArg BitVec.toNat e; rw [BitVec.toNat_ofNat, Nat.mod_eq_of_lt (by have := x.isLt; omega)] at this; exact this
    · rintro rfl; exact BitVec.ofNat_toNat _ _ |>.trans (by simp)
  rw [Finset.sum_eq_single (⟨y.toNat, h⟩ : Fin 512)]
  · have : IntOp.cmpi .eq (BitVec.ofNat 32 y.toNat) y = 1#1 := by simp [IntOp.cmpi]
    rw [this]; rfl
  · intro x _ hne
    have : IntOp.cmpi .eq (BitVec.ofNat 32 x.val) y = 0#1 := by
      have := mt (hx x).1 hne
      simp only [IntOp.cmpi]; rw [beq_eq_false_iff_ne.2 this]; rfl
    rw [this]; rfl
  · intro h'; exact absurd (Finset.mem_univ _) h'

theorem toInt_small (t : ℕ) (h : t < 2 ^ 31) : (BitVec.ofNat 32 t).toInt = (t : ℤ) := by
  rw [BitVec.toInt_eq_toNat_cond, BitVec.toNat_ofNat, Nat.mod_eq_of_lt (by omega), if_pos (by omega)]

theorem slt_small (t : ℕ) (h : t < 2 ^ 31) (w : BitVec 32) : IntOp.cmpi .slt (BitVec.ofNat 32 t) w = if (t : ℤ) < w.toInt then 1#1 else 0#1 := by
  simp only [IntOp.cmpi, BitVec.slt, toInt_small t h]
  by_cases hh : (t : ℤ) < w.toInt <;> simp [hh]
theorem sle_small (t : ℕ) (h : t < 2 ^ 31) (w : BitVec 32) : IntOp.cmpi .sle (BitVec.ofNat 32 t) w = if (t : ℤ) ≤ w.toInt then 1#1 else 0#1 := by
  simp only [IntOp.cmpi, BitVec.sle, toInt_small t h]
  by_cases hh : (t : ℤ) ≤ w.toInt <;> simp [hh]

theorem gate_le (t u : ℕ) (ht : t < 2 ^ 31) (hu : u < 2 ^ 31) (tl ul : BitVec 32) (x z : EReal) (hz : z = 0) :
    Scalar.select (IntOp.andi (IntOp.cmpi .slt (BitVec.ofNat 32 t) tl) (IntOp.cmpi .sle (BitVec.ofNat 32 u) ul)) x z = gate t u tl (ul.toInt + 1) x := by
  subst hz
  rw [slt_small t ht, sle_small u hu]
  unfold gate
  by_cases h1 : (t : ℤ) < tl.toInt <;> by_cases h2 : (u : ℤ) ≤ ul.toInt <;> simp [h1, h2, Int.lt_add_one_iff, IntOp.andi, Scalar.select]

theorem gate_lt (t u : ℕ) (ht : t < 2 ^ 31) (hu : u < 2 ^ 31) (tl ul : BitVec 32) (x z : EReal) (hz : z = 0) :
    Scalar.select (IntOp.andi (IntOp.cmpi .slt (BitVec.ofNat 32 t) tl) (IntOp.cmpi .slt (BitVec.ofNat 32 u) ul)) x z = gate t u tl ul.toInt x := by
  subst hz
  rw [slt_small t ht, slt_small u hu]
  unfold gate
  by_cases h1 : (t : ℤ) < tl.toInt <;> by_cases h2 : (u : ℤ) < ul.toInt <;> simp [h1, h2, IntOp.andi, Scalar.select]

/-- The kernel's gate on the rows it computes: frames only. -/
theorem gate_row (t u n : ℕ) (ht : t < 2 ^ 31) (tl : BitVec 32) (hi : ℤ) (hn : (u : ℤ) < hi ↔ u < n) (x z : EReal) (hz : z = 0) :
    (if u < n then Scalar.select (IntOp.cmpi .slt (BitVec.ofNat 32 t) tl) x z else 0) = gate t u tl hi x := by
  subst hz
  rw [slt_small t ht]
  unfold gate
  by_cases h1 : (t : ℤ) < tl.toInt <;> by_cases h2 : u < n <;> simp [h1, h2, hn, Scalar.select]

/-- The kernel's gate on the rows it computes: frames and steps, where every step in range is a row computed. -/
theorem gate_row_lt (t u n : ℕ) (ht : t < 2 ^ 31) (hu : u < 2 ^ 31) (tl ul : BitVec 32) (hn : (u : ℤ) < ul.toInt → u < n) (x z : EReal) (hz : z = 0) :
    (if u < n then Scalar.select (IntOp.andi (IntOp.cmpi .slt (BitVec.ofNat 32 t) tl) (IntOp.cmpi .slt (BitVec.ofNat 32 u) ul)) x z else 0) = gate t u tl ul.toInt x := by
  rw [gate_lt t u ht hu tl ul x z hz]
  by_cases h2 : u < n
  · rw [if_pos h2]
  · rw [if_neg h2]; unfold gate; rw [if_neg (fun h => h2 (hn h.2))]

end Cert.Spec

end
-- ==== Proof.KernelIdeal.Payload.lean ====
/- The first call's stored vectors, entry by entry, as the functions of `Spec`. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Value

open Idealize.ShloMosaic Cert.KernelIdeal.Gen

section Enc
variable (x : Vec Ideal S1x128x512 .bf16) (w : Vec Ideal S512x640 .i8) (s b : Vec Ideal S1x640 .f32) (r : Fin 128) (k : Fin 512) (j : Fin 640)

theorem enc_scale (z : Fin 1) : k0_pay4 (F := Ideal) x (ix2 r z) = Spec.rowScale (fun k : Fin 512 => x (ix3 0 r k)) := by
  pointwise [k0_pay4, k0_pay3]; rfl
theorem enc_code : k0_pay5 (F := Ideal) x (ix2 r k) = Spec.rowCode (fun k : Fin 512 => x (ix3 0 r k)) k := by
  pointwise [k0_pay5, k0_pay3]; rw [enc_scale]; rfl
theorem enc_word : k0_pay6 (F := Ideal) x (ix3 0 r k) = Ideal.fptosi 8 (Spec.rowCode (fun k : Fin 512 => x (ix3 0 r k)) k) := by
  pointwise [k0_pay6]; rw [enc_code]; rfl
theorem enc_scale_row : k0_pay7 (F := Ideal) x (ix3 0 0 r) = Spec.rowScale (fun k : Fin 512 => x (ix3 0 r k)) := by
  pointwise [k0_pay7]; rw [enc_scale]
theorem enc_proj : k0_pay9 (F := Ideal) (k0_pay8 (F := Ideal) x w) s b (ix3 0 r j)
    = Spec.proj (fun k : Fin 512 => x (ix3 0 r k)) (fun k => w (ix2 k j)) (s (ix2 0 j)) (b (ix2 0 j)) := by
  pointwise [k0_pay9, k0_pay8]; simp only [enc_scale, enc_code]; rfl
end Enc

section Pred
variable (x : Vec Ideal S1x41x320 .bf16) (w : Vec Ideal S320x640 .i8) (s b : Vec Ideal S1x640 .f32) (r : Fin 41) (k : Fin 320) (j : Fin 640)

theorem pred_scale (z : Fin 1) : k0_pay11 (F := Ideal) x (ix2 r z) = Spec.rowScale (fun k : Fin 320 => x (ix3 0 r k)) := by
  pointwise [k0_pay11, k0_pay10]; rfl
theorem pred_code : k0_pay12 (F := Ideal) x (ix2 r k) = Spec.rowCode (fun k : Fin 320 => x (ix3 0 r k)) k := by
  pointwise [k0_pay12, k0_pay10]; rw [pred_scale]; rfl
theorem pred_word : k0_pay13 (F := Ideal) x (ix3 0 r k) = Ideal.fptosi 8 (Spec.rowCode (fun k : Fin 320 => x (ix3 0 r k)) k) := by
  pointwise [k0_pay13]; rw [pred_code]; rfl
theorem pred_scale_row : k0_pay1 (F := Ideal) (k0_pay14 (F := Ideal) x) (ix3 0 0 r) = Spec.rowScale (fun k : Fin 320 => x (ix3 0 r k)) := by
  pointwise [k0_pay1, k0_pay14]; rw [pred_scale]
theorem pred_proj : k0_pay2 (F := Ideal) (k0_pay11 (F := Ideal) x) (k0_pay12 (F := Ideal) x) w s b (ix3 0 r j)
    = Spec.proj (fun k : Fin 320 => x (ix3 0 r k)) (fun k => w (ix2 k j)) (s (ix2 0 j)) (b (ix2 0 j)) := by
  pointwise [k0_pay2]; simp only [pred_scale, pred_code]; rfl
end Pred

end Cert.KernelIdeal.Value
end
-- ==== Proof.KernelIdeal.Arrays0.lean ====
/- The six arrays that the first call leaves, entry by entry, from the arrays it is given. -/
module

public import proofs.«01_k».proof.Proof.KernelIdeal.Region0
public import proofs.«01_k».proof.Proof.KernelIdeal.Payload
public import Idealize.ShloMosaic.Lib.Pipeline.ValueKit

@[expose] public section

set_option maxRecDepth 16384

noncomputable section

namespace Cert.KernelIdeal.Value

open Idealize.ShloMosaic Idealize.ShloMosaic.TcCoe Cert.KernelIdeal.Gen
open Idealize.ShloMosaic.Pipeline (Dat Cfg Window)

/-- An array of projections. -/
def projArr {R K : ℕ} (X : (⟨3, ![12, R, K]⟩ : Shape).Idx → EReal) (W : (⟨2, ![K, 640]⟩ : Shape).Idx → BitVec 8) (s b : (⟨2, ![1, 640]⟩ : Shape).Idx → EReal) :
    (⟨3, ![12, R, 640]⟩ : Shape).Idx → EReal :=
  fun i => Spec.proj (fun k : Fin K => X (ix3 (i 0) (i 1) k)) (fun k => W (ix2 k (i 2))) (s (ix2 0 (i 2))) (b (ix2 0 (i 2)))
/-- An array of codes. -/
def codeArr {R K : ℕ} (X : (⟨3, ![12, R, K]⟩ : Shape).Idx → EReal) : (⟨3, ![12, R, K]⟩ : Shape).Idx → BitVec 8 :=
  fun i => Ideal.fptosi 8 (Spec.code 4294967169#32 (Ideal.div (X (ix3 (i 0) (i 1) (i 2))) (Spec.rowScale (fun k : Fin K => X (ix3 (i 0) (i 1) k)))))
theorem word_eq {a a' s s' : EReal} (h : a = a') (h' : s = s') :
    Ideal.fptosi 8 (Spec.code 4294967169#32 (Ideal.div a s)) = Ideal.fptosi 8 (Spec.code 4294967169#32 (Ideal.div a' s')) := by rw [h, h']
/-- An array of scales. -/
def scaleArr {R K : ℕ} (X : (⟨3, ![12, R, K]⟩ : Shape).Idx → EReal) : (⟨3, ![12, 1, R]⟩ : Shape).Idx → EReal :=
  fun i => Spec.rowScale (fun k : Fin K => X (ix3 (i 0) (i 2) k))

theorem idx0 : ∀ t : Fin cfg0.N, win0_0.index t = ![t.val, 0, 0] ∧ win0_1.index t = ![t.val, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0, 0]
    ∧ win0_9.index t = ![t.val, 0, 0] ∧ win0_10.index t = ![t.val, 0, 0] ∧ win0_11.index t = ![t.val, 0, 0] ∧ win0_12.index t = ![t.val, 0, 0]
    ∧ win0_13.index t = ![t.val, 0, 0] := (by decide +kernel : ∀ t : Fin grid0.N, _)

variable (V : (c : Dev nD) → (b : Ref sig .tc) → Buf (Elt Ideal) ((c : Thread nD τ).loc b)) (c : Dev nD)

theorem arr0_8 : (dat0 V c).arrAt 8 cfg0.N = projArr (R := 128) (K := 512) (V c main_arg0) (V c main_arg2) (V c main_v0) (V c main_v1) := by
  refine (dat0 V c).arrAt_eq_of_covers 8 _ (by decide +kernel) fun t hf y => ?_
  blk_simp
  rw [after0_8]; frame_out
  obtain ⟨y0, r, j, rfl⟩ : ∃ (y0 : Fin 1) (r : Fin 128) (j : Fin 640), y = ix3 y0 r j := ⟨y 0, y 1, y 2, eq_ix3 y⟩
  obtain rfl : y0 = 0 := Subsingleton.elim _ _
  refine (enc_proj _ _ _ _ r j).trans ?_
  unfold projArr
  congr 1
  · funext k; blk_ext [iblk0, idx0 t]
  · funext k; blk_ext [iblk0, idx0 t]
  · blk_ext [iblk0, idx0 t]
  · blk_ext [iblk0, idx0 t]

theorem arr0_9 : (dat0 V c).arrAt 9 cfg0.N = projArr (R := 41) (K := 320) (V c main_arg1) (V c main_arg5) (V c main_v2) (V c main_v3) := by
  refine (dat0 V c).arrAt_eq_of_covers 9 _ (by decide +kernel) fun t hf y => ?_
  blk_simp
  rw [after0_9]; frame_out
  obtain ⟨y0, r, j, rfl⟩ : ∃ (y0 : Fin 1) (r : Fin 41) (j : Fin 640), y = ix3 y0 r j := ⟨y 0, y 1, y 2, eq_ix3 y⟩
  obtain rfl : y0 = 0 := Subsingleton.elim _ _
  refine (pred_proj _ _ _ _ r j).trans ?_
  unfold projArr
  congr 1
  · funext k; blk_ext [iblk0, idx0 t]
  · funext k; blk_ext [iblk0, idx0 t]
  · blk_ext [iblk0, idx0 t]
  · blk_ext [iblk0, idx0 t]

theorem arr0_10 : (dat0 V c).arrAt 10 cfg0.N = codeArr (R := 128) (K := 512) (V c main_arg0) := by
  refine (dat0 V c).arrAt_eq_of_covers 10 _ (by decide +kernel) fun t hf y => ?_
  blk_simp
  rw [after0_10]; frame_out
  obtain ⟨y0, r, j, rfl⟩ : ∃ (y0 : Fin 1) (r : Fin 128) (j : Fin 512), y = ix3 y0 r j := ⟨y 0, y 1, y 2, eq_ix3 y⟩
  obtain rfl : y0 = 0 := Subsingleton.elim _ _
  refine (enc_word _ r j).trans ?_
  unfold codeArr Spec.rowCode
  refine word_eq ?_ (congrArg Spec.rowScale (funext fun k => ?_))
  · blk_ext [iblk0, idx0 t]
  · blk_ext [iblk0, idx0 t]

theorem arr0_11 : (dat0 V c).arrAt 11 cfg0.N = scaleArr (R := 128) (K := 512) (V c main_arg0) := by
  refine (dat0 V c).arrAt_eq_of_covers 11 _ (by decide +kernel) fun t hf y => ?_
  blk_simp
  rw [after0_11]; frame_out
  obtain ⟨y0, y1, r, rfl⟩ : ∃ (y0 : Fin 1) (y1 : Fin 1) (r : Fin 128), y = ix3 y0 y1 r := ⟨y 0, y 1, y 2, eq_ix3 y⟩
  obtain rfl : y0 = 0 := Subsingleton.elim _ _
  obtain rfl : y1 = 0 := Subsingleton.elim _ _
  refine (enc_scale_row _ r).trans ?_
  unfold scaleArr
  congr 1
  funext k; blk_ext [iblk0, idx0 t]

theorem arr0_12 : (dat0 V c).arrAt 12 cfg0.N = codeArr (R := 41) (K := 320) (V c main_arg1) := by
  refine (dat0 V c).arrAt_eq_of_covers 12 _ (by decide +kernel) fun t hf y => ?_
  blk_simp
  rw [after0_12]; frame_out
  obtain ⟨y0, r, j, rfl⟩ : ∃ (y0 : Fin 1) (r : Fin 41) (j : Fin 320), y = ix3 y0 r j := ⟨y 0, y 1, y 2, eq_ix3 y⟩
  obtain rfl : y0 = 0 := Subsingleton.elim _ _
  refine (pred_word _ r j).trans ?_
  unfold codeArr Spec.rowCode
  refine word_eq ?_ (congrArg Spec.rowScale (funext fun k => ?_))
  · blk_ext [iblk0, idx0 t]
  · blk_ext [iblk0, idx0 t]

theorem arr0_13 : (dat0 V c).arrAt 13 cfg0.N = scaleArr (R := 41) (K := 320) (V c main_arg1) := by
  refine (dat0 V c).arrAt_eq_of_covers 13 _ (by decide +kernel) fun t hf y => ?_
  blk_simp
  rw [after0_13]; frame_out
  obtain ⟨y0, y1, r, rfl⟩ : ∃ (y0 : Fin 1) (y1 : Fin 1) (r : Fin 41), y = ix3 y0 y1 r := ⟨y 0, y 1, y 2, eq_ix3 y⟩
  obtain rfl : y0 = 0 := Subsingleton.elim _ _
  obtain rfl : y1 = 0 := Subsingleton.elim _ _
  refine (pred_scale_row _ r).trans ?_
  unfold scaleArr
  congr 1
  funext k; blk_ext [iblk0, idx0 t]

end Cert.KernelIdeal.Value
end
-- ==== Proof.KernelIdeal.RowValue.lean ====
/- What a trip of the second call's loop writes, entry by entry, as the functions of `Spec`. -/
module

public import proofs.«01_k».proof.Proof.KernelIdeal.Joint
public import proofs.«01_k».proof.Proof.Spec
public import Idealize.ShloMosaic.Lib.Pointwise

@[expose] public section

set_option maxRecDepth 16384

noncomputable section

namespace Cert.KernelIdeal.Value

open Idealize.ShloMosaic Cert.KernelIdeal.Gen

theorem named_log2e : (Named.named (F := Ideal) κ "log2e" (φ := .f32) 0x3FB8AA3B#32 : EReal) = Spec.L := rfl
theorem named_ln2 : (Named.named (F := Ideal) κ "ln2" (φ := .f32) 0x3F317218#32 : EReal) = Spec.K := rfl

variable (zs : Ideal .f32) (E : Vec Ideal S1x128x640 .f32) (P : Vec Ideal S1x41x640 .f32) (w : Vec Ideal S513x640 .i8) (S B : Vec Ideal S1x513 .f32)
  (u : ℕ) (l : Fin 128)

/-- The codes of the joint activation at a frame and a step. -/
def zRow (j : Fin 640) : EReal := Spec.zCode zs (E (ix3 0 l j)) (P (ix3 0 (Fin.ofNat 41 u) j))
/-- The logit of a class there. -/
def gRow (v : Fin 513) : EReal := Spec.logit (zRow zs E P u l) (fun j => w (ix2 v j)) zs (S (ix2 0 v)) (B (ix2 0 v))
/-- The logits of the labels there. -/
def gLab (v : Fin 512) : EReal := gRow zs E P w S B u l ⟨v.val, by have := v.isLt; omega⟩

theorem scrW_apply (r : Fin 528) (h : r.val < 513) (j : Fin 640) : scrW (F := Ideal) w (ix2 r j) = Spec.num (w (ix2 (⟨r.val, h⟩ : Fin 513) j) : BitVec 8) := by
  have e0 : ((ix2 r j : S528x640.Idx) 0).val = r.val := rfl
  unfold scrW
  by_cases hr : r.val < 512
  · rw [if_pos (by rw [e0]; exact hr)]
    have e : (⟨r.val, h⟩ : Fin 513) = Fin.ofNat 513 (Fin.ofNat 512 r.val).val := Fin.ext (by
      show r.val = r.val % 512 % 513
      rw [Nat.mod_eq_of_lt hr, Nat.mod_eq_of_lt h])
    rw [e]
    show k1_pay6 (F := Ideal) _ (ix2 (Fin.ofNat 512 r.val) j) = _
    pointwise [k1_pay6]; rfl
  · have h2 : r.val = 512 := by omega
    rw [if_neg (by rw [e0]; exact hr), if_pos (by rw [e0]; exact h2)]
    have e : (⟨r.val, h⟩ : Fin 513) = 512 := Fin.ext h2
    rw [e]
    show k1_pay7 (F := Ideal) _ (ix2 0 j) = _
    pointwise [k1_pay7]; rfl

theorem seg_apply (v : Fin 512) : seg S (v.val / 128) (ix2 0 (Fin.ofNat 128 (v.val % 128))) = S (ix2 0 (⟨v.val, by have := v.isLt; omega⟩ : Fin 513)) := by
  have hv := v.isLt
  unfold seg
  congr 2
  apply Fin.ext
  show (128 * (v.val / 128) + v.val % 128 % 128) % 513 = v.val
  omega

theorem scrC_apply (v : Fin 512) : scrC zs S (ix2 v l) = S (ix2 0 (⟨v.val, by have := v.isLt; omega⟩ : Fin 513)) * (zs * Spec.L) := by
  unfold scrC
  show k1_pay8 (F := Ideal) zs (seg S (v.val / 128)) (ix2 (Fin.ofNat 128 (v.val % 128)) l) = _
  pointwise [k1_pay8]
  rw [seg_apply, named_log2e]

theorem scrD_apply (v : Fin 512) : scrD B (ix2 v l) = B (ix2 0 (⟨v.val, by have := v.isLt; omega⟩ : Fin 513)) * Spec.L := by
  unfold scrD
  show k1_pay9 (F := Ideal) (seg B (v.val / 128)) (ix2 (Fin.ofNat 128 (v.val % 128)) l) = _
  pointwise [k1_pay9]
  rw [seg_apply, named_log2e]

/-- The products against a class's weights, over the factors. -/
theorem acc_apply (r : Fin 528) (h : r.val < 513) : k1_pay15 (F := Ideal) (k1_pay45 (F := Ideal) zs) E (prow P u) (scrW w) (ix2 r l)
    = ∑ j, zRow zs E P u l j * Spec.num (w (ix2 (⟨r.val, h⟩ : Fin 513) j) : BitVec 8) := by
  pointwise [k1_pay15, k1_pay45]
  refine Finset.sum_congr rfl fun j _ => ?_
  rw [scrW_apply w r h j, mul_comm]
  rfl

/-- The scaled logits, in binary units. -/
theorem binary_apply (v : Fin 512) : k1_pay16 (F := Ideal) (k1_pay45 (F := Ideal) zs) E (prow P u) (scrW w) (scrC zs S) (scrD B) (ix2 v l) = gLab zs E P w S B u l v * Spec.L := by
  pointwise [k1_pay16]
  rw [acc_apply zs E P w u l _ (show v.val < 513 by have := v.isLt; omega), scrC_apply, scrD_apply, Spec.logit_mul_L]
  rfl

theorem expo_apply : k1_pay18 (F := Ideal) (k1_pay45 (F := Ideal) zs) E (prow P u) (scrW w) (scrC zs S) (scrD B) (ix2 0 l) = Spec.expo (gLab zs E P w S B u l) := by
  pointwise [k1_pay18]
  simp only [binary_apply]
  rfl

theorem sum_apply : k1_pay19 (F := Ideal) (k1_pay45 (F := Ideal) zs) E (prow P u) (scrW w) (scrC zs S) (scrD B) (ix2 0 l)
    = Ideal.log (∑ v, Ideal.exp2 (gLab zs E P w S B u l v * Spec.L - Spec.expo (gLab zs E P w S B u l))) := by
  pointwise [k1_pay19]
  simp only [binary_apply, expo_apply]
  rfl

theorem lse_apply : k1_pay20 (F := Ideal) (k1_pay18 (F := Ideal) (k1_pay45 (F := Ideal) zs) E (prow P u) (scrW w) (scrC zs S) (scrD B))
    (k1_pay19 (F := Ideal) (k1_pay45 (F := Ideal) zs) E (prow P u) (scrW w) (scrC zs S) (scrD B)) (jcst (F := Ideal)) (ix2 0 l) = Spec.lse (gLab zs E P w S B u l) := by
  pointwise [k1_pay20]
  rw [expo_apply, sum_apply, named_ln2]
  rfl

theorem blank_apply : k1_pay21 (F := Ideal) zs (k1_pay42 (F := Ideal) (fun _ => S (ix2 0 (512 : Fin 513)))) (k1_pay43 (F := Ideal) (fun _ => B (ix2 0 (512 : Fin 513))))
    (k1_pay15 (F := Ideal) (k1_pay45 (F := Ideal) zs) E (prow P u) (scrW w)) (ix2 0 l) = gRow zs E P w S B u l 512 := by
  pointwise [k1_pay21, k1_pay42, k1_pay43]
  rw [acc_apply zs E P w u l 512 (by decide)]
  rfl

theorem label_apply (y : BitVec 32) (hy : y.toNat < 512) :
    k1_pay22 (F := Ideal) (trow (F := Ideal) (k1_pay17 (F := Ideal) (k1_pay45 (F := Ideal) zs) E (prow P u) (scrW w) (scrC zs S) (scrD B)) y) (ix2 0 l)
      = gLab zs E P w S B u l ⟨y.toNat, hy⟩ := by
  pointwise [k1_pay22]
  have e : trow (F := Ideal) (k1_pay17 (F := Ideal) (k1_pay45 (F := Ideal) zs) E (prow P u) (scrW w) (scrC zs S) (scrD B)) y (ix2 0 l)
      = gLab zs E P w S B u l ⟨y.toNat, hy⟩ * Spec.L := by
    unfold trow
    rw [show (Fin.ofNat 512 y.toNat : Fin 512) = ⟨y.toNat, hy⟩ from Fin.ext (Nat.mod_eq_of_lt hy)]
    show k1_pay17 (F := Ideal) _ _ _ _ _ _ (ix2 _ l) = _
    pointwise [k1_pay17]
    exact binary_apply zs E P w S B u l _
  rw [e, named_ln2, Spec.mul_L_K]

theorem iv_word (k : ℕ) : Scf.iv 0#32 1#32 k = BitVec.ofNat 32 k := by simp [Scf.iv]

variable (b : Fin 12) (T U : Vec Ideal S12 .i32) (Y : Vec Ideal S480 .i32) (so : Vec Ideal S1 .f32)

theorem joint0 : (jointR (F := Ideal) b T U Y so E P S B (scrW w) (scrC (so (ix1 0)) S) (scrD B)) 0 u l = Scalar.select (IntOp.cmpi .slt (BitVec.ofNat 32 l.val) (T (ix1 b) : BitVec 32)) (Spec.logSig (gRow (so (ix1 0)) E P w S B u l 512)) 0 := by
  unfold jointR rowVal
  dsimp only
  pointwise [k1_pay46, k1_pay26, k1_pay23]
  rw [blank_apply, zero_sub]
  rfl

theorem joint2 : (jointR (F := Ideal) b T U Y so E P S B (scrW w) (scrC (so (ix1 0)) S) (scrD B)) 2 u l = Scalar.select (IntOp.cmpi .slt (BitVec.ofNat 32 l.val) (T (ix1 b) : BitVec 32)) (Spec.lse (gLab (so (ix1 0)) E P w S B u l)) 0 := by
  unfold jointR rowVal
  dsimp only
  pointwise [k1_pay48, k1_pay23]
  rw [lse_apply]

theorem joint3 (hy : (yword Y b.val u).toNat < 512) : (jointR (F := Ideal) b T U Y so E P S B (scrW w) (scrC (so (ix1 0)) S) (scrD B)) 3 u l
    = Scalar.select (IntOp.andi (IntOp.cmpi .slt (BitVec.ofNat 32 l.val) (T (ix1 b) : BitVec 32)) (IntOp.cmpi .slt (BitVec.ofNat 32 u) (U (ix1 b) : BitVec 32))) (gLab (so (ix1 0)) E P w S B u l ⟨_, hy⟩) 0 := by
  unfold jointR rowVal
  dsimp only
  pointwise [k1_pay49, k1_pay24, k1_pay23]
  rw [label_apply _ E P w S B u l _ hy, iv_word]
  rfl

theorem joint1 (hy : (yword Y b.val u).toNat < 512) : (jointR (F := Ideal) b T U Y so E P S B (scrW w) (scrC (so (ix1 0)) S) (scrD B)) 1 u l
    = Scalar.select (IntOp.andi (IntOp.cmpi .slt (BitVec.ofNat 32 l.val) (T (ix1 b) : BitVec 32)) (IntOp.cmpi .slt (BitVec.ofNat 32 u) (U (ix1 b) : BitVec 32)))
      (Spec.logSig (-(gRow (so (ix1 0)) E P w S B u l 512)) + gLab (so (ix1 0)) E P w S B u l ⟨_, hy⟩ - Spec.lse (gLab (so (ix1 0)) E P w S B u l)) 0 := by
  unfold jointR rowVal
  dsimp only
  pointwise [k1_pay47, k1_pay24, k1_pay23, k1_pay25]
  rw [label_apply _ E P w S B u l _ hy, blank_apply, lse_apply, iv_word, zero_sub, zero_sub]
  rfl

end Cert.KernelIdeal.Value
end
-- ==== Proof.KernelIdeal.JointValue.lean ====
/- What the second call leaves in its four output blocks at a grid point, entry by entry, as the functions of `Spec`. -/
module

public import proofs.«01_k».proof.Proof.KernelIdeal.Region1
public import proofs.«01_k».proof.Proof.KernelIdeal.RowValue

@[expose] public section

set_option maxRecDepth 16384

noncomputable section

namespace Cert.KernelIdeal.Value

open Idealize.ShloMosaic Cert.KernelIdeal.Gen

variable (b : Fin 12) (T U : Vec Ideal S12 .i32) (Y : Vec Ideal S480 .i32) (so : Vec Ideal S1 .f32) (E : Vec Ideal S1x128x640 .f32) (P : Vec Ideal S1x41x640 .f32)
  (w : Vec Ideal S513x640 .i8) (S B : Vec Ideal S1x513 .f32) (t : Fin 128)

/-- An entry of the planes: what the row's trip wrote, or zero. -/
theorem jointX_apply (a : Fin 4) (u : Fin 48) : jointX (F := Ideal) b T U Y so E P w S B (ix3 a u t)
    = if u.val < nRows (U (ix1 b) : BitVec 32) then jointR (F := Ideal) b T U Y so E P S B (scrW w) (scrC (so (ix1 0)) S) (scrD B) a u.val t else (0 : EReal) := by
  show (if u.val < nRows (U (ix1 b) : BitVec 32) then jointR (F := Ideal) b T U Y so E P S B (scrW w) (scrC (so (ix1 0)) S) (scrD B) a u.val t else k1_pay44 (F := Ideal) (ix3 a u t)) = _
  congr 1
  pointwise [k1_pay44]

theorem rows_le (v : BitVec 32) (h : 0 ≤ v.toInt) (u : ℕ) (hu : u < 41) : (u : ℤ) < v.toInt + 1 ↔ u < nRows v := by
  unfold nRows; omega
theorem rows_lt (v : BitVec 32) (u : ℕ) (hu : u < 40) : (u : ℤ) < v.toInt → u < nRows v := by
  unfold nRows; omega

/-- The label word of a step, as an entry of the flat labels. -/
theorem yword_apply (u : ℕ) (hu : u < 40) : yword (F := Ideal) Y b.val u = (Y (ix1 (⟨b.val * 40 + u, by have := b.isLt; omega⟩ : Fin 480)) : BitVec 32) := by
  have := b.isLt
  unfold yword
  rw [show (Fin.ofNat 480 (b.val * 40 + min u 39) : Fin 480) = ⟨b.val * 40 + u, by omega⟩ from Fin.ext (by
    show (b.val * 40 + min u 39) % 480 = b.val * 40 + u
    omega)]

theorem out_blank (hU : 0 ≤ ((U (ix1 b) : BitVec 32)).toInt) (u : Fin 41) : k1_pay1 (F := Ideal) (k1_pay54 (F := Ideal) (plane (jointX (F := Ideal) b T U Y so E P w S B) 0)) (ix3 0 t u)
    = Spec.gate t.val u.val (T (ix1 b) : BitVec 32) (((U (ix1 b) : BitVec 32)).toInt + 1) (Spec.logSig (gRow (so (ix1 0)) E P w S B u.val t 512)) := by
  have hu := u.isLt
  have ht := t.isLt
  pointwise [k1_pay1, k1_pay54]
  refine (jointX_apply b T U Y so E P w S B t 0 (⟨u.val, by omega⟩ : Fin 48)).trans ?_
  dsimp only
  rw [joint0]
  exact Spec.gate_row t.val u.val (nRows (U (ix1 b) : BitVec 32)) (by omega) (T (ix1 b) : BitVec 32) _ (rows_le _ hU u.val hu) _ _ rfl

theorem out_lse (hU : 0 ≤ ((U (ix1 b) : BitVec 32)).toInt) (u : Fin 41) : k1_pay3 (F := Ideal) (plane (jointX (F := Ideal) b T U Y so E P w S B) 2) (ix3 0 t u)
    = Spec.gate t.val u.val (T (ix1 b) : BitVec 32) (((U (ix1 b) : BitVec 32)).toInt + 1) (Spec.lse (gLab (so (ix1 0)) E P w S B u.val t)) := by
  have hu := u.isLt
  have ht := t.isLt
  pointwise [k1_pay3]
  refine (jointX_apply b T U Y so E P w S B t 2 (⟨u.val, by omega⟩ : Fin 48)).trans ?_
  dsimp only
  rw [joint2]
  exact Spec.gate_row t.val u.val (nRows (U (ix1 b) : BitVec 32)) (by omega) (T (ix1 b) : BitVec 32) _ (rows_le _ hU u.val hu) _ _ rfl

theorem out_logit (u : Fin 40) (y : BitVec 32) (hy : y.toNat < 512) (he : yword (F := Ideal) Y b.val u.val = y) :
    k1_pay4 (F := Ideal) (plane (jointX (F := Ideal) b T U Y so E P w S B) 3) (ix3 0 t u)
      = Spec.gate t.val u.val (T (ix1 b) : BitVec 32) ((U (ix1 b) : BitVec 32)).toInt (gLab (so (ix1 0)) E P w S B u.val t ⟨y.toNat, hy⟩) := by
  subst he
  have hu := u.isLt
  have ht := t.isLt
  pointwise [k1_pay4]
  refine (jointX_apply b T U Y so E P w S B t 3 (⟨u.val, by omega⟩ : Fin 48)).trans ?_
  dsimp only
  rw [joint3 (hy := hy)]
  exact Spec.gate_row_lt t.val u.val (nRows (U (ix1 b) : BitVec 32)) (by omega) (by omega) (T (ix1 b) : BitVec 32) (U (ix1 b) : BitVec 32) (rows_lt _ u.val hu) _ _ rfl

theorem out_label (u : Fin 40) (y : BitVec 32) (hy : y.toNat < 512) (he : yword (F := Ideal) Y b.val u.val = y) :
    k1_pay2 (F := Ideal) (plane (jointX (F := Ideal) b T U Y so E P w S B) 1) (ix3 0 t u)
      = Spec.gate t.val u.val (T (ix1 b) : BitVec 32) ((U (ix1 b) : BitVec 32)).toInt (Spec.logSig (-(gRow (so (ix1 0)) E P w S B u.val t 512)) + gLab (so (ix1 0)) E P w S B u.val t ⟨y.toNat, hy⟩
          - Spec.lse (gLab (so (ix1 0)) E P w S B u.val t)) := by
  subst he
  have hu := u.isLt
  have ht := t.isLt
  pointwise [k1_pay2]
  refine (jointX_apply b T U Y so E P w S B t 1 (⟨u.val, by omega⟩ : Fin 48)).trans ?_
  dsimp only
  rw [joint1 (hy := hy)]
  exact Spec.gate_row_lt t.val u.val (nRows (U (ix1 b) : BitVec 32)) (by omega) (by omega) (T (ix1 b) : BitVec 32) (U (ix1 b) : BitVec 32) (rows_lt _ u.val hu) _ _ rfl

end Cert.KernelIdeal.Value
end
-- ==== Proof.KernelIdeal.Arrays1.lean ====
/- The four arrays that the second call leaves, entry by entry, from the arrays it is given. -/
module

public import proofs.«01_k».proof.Proof.KernelIdeal.JointValue
public import Idealize.ShloMosaic.Lib.Pipeline.ValueKit

@[expose] public section

set_option maxRecDepth 16384

noncomputable section

namespace Cert.KernelIdeal.Value

open Idealize.ShloMosaic Idealize.ShloMosaic.TcCoe Cert.KernelIdeal.Gen
open Idealize.ShloMosaic.Pipeline (Dat Cfg Window)

theorem idx1 : ∀ t : Fin cfg1.N, win1_0.index t = ![0] ∧ win1_1.index t = ![0] ∧ win1_2.index t = ![0] ∧ win1_3.index t = ![0]
    ∧ win1_4.index t = ![t.val, 0, 0] ∧ win1_5.index t = ![t.val, 0, 0] ∧ win1_6.index t = ![0, 0] ∧ win1_7.index t = ![0, 0] ∧ win1_8.index t = ![0, 0]
    ∧ win1_9.index t = ![t.val, 0, 0] ∧ win1_10.index t = ![t.val, 0, 0] ∧ win1_11.index t = ![t.val, 0, 0] ∧ win1_12.index t = ![t.val, 0, 0] :=
  (by decide +kernel : ∀ t : Fin grid1.N, _)

/-- A logit, from whole arrays. -/
def rowAt (zs : EReal) (E : S12x128x640.Idx → EReal) (P : S12x41x640.Idx → EReal) (w : S513x640.Idx → BitVec 8) (S B : S1x513.Idx → EReal)
    (b : Fin 12) (t : Fin 128) (u : Fin 41) (v : Fin 513) : EReal :=
  Spec.logit (fun j => Spec.zCode zs (E (ix3 b t j)) (P (ix3 b u j))) (fun j => w (ix2 v j)) zs (S (ix2 0 v)) (B (ix2 0 v))

variable (V : (c : Dev nD) → (b : Ref sig .tc) → Buf (Elt Ideal) ((c : Thread nD τ).loc b)) (c : Dev nD) (t : Fin cfg1.N)

abbrev gOf : Fin 12 → Fin 128 → Fin 41 → Fin 513 → EReal :=
  rowAt ((V c main_v8 : Vec Ideal S1 .f32) (ix1 0)) (V c main_v4_0) (V c main_v4_1) (V c main_arg9) (V c main_v9) (V c main_v10)

/-- The point's number as a row of the batch. -/
def pt : Fin 12 := grid1.coords t 0
theorem pt_val : (pt t).val = t.val := coords1 t

theorem r0 (i : Fin 12) : (iblk1 V c 0 t : Vec Ideal S12 .i32) (ix1 i) = (V c main_arg13 : Vec Ideal S12 .i32) (ix1 i) := by
  blk_ext [iblk1, idx1 t]
theorem r1 (i : Fin 12) : (iblk1 V c 1 t : Vec Ideal S12 .i32) (ix1 i) = (V c main_arg14 : Vec Ideal S12 .i32) (ix1 i) := by
  blk_ext [iblk1, idx1 t]
theorem r2 (i : Fin 480) : (iblk1 V c 2 t : Vec Ideal S480 .i32) (ix1 i) = (V c main_v7 : Vec Ideal S480 .i32) (ix1 i) := by
  blk_ext [iblk1, idx1 t]
theorem r3 (i : Fin 1) : (iblk1 V c 3 t : Vec Ideal S1 .f32) (ix1 i) = (V c main_v8 : Vec Ideal S1 .f32) (ix1 i) := by
  blk_ext [iblk1, idx1 t]
theorem r4 (l : Fin 128) (j : Fin 640) : (iblk1 V c 4 t : Vec Ideal S1x128x640 .f32) (ix3 0 l j) = (V c main_v4_0 : Vec Ideal S12x128x640 .f32) (ix3 (pt t) l j) := by
  have := pt_val t
  blk_ext [iblk1, idx1 t, pt_val t]
theorem r5 (u : Fin 41) (j : Fin 640) : (iblk1 V c 5 t : Vec Ideal S1x41x640 .f32) (ix3 0 u j) = (V c main_v4_1 : Vec Ideal S12x41x640 .f32) (ix3 (pt t) u j) := by
  have := pt_val t
  blk_ext [iblk1, idx1 t, pt_val t]
theorem r6 (v : Fin 513) (j : Fin 640) : (iblk1 V c 6 t : Vec Ideal S513x640 .i8) (ix2 v j) = (V c main_arg9 : Vec Ideal S513x640 .i8) (ix2 v j) := by
  blk_ext [iblk1, idx1 t]
theorem r7 (v : Fin 513) : (iblk1 V c 7 t : Vec Ideal S1x513 .f32) (ix2 0 v) = (V c main_v9 : Vec Ideal S1x513 .f32) (ix2 0 v) := by
  blk_ext [iblk1, idx1 t]
theorem r8 (v : Fin 513) : (iblk1 V c 8 t : Vec Ideal S1x513 .f32) (ix2 0 v) = (V c main_v10 : Vec Ideal S1x513 .f32) (ix2 0 v) := by
  blk_ext [iblk1, idx1 t]

/-- The logits at a point, from whole arrays. -/
theorem row_blk (l : Fin 128) (u : Fin 41) (v : Fin 513) :
    gRow ((iblk1 V c 3 t : Vec Ideal S1 .f32) (ix1 0)) (iblk1 V c 4 t) (iblk1 V c 5 t) (iblk1 V c 6 t) (iblk1 V c 7 t) (iblk1 V c 8 t) u.val l v = gOf V c (pt t) l u v := by
  have hu : (Fin.ofNat 41 u.val : Fin 41) = u := Fin.ext (Nat.mod_eq_of_lt u.isLt)
  unfold gRow zRow gOf rowAt
  rw [hu, r3, r7, r8]
  refine congrArg₂ (fun z w => Spec.logit z w _ _ _) (funext fun j => ?_) (funext fun j => r6 V c t v j)
  rw [r4, r5]
theorem lab_blk (l : Fin 128) (u : Fin 41) :
    gLab ((iblk1 V c 3 t : Vec Ideal S1 .f32) (ix1 0)) (iblk1 V c 4 t) (iblk1 V c 5 t) (iblk1 V c 6 t) (iblk1 V c 7 t) (iblk1 V c 8 t) u.val l
      = fun v : Fin 512 => gOf V c (pt t) l u ⟨v.val, by have := v.isLt; omega⟩ :=
  funext fun v => row_blk V c t l u _

/-- The four arrays. -/
def blankArr (g : Fin 12 → Fin 128 → Fin 41 → Fin 513 → EReal) (T U : S12.Idx → BitVec 32) : S12x128x41.Idx → EReal :=
  fun i => Spec.gate (i 1).val (i 2).val (T (ix1 (i 0))) ((U (ix1 (i 0))).toInt + 1) (Spec.logSig (g (i 0) (i 1) (i 2) 512))
def lseArr (g : Fin 12 → Fin 128 → Fin 41 → Fin 513 → EReal) (T U : S12.Idx → BitVec 32) : S12x128x41.Idx → EReal :=
  fun i => Spec.gate (i 1).val (i 2).val (T (ix1 (i 0))) ((U (ix1 (i 0))).toInt + 1) (Spec.lse fun v => g (i 0) (i 1) (i 2) ⟨v.val, by have := v.isLt; omega⟩)
/-- A label's place among the classes. -/
def lab (y : BitVec 32) : Fin 513 := if h : y.toNat < 513 then ⟨y.toNat, h⟩ else 0
def logitArr (g : Fin 12 → Fin 128 → Fin 41 → Fin 513 → EReal) (T U : S12.Idx → BitVec 32) (Y : Fin 12 → Fin 40 → BitVec 32) : S12x128x40.Idx → EReal :=
  fun i => Spec.gate (i 1).val (i 2).val (T (ix1 (i 0))) (U (ix1 (i 0))).toInt (g (i 0) (i 1) ⟨(i 2).val, Nat.lt_succ_of_lt (i 2).isLt⟩ (lab (Y (i 0) (i 2))))
def labelArr (g : Fin 12 → Fin 128 → Fin 41 → Fin 513 → EReal) (T U : S12.Idx → BitVec 32) (Y : Fin 12 → Fin 40 → BitVec 32) : S12x128x40.Idx → EReal :=
  fun i => Spec.gate (i 1).val (i 2).val (T (ix1 (i 0))) (U (ix1 (i 0))).toInt
    (Spec.logSig (-(g (i 0) (i 1) ⟨(i 2).val, Nat.lt_succ_of_lt (i 2).isLt⟩ 512)) + g (i 0) (i 1) ⟨(i 2).val, Nat.lt_succ_of_lt (i 2).isLt⟩ (lab (Y (i 0) (i 2)))
      - Spec.lse fun v => g (i 0) (i 1) ⟨(i 2).val, Nat.lt_succ_of_lt (i 2).isLt⟩ ⟨v.val, by have := v.isLt; omega⟩)

theorem lab_eq (y : BitVec 32) (h : y.toNat < 512) : lab y = ⟨y.toNat, by omega⟩ := dif_pos _

theorem logitArr_at (g : Fin 12 → Fin 128 → Fin 41 → Fin 513 → EReal) (T U : S12.Idx → BitVec 32) (Y : Fin 12 → Fin 40 → BitVec 32) (b : Fin 12) (t : Fin 128) (u : Fin 40)
    (h : (Y b u).toNat < 512) : logitArr g T U Y (ix3 b t u)
      = Spec.gate t.val u.val (T (ix1 b)) (U (ix1 b)).toInt (g b t ⟨u.val, Nat.lt_succ_of_lt u.isLt⟩ ⟨(Y b u).toNat, by omega⟩) := by
  show Spec.gate t.val u.val (T (ix1 b)) (U (ix1 b)).toInt (g b t ⟨u.val, Nat.lt_succ_of_lt u.isLt⟩ (lab (Y b u))) = _
  rw [lab_eq _ h]
theorem labelArr_at (g : Fin 12 → Fin 128 → Fin 41 → Fin 513 → EReal) (T U : S12.Idx → BitVec 32) (Y : Fin 12 → Fin 40 → BitVec 32) (b : Fin 12) (t : Fin 128) (u : Fin 40)
    (h : (Y b u).toNat < 512) : labelArr g T U Y (ix3 b t u)
      = Spec.gate t.val u.val (T (ix1 b)) (U (ix1 b)).toInt
          (Spec.logSig (-(g b t ⟨u.val, Nat.lt_succ_of_lt u.isLt⟩ 512)) + g b t ⟨u.val, Nat.lt_succ_of_lt u.isLt⟩ ⟨(Y b u).toNat, by omega⟩
            - Spec.lse fun v => g b t ⟨u.val, Nat.lt_succ_of_lt u.isLt⟩ ⟨v.val, by have := v.isLt; omega⟩) := by
  show Spec.gate t.val u.val (T (ix1 b)) (U (ix1 b)).toInt (Spec.logSig (-(g b t ⟨u.val, Nat.lt_succ_of_lt u.isLt⟩ 512)) + g b t ⟨u.val, Nat.lt_succ_of_lt u.isLt⟩ (lab (Y b u)) - _) = _
  rw [lab_eq _ h]
  rfl

variable (hU : ∀ b : Fin 12, 0 ≤ ((V c main_arg14 : Vec Ideal S12 .i32) (ix1 b) : BitVec 32).toInt)

include hU in
theorem arr1_9 : (dat1 V c).arrAt 9 cfg1.N = blankArr (gOf V c) (V c main_arg13) (V c main_arg14) := by
  refine (dat1 V c).arrAt_eq_of_covers 9 _ (by decide +kernel) fun t hf y => ?_
  blk_simp
  rw [after1_9]; frame_out
  obtain ⟨y0, l, u, rfl⟩ : ∃ (y0 : Fin 1) (l : Fin 128) (u : Fin 41), y = ix3 y0 l u := ⟨y 0, y 1, y 2, eq_ix3 y⟩
  obtain rfl : y0 = 0 := Subsingleton.elim _ _
  unfold X1
  refine (out_blank (pt t) _ _ _ _ _ _ _ _ _ l (by rw [r1]; exact hU _) u).trans ?_
  rw [r0, r1, row_blk]
  refine Eq.trans (b := blankArr (gOf V c) (V c main_arg13) (V c main_arg14) (ix3 (pt t) l u)) rfl ?_
  have := pt_val t
  blk_ext [idx1 t, pt_val t]

include hU in
theorem arr1_11 : (dat1 V c).arrAt 11 cfg1.N = lseArr (gOf V c) (V c main_arg13) (V c main_arg14) := by
  refine (dat1 V c).arrAt_eq_of_covers 11 _ (by decide +kernel) fun t hf y => ?_
  blk_simp
  rw [after1_11]; frame_out
  obtain ⟨y0, l, u, rfl⟩ : ∃ (y0 : Fin 1) (l : Fin 128) (u : Fin 41), y = ix3 y0 l u := ⟨y 0, y 1, y 2, eq_ix3 y⟩
  obtain rfl : y0 = 0 := Subsingleton.elim _ _
  unfold X1
  refine (out_lse (pt t) _ _ _ _ _ _ _ _ _ l (by rw [r1]; exact hU _) u).trans ?_
  rw [r0, r1, lab_blk]
  refine Eq.trans (b := lseArr (gOf V c) (V c main_arg13) (V c main_arg14) (ix3 (pt t) l u)) rfl ?_
  have := pt_val t
  blk_ext [idx1 t, pt_val t]

/-- The label of a step, from the flat labels. -/
abbrev yOf (b : Fin 12) (u : Fin 40) : BitVec 32 := (V c main_v7 : Vec Ideal S480 .i32) (ix1 (⟨b.val * 40 + u.val, by have := b.isLt; have := u.isLt; omega⟩ : Fin 480))

theorem word_blk (u : Fin 40) : yword (F := Ideal) (iblk1 V c 2 t) (pt t).val u.val = yOf V c (pt t) u := by
  rw [yword_apply (pt t) (iblk1 V c 2 t) u.val u.isLt, r2]

variable (hY : ∀ (b : Fin 12) (u : Fin 40), (yOf V c b u).toNat < 512)

include hY in
theorem arr1_12 : (dat1 V c).arrAt 12 cfg1.N = logitArr (gOf V c) (V c main_arg13) (V c main_arg14) (yOf V c) := by
  refine (dat1 V c).arrAt_eq_of_covers 12 _ (by decide +kernel) fun t hf y => ?_
  blk_simp
  rw [after1_12]; frame_out
  obtain ⟨y0, l, u, rfl⟩ : ∃ (y0 : Fin 1) (l : Fin 128) (u : Fin 40), y = ix3 y0 l u := ⟨y 0, y 1, y 2, eq_ix3 y⟩
  obtain rfl : y0 = 0 := Subsingleton.elim _ _
  unfold X1
  refine (out_logit (pt t) _ _ _ _ _ _ _ _ _ l u _ (hY (pt t) u) (word_blk V c t u)).trans ?_
  rw [r0, r1, lab_blk V c t l (⟨u.val, Nat.lt_succ_of_lt u.isLt⟩ : Fin 41)]
  refine Eq.trans (b := logitArr (gOf V c) (V c main_arg13) (V c main_arg14) (yOf V c) (ix3 (pt t) l u)) (logitArr_at _ _ _ _ _ _ _ (hY _ _)).symm ?_
  have := pt_val t
  blk_ext [idx1 t, pt_val t]

include hY in
theorem arr1_10 : (dat1 V c).arrAt 10 cfg1.N = labelArr (gOf V c) (V c main_arg13) (V c main_arg14) (yOf V c) := by
  refine (dat1 V c).arrAt_eq_of_covers 10 _ (by decide +kernel) fun t hf y => ?_
  blk_simp
  rw [after1_10]; frame_out
  obtain ⟨y0, l, u, rfl⟩ : ∃ (y0 : Fin 1) (l : Fin 128) (u : Fin 40), y = ix3 y0 l u := ⟨y 0, y 1, y 2, eq_ix3 y⟩
  obtain rfl : y0 = 0 := Subsingleton.elim _ _
  unfold X1
  refine (out_label (pt t) _ _ _ _ _ _ _ _ _ l u _ (hY (pt t) u) (word_blk V c t u)).trans ?_
  rw [r0, r1, lab_blk V c t l (⟨u.val, Nat.lt_succ_of_lt u.isLt⟩ : Fin 41), row_blk V c t l (⟨u.val, Nat.lt_succ_of_lt u.isLt⟩ : Fin 41)]
  refine Eq.trans (b := labelArr (gOf V c) (V c main_arg13) (V c main_arg14) (yOf V c) (ix3 (pt t) l u)) (labelArr_at _ _ _ _ _ _ _ (hY _ _)).symm ?_
  have := pt_val t
  blk_ext [idx1 t, pt_val t]

end Cert.KernelIdeal.Value
end
-- ==== Proof.KernelIdeal.Host.lean ====
/- The arrays between the two calls and after them, from the argument arrays. -/
module

public import proofs.«01_k».proof.Proof.KernelIdeal.LabelWords
public import proofs.«01_k».proof.Proof.KernelIdeal.Arrays0
public import proofs.«01_k».proof.Proof.KernelIdeal.Arrays1

@[expose] public section

set_option maxRecDepth 16384

noncomputable section

namespace Cert.KernelIdeal.Value

open Idealize.ShloMosaic Idealize.ShloMosaic.TcCoe Idealize.ShloMosaic.Tactic Cert.KernelIdeal.Gen

variable (m : (ℓ : Loc nD τ sig) → Buf (Elt Ideal) ℓ) (ρ : Dev nD → PrngReg) (c : Dev nD)

/-! ## Before the first call -/

theorem V1_v0 : V1 m ρ c main_v0 = shapeCast S1x640 (m ((c : Thread nD τ).loc main_arg3) : Vec Ideal S640 .f32) shapeCasts_S640_S1x640 := by
  unfold_abbrev_sides
  after_results
  rfl
theorem V1_v1 : V1 m ρ c main_v1 = shapeCast S1x640 (m ((c : Thread nD τ).loc main_arg4) : Vec Ideal S640 .f32) shapeCasts_S640_S1x640 := by
  unfold_abbrev_sides
  after_results
  rfl
theorem V1_v2 : V1 m ρ c main_v2 = shapeCast S1x640 (m ((c : Thread nD τ).loc main_arg6) : Vec Ideal S640 .f32) shapeCasts_S640_S1x640 := by
  unfold_abbrev_sides
  after_results
  rfl
theorem V1_v3 : V1 m ρ c main_v3 = shapeCast S1x640 (m ((c : Thread nD τ).loc main_arg7) : Vec Ideal S640 .f32) shapeCasts_S640_S1x640 := by
  unfold_abbrev_sides
  after_results
  rfl

theorem row640 (x : Vec Ideal S640 .f32) (j : Fin 640) : (shapeCast S1x640 x shapeCasts_S640_S1x640 : Vec Ideal S1x640 .f32) (ix2 0 j) = x (ix1 j) := by
  pointwise
theorem row513 (x : Vec Ideal S513 .f32) (j : Fin 513) : (shapeCast S1x513 x shapeCasts_S513_S1x513 : Vec Ideal S1x513 .f32) (ix2 0 j) = x (ix1 j) := by
  pointwise
theorem row1 (x : Vec Ideal S_ .f32) : (shapeCast S1 x shapeCasts_S_S1 : Vec Ideal S1 .f32) (ix1 0) = x ix0 := by
  pointwise
theorem flat480 (x : Vec Ideal S12x40 .i32) (b : Fin 12) (u : Fin 40) :
    (shapeCast S480 x shapeCasts_S12x40_S480 : Vec Ideal S480 .i32) (ix1 (⟨b.val * 40 + u.val, by have := b.isLt; have := u.isLt; omega⟩ : Fin 480)) = x (ix2 b u) := by
  have hb := b.isLt
  have hu := u.isLt
  pointwise
theorem flat128 (x : Vec Ideal S12x1x128 .f32) (b : Fin 12) (t : Fin 128) : (shapeCast S12x128 x shapeCasts_S12x1x128_S12x128 : Vec Ideal S12x128 .f32) (ix2 b t) = x (ix3 b 0 t) := by
  pointwise
theorem flat41 (x : Vec Ideal S12x1x41 .f32) (b : Fin 12) (u : Fin 41) : (shapeCast S12x41 x shapeCasts_S12x1x41_S12x41 : Vec Ideal S12x41 .f32) (ix2 b u) = x (ix3 b 0 u) := by
  pointwise

/-! ## Between the calls -/

theorem V3_v8 : V3 m ρ c main_v8 = shapeCast S1 (m ((c : Thread nD τ).loc main_arg8) : Vec Ideal S_ .f32) shapeCasts_S_S1 := by
  have h : V3 m ρ c main_v8 = shapeCast S1 (W2 m ρ c (Proc.devRef .tc main_arg8) : Vec Ideal S_ .f32) shapeCasts_S_S1 := by
    unfold_abbrev_sides
    after_results
    rfl
  rw [h, W2_args m ρ c main_arg8 (by decide)]
theorem V3_v9 : V3 m ρ c main_v9 = shapeCast S1x513 (m ((c : Thread nD τ).loc main_arg10) : Vec Ideal S513 .f32) shapeCasts_S513_S1x513 := by
  have h : V3 m ρ c main_v9 = shapeCast S1x513 (W2 m ρ c (Proc.devRef .tc main_arg10) : Vec Ideal S513 .f32) shapeCasts_S513_S1x513 := by
    unfold_abbrev_sides
    after_results
    rfl
  rw [h, W2_args m ρ c main_arg10 (by decide)]
theorem V3_v10 : V3 m ρ c main_v10 = shapeCast S1x513 (m ((c : Thread nD τ).loc main_arg11) : Vec Ideal S513 .f32) shapeCasts_S513_S1x513 := by
  have h : V3 m ρ c main_v10 = shapeCast S1x513 (W2 m ρ c (Proc.devRef .tc main_arg11) : Vec Ideal S513 .f32) shapeCasts_S513_S1x513 := by
    unfold_abbrev_sides
    after_results
    rfl
  rw [h, W2_args m ρ c main_arg11 (by decide)]

/-- The projections and codes and scales of the first call, over the arguments. -/
abbrev encK : S12x128x640.Idx → EReal :=
  projArr (R := 128) (K := 512) (m ((c : Thread nD τ).loc main_arg0)) (m ((c : Thread nD τ).loc main_arg2))
    (shapeCast S1x640 (m ((c : Thread nD τ).loc main_arg3) : Vec Ideal S640 .f32) shapeCasts_S640_S1x640)
    (shapeCast S1x640 (m ((c : Thread nD τ).loc main_arg4) : Vec Ideal S640 .f32) shapeCasts_S640_S1x640)
abbrev predK : S12x41x640.Idx → EReal :=
  projArr (R := 41) (K := 320) (m ((c : Thread nD τ).loc main_arg1)) (m ((c : Thread nD τ).loc main_arg5))
    (shapeCast S1x640 (m ((c : Thread nD τ).loc main_arg6) : Vec Ideal S640 .f32) shapeCasts_S640_S1x640)
    (shapeCast S1x640 (m ((c : Thread nD τ).loc main_arg7) : Vec Ideal S640 .f32) shapeCasts_S640_S1x640)

theorem W2_enc : W2 m ρ c (Proc.devRef .tc main_v4_0) = encK m c := by
  refine (W2_arr m ρ c 8).trans ((arr0_8 (V1 m ρ) c).trans ?_)
  rw [V1_v0, V1_v1]
  exact congrArg₂ (fun x w => projArr x w _ _) (W1_args m ρ c main_arg0 (by decide)) (W1_args m ρ c main_arg2 (by decide))
theorem W2_pred : W2 m ρ c (Proc.devRef .tc main_v4_1) = predK m c := by
  refine (W2_arr m ρ c 9).trans ((arr0_9 (V1 m ρ) c).trans ?_)
  rw [V1_v2, V1_v3]
  exact congrArg₂ (fun x w => projArr x w _ _) (W1_args m ρ c main_arg1 (by decide)) (W1_args m ρ c main_arg5 (by decide))
theorem W2_codeX : W2 m ρ c (Proc.devRef .tc main_v4_2) = codeArr (R := 128) (K := 512) (m ((c : Thread nD τ).loc main_arg0)) :=
  (W2_arr m ρ c 10).trans ((arr0_10 (V1 m ρ) c).trans (congrArg (fun x => codeArr x) (W1_args m ρ c main_arg0 (by decide))))
theorem W2_scaleX : W2 m ρ c (Proc.devRef .tc main_v4_3) = scaleArr (R := 128) (K := 512) (m ((c : Thread nD τ).loc main_arg0)) :=
  (W2_arr m ρ c 11).trans ((arr0_11 (V1 m ρ) c).trans (congrArg (fun x => scaleArr x) (W1_args m ρ c main_arg0 (by decide))))
theorem W2_codeP : W2 m ρ c (Proc.devRef .tc main_v4_4) = codeArr (R := 41) (K := 320) (m ((c : Thread nD τ).loc main_arg1)) :=
  (W2_arr m ρ c 12).trans ((arr0_12 (V1 m ρ) c).trans (congrArg (fun x => codeArr x) (W1_args m ρ c main_arg1 (by decide))))
theorem W2_scaleP : W2 m ρ c (Proc.devRef .tc main_v4_5) = scaleArr (R := 41) (K := 320) (m ((c : Thread nD τ).loc main_arg1)) :=
  (W2_arr m ρ c 13).trans ((arr0_13 (V1 m ρ) c).trans (congrArg (fun x => scaleArr x) (W1_args m ρ c main_arg1 (by decide))))

/-- The logits over the arguments. -/
abbrev gK : Fin 12 → Fin 128 → Fin 41 → Fin 513 → EReal :=
  rowAt ((m ((c : Thread nD τ).loc main_arg8) : Vec Ideal S_ .f32) ix0) (encK m c) (predK m c) (m ((c : Thread nD τ).loc main_arg9))
    (shapeCast S1x513 (m ((c : Thread nD τ).loc main_arg10) : Vec Ideal S513 .f32) shapeCasts_S513_S1x513)
    (shapeCast S1x513 (m ((c : Thread nD τ).loc main_arg11) : Vec Ideal S513 .f32) shapeCasts_S513_S1x513)

theorem V3_g : gOf (V3 m ρ) c = gK m c := by
  unfold gOf gK
  rw [V3_v8, V3_v9, V3_v10, row1, show V3 m ρ c main_v4_0 = encK m c from (W3_of m ρ c main_v4_0 (by decide)).trans (W2_enc m ρ c),
    show V3 m ρ c main_v4_1 = predK m c from (W3_of m ρ c main_v4_1 (by decide)).trans (W2_pred m ρ c),
    show V3 m ρ c main_arg9 = m ((c : Thread nD τ).loc main_arg9) from W3_args m ρ c main_arg9 (by decide)]
theorem V3_y : yOf (V3 m ρ) c = fun b u => (m ((c : Thread nD τ).loc main_arg12) : Vec Ideal S12x40 .i32) (ix2 b u) := by
  funext b u
  unfold yOf
  rw [V3_main_v7, flat480]
theorem V3_T : V3 m ρ c main_arg13 = m ((c : Thread nD τ).loc main_arg13) := W3_args m ρ c main_arg13 (by decide)
theorem V3_U : V3 m ρ c main_arg14 = m ((c : Thread nD τ).loc main_arg14) := W3_args m ρ c main_arg14 (by decide)

/-! ## At the end -/

theorem W5_enc : W5 m ρ c (Proc.devRef .tc main_v4_0) = encK m c :=
  (W5_of m ρ c main_v4_0 (by decide)).trans ((W4_of m ρ c main_v4_0 (by decide)).trans ((W3_of m ρ c main_v4_0 (by decide)).trans (W2_enc m ρ c)))
theorem W5_pred : W5 m ρ c (Proc.devRef .tc main_v4_1) = predK m c :=
  (W5_of m ρ c main_v4_1 (by decide)).trans ((W4_of m ρ c main_v4_1 (by decide)).trans ((W3_of m ρ c main_v4_1 (by decide)).trans (W2_pred m ρ c)))
theorem W5_codeX : W5 m ρ c (Proc.devRef .tc main_v4_2) = codeArr (R := 128) (K := 512) (m ((c : Thread nD τ).loc main_arg0)) :=
  (W5_of m ρ c main_v4_2 (by decide)).trans ((W4_of m ρ c main_v4_2 (by decide)).trans ((W3_of m ρ c main_v4_2 (by decide)).trans (W2_codeX m ρ c)))
theorem W5_codeP : W5 m ρ c (Proc.devRef .tc main_v4_4) = codeArr (R := 41) (K := 320) (m ((c : Thread nD τ).loc main_arg1)) :=
  (W5_of m ρ c main_v4_4 (by decide)).trans ((W4_of m ρ c main_v4_4 (by decide)).trans ((W3_of m ρ c main_v4_4 (by decide)).trans (W2_codeP m ρ c)))
theorem W4_scaleX : W4 m ρ c (Proc.devRef .tc main_v4_3) = scaleArr (R := 128) (K := 512) (m ((c : Thread nD τ).loc main_arg0)) :=
  (W4_of m ρ c main_v4_3 (by decide)).trans ((W3_of m ρ c main_v4_3 (by decide)).trans (W2_scaleX m ρ c))
theorem W4_scaleP : W4 m ρ c (Proc.devRef .tc main_v4_5) = scaleArr (R := 41) (K := 320) (m ((c : Thread nD τ).loc main_arg1)) :=
  (W4_of m ρ c main_v4_5 (by decide)).trans ((W3_of m ρ c main_v4_5 (by decide)).trans (W2_scaleP m ρ c))
theorem W5_scaleX : W5 m ρ c (Proc.devRef .tc main_v12)
    = shapeCast S12x128 (scaleArr (R := 128) (K := 512) (m ((c : Thread nD τ).loc main_arg0)) : Vec Ideal S12x1x128 .f32) shapeCasts_S12x1x128_S12x128 := by
  have h : W5 m ρ c (Proc.devRef .tc main_v12) = shapeCast S12x128 (W4 m ρ c (Proc.devRef .tc main_v4_3) : Vec Ideal S12x1x128 .f32) shapeCasts_S12x1x128_S12x128 := by
    unfold_abbrev_sides
    after_results
    rfl
  rw [h, W4_scaleX]
theorem W5_scaleP : W5 m ρ c (Proc.devRef .tc main_v13)
    = shapeCast S12x41 (scaleArr (R := 41) (K := 320) (m ((c : Thread nD τ).loc main_arg1)) : Vec Ideal S12x1x41 .f32) shapeCasts_S12x1x41_S12x41 := by
  have h : W5 m ρ c (Proc.devRef .tc main_v13) = shapeCast S12x41 (W4 m ρ c (Proc.devRef .tc main_v4_5) : Vec Ideal S12x1x41 .f32) shapeCasts_S12x1x41_S12x41 := by
    unfold_abbrev_sides
    after_results
    rfl
  rw [h, W4_scaleP]

section
variable (hU : ∀ b : S12.Idx, 0 ≤ ((m ((c : Thread nD τ).loc main_arg14) : Vec Ideal S12 .i32) b : BitVec 32).toInt)
  (hY : ∀ i : S12x40.Idx, ((m ((c : Thread nD τ).loc main_arg12) : Vec Ideal S12x40 .i32) i : BitVec 32).toNat < 512)

/-- The label words over the arguments. -/
abbrev yK : Fin 12 → Fin 40 → BitVec 32 := fun b u => (m ((c : Thread nD τ).loc main_arg12) : Vec Ideal S12x40 .i32) (ix2 b u)

include hU in
theorem W5_blank : W5 m ρ c (Proc.devRef .tc main_v11_0) = blankArr (gK m c) (m ((c : Thread nD τ).loc main_arg13)) (m ((c : Thread nD τ).loc main_arg14)) := by
  refine (W5_of m ρ c main_v11_0 (by decide)).trans ((W4_arr m ρ c 9).trans ((arr1_9 (V3 m ρ) c (fun b => ?_)).trans ?_))
  · rw [V3_U]; exact hU _
  · rw [V3_g, V3_T, V3_U]
include hU in
theorem W5_lse : W5 m ρ c (Proc.devRef .tc main_v11_2) = lseArr (gK m c) (m ((c : Thread nD τ).loc main_arg13)) (m ((c : Thread nD τ).loc main_arg14)) := by
  refine (W5_of m ρ c main_v11_2 (by decide)).trans ((W4_arr m ρ c 11).trans ((arr1_11 (V3 m ρ) c (fun b => ?_)).trans ?_))
  · rw [V3_U]; exact hU _
  · rw [V3_g, V3_T, V3_U]
include hY in
theorem W5_label : W5 m ρ c (Proc.devRef .tc main_v11_1) = labelArr (gK m c) (m ((c : Thread nD τ).loc main_arg13)) (m ((c : Thread nD τ).loc main_arg14)) (yK m c) := by
  refine (W5_of m ρ c main_v11_1 (by decide)).trans ((W4_arr m ρ c 10).trans ((arr1_10 (V3 m ρ) c (fun b u => ?_)).trans ?_))
  · rw [V3_y]; exact hY _
  · rw [V3_g, V3_T, V3_U, V3_y]
include hY in
theorem W5_logit : W5 m ρ c (Proc.devRef .tc main_v11_3) = logitArr (gK m c) (m ((c : Thread nD τ).loc main_arg13)) (m ((c : Thread nD τ).loc main_arg14)) (yK m c) := by
  refine (W5_of m ρ c main_v11_3 (by decide)).trans ((W4_arr m ρ c 12).trans ((arr1_12 (V3 m ρ) c (fun b u => ?_)).trans ?_))
  · rw [V3_y]; exact hY _
  · rw [V3_g, V3_T, V3_U, V3_y]
end

end Cert.KernelIdeal.Value
end
-- ==== Proof.Ref.Enc.lean ====
/- The reference's codes, scales and projections, entry by entry, as the functions of `Spec`. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Value

open Idealize.ShloMosaic Idealize.ShloMosaic.StableHlo Cert.ReferenceIdeal.Gen

variable (V0 : Valuation τ sig (Elt Ideal))

abbrev A0 : Vec Ideal S12x128x512 .bf16 := V0 (Proc.devRef .tc main_arg0)
abbrev A1 : Vec Ideal S12x41x320 .bf16 := V0 (Proc.devRef .tc main_arg1)
abbrev A2 : Vec Ideal S512x640 .i8 := V0 (Proc.devRef .tc main_arg2)
abbrev A3 : Vec Ideal S640 .f32 := V0 (Proc.devRef .tc main_arg3)
abbrev A4 : Vec Ideal S640 .f32 := V0 (Proc.devRef .tc main_arg4)
abbrev A5 : Vec Ideal S320x640 .i8 := V0 (Proc.devRef .tc main_arg5)
abbrev A6 : Vec Ideal S640 .f32 := V0 (Proc.devRef .tc main_arg6)
abbrev A7 : Vec Ideal S640 .f32 := V0 (Proc.devRef .tc main_arg7)

/-- The encoder's row. -/
def xRow (b : Fin 12) (t : Fin 128) (k : Fin 512) : EReal := A0 V0 (ix3 b t k)
/-- The predictor's row. -/
def pRow (b : Fin 12) (u : Fin 41) (k : Fin 320) : EReal := A1 V0 (ix3 b u k)
/-- An entry of the encoder's projection. -/
def encAt (b : Fin 12) (t : Fin 128) (j : Fin 640) : EReal := Spec.proj (xRow V0 b t) (fun k => A2 V0 (ix2 k j)) (A3 V0 (ix1 j)) (A4 V0 (ix1 j))
/-- An entry of the predictor's projection. -/
def predAt (b : Fin 12) (u : Fin 41) (j : Fin 640) : EReal := Spec.proj (pRow V0 b u) (fun k => A5 V0 (ix2 k j)) (A6 V0 (ix1 j)) (A7 V0 (ix1 j))

theorem fold_x (f : S12x128x512.Idx → EReal) (b : Fin 12) (t : Fin 128) (z : EReal) :
    Finset.fold max z f {i | reducesTo_S12x128x512_S12x128_d2.drop i = ix2 b t} = Finset.univ.fold max z (fun k : Fin 512 => f (ix3 b t k)) :=
  Shape.ReducesTo.fold_fiber_r3_a2 (n0 := 12) (n1 := 128) (n2 := 512) reducesTo_S12x128x512_S12x128_d2 (ix2 b t) max z f
theorem fold_p (f : S12x41x320.Idx → EReal) (b : Fin 12) (t : Fin 41) (z : EReal) :
    Finset.fold max z f {i | reducesTo_S12x41x320_S12x41_d2.drop i = ix2 b t} = Finset.univ.fold max z (fun k : Fin 320 => f (ix3 b t k)) :=
  Shape.ReducesTo.fold_fiber_r3_a2 (n0 := 12) (n1 := 41) (n2 := 320) reducesTo_S12x41x320_S12x41_d2 (ix2 b t) max z f

section Enc
variable (b : Fin 12) (t : Fin 128) (k : Fin 512) (j : Fin 640)

theorem v2_apply : (res_main_v2 V0 : Vec Ideal S12x128 .f32) (ix2 b t) = Spec.rowMax (xRow V0 b t) := by
  pointwise [res_main_v2, res_main_v0]
  exact fold_x _ b t _

theorem v7_apply : (res_main_v7 V0 : Vec Ideal S12x128 .f32) (ix2 b t) = Spec.rowScale (xRow V0 b t) := by
  pointwise [res_main_v7]
  rw [v2_apply]
  unfold Spec.rowScale
  rw [show (id (constant (F := Ideal) S_ .f32 1065353216#32) : Vec Ideal S_ .f32) ix0 = 1 from IdealRules.sign_bit.ideal_onePat .f32]

/-- The codes of the encoder's input as the reference stores them. -/
def codesXOf (a : FVec Ideal S12x128x512 .f32) (s : FVec Ideal S12x128 .f32) : Vec Ideal S12x128x512 .i8 :=
  trunci 8 (fptosi 32 (minimumf (broadcastInDim S12x128x512 ![] bcast_S_S12x128x512 (sitofp .f32 (constantI S_ 32 127#32))) (maximumf (broadcastInDim S12x128x512 ![] bcast_S_S12x128x512 (sitofp .f32 (constantI S_ 32 4294967169#32))) (Host.roundeven (Host.divf a (broadcastInDim S12x128x512 ![0, 1, 2] bcast_S12x128x1_S12x128x512_0_1_2 (broadcastInDim S12x128x1 ![0, 1] bcast_S12x128_S12x128x1_0_1 s))))))) natLt_8_32
abbrev codesX : Vec Ideal S12x128x512 .i8 := codesXOf (res_main_v0 V0) (res_main_v7 V0)

theorem codesX_apply : codesX V0 (ix3 b t k) = Ideal.fptosi 8 (Spec.rowCode (xRow V0 b t) k) := by
  refine Eq.trans ?_ (Spec.code_word 4294967169#32 Spec.lo_neg (Ideal.div (xRow V0 b t k) (Spec.rowScale (xRow V0 b t))))
  have e : ∀ (a : FVec Ideal S12x128x512 .f32) (s : FVec Ideal S12x128 .f32), codesXOf a s (ix3 b t k)
      = BitVec.setWidth 8 (Ideal.fptosi 32 (Spec.code 4294967169#32 (Ideal.div (a (ix3 b t k)) (s (ix2 b t))))) := fun a s => by
    pointwise [codesXOf]
    rfl
  refine (e _ _).trans ?_
  rw [v7_apply]
  rfl

def projXOf (c : Vec Ideal S12x128x512 .i8) (s : FVec Ideal S12x128 .f32) (w : Vec Ideal S512x640 .i8) (sw bw : FVec Ideal S640 .f32) : Vec Ideal S12x128x640 .f32 :=
  addf (mulf (mulf (Host.dotGeneral dot_S12x128x512_S512x640_S12x128x640_2_0_01_1_n_n none (sitofp .bf16 (extsi 32 c natLt_8_32)) (sitofp .bf16 (extsi 32 w natLt_8_32))) (broadcastInDim S12x128x640 ![0, 1, 2] bcast_S12x128x1_S12x128x640_0_1_2 (broadcastInDim S12x128x1 ![0, 1] bcast_S12x128_S12x128x1_0_1 s))) (broadcastInDim S12x128x640 ![0, 1, 2] bcast_S1x1x640_S12x128x640_0_1_2 (broadcastInDim S1x1x640 ![2] bcast_S640_S1x1x640_2 sw))) (broadcastInDim S12x128x640 ![0, 1, 2] bcast_S1x1x640_S12x128x640_0_1_2 (broadcastInDim S1x1x640 ![2] bcast_S640_S1x1x640_2 bw))
abbrev projX : Vec Ideal S12x128x640 .f32 := projXOf (codesX V0) (res_main_v7 V0) (A2 V0) (A3 V0) (A4 V0)

theorem back_x : Spec.num (BitVec.signExtend 32 (codesX V0 (ix3 b t k) : BitVec 8)) = Spec.rowCode (xRow V0 b t) k := by
  rw [codesX_apply]
  unfold Spec.rowCode
  rw [← Spec.code_word 4294967169#32 Spec.lo_neg, Spec.code_back _ Spec.lo_neg]

theorem projX_apply : projX V0 (ix3 b t j) = encAt V0 b t j := by
  have e : ∀ (c : Vec Ideal S12x128x512 .i8) (s : FVec Ideal S12x128 .f32) (w : Vec Ideal S512x640 .i8) (sw bw : FVec Ideal S640 .f32), projXOf c s w sw bw (ix3 b t j)
      = (∑ k : Fin 512, Spec.num (BitVec.signExtend 32 (c (ix3 b t k) : BitVec 8)) * Spec.num (BitVec.signExtend 32 (w (ix2 k j) : BitVec 8))) * (s (ix2 b t) : EReal) * (sw (ix1 j) : EReal) + (bw (ix1 j) : EReal) := fun c s w sw bw => by
    pointwise [projXOf]
    rfl
  refine (e _ _ _ _ _).trans ?_
  rw [v7_apply]
  unfold encAt Spec.proj
  refine congrArg (· * _ * _ + _) (Finset.sum_congr rfl fun k _ => ?_)
  exact congrArg₂ (· * ·) (back_x V0 b t k) (Spec.num_widen _)
end Enc

section Pred
variable (b : Fin 12) (u : Fin 41) (k : Fin 320) (j : Fin 640)

theorem v17_apply : (res_main_v17 V0 : Vec Ideal S12x41 .f32) (ix2 b u) = Spec.rowMax (pRow V0 b u) := by
  pointwise [res_main_v17, res_main_v15]
  exact fold_p _ b u _

theorem v22_apply : (res_main_v22 V0 : Vec Ideal S12x41 .f32) (ix2 b u) = Spec.rowScale (pRow V0 b u) := by
  pointwise [res_main_v22]
  rw [v17_apply]
  unfold Spec.rowScale
  rw [show (id (constant (F := Ideal) S_ .f32 1065353216#32) : Vec Ideal S_ .f32) ix0 = 1 from IdealRules.sign_bit.ideal_onePat .f32]

/-- The codes of the predictor's input as the reference stores them. -/
def codesPOf (a : FVec Ideal S12x41x320 .f32) (s : FVec Ideal S12x41 .f32) : Vec Ideal S12x41x320 .i8 :=
  trunci 8 (fptosi 32 (minimumf (broadcastInDim S12x41x320 ![] bcast_S_S12x41x320 (sitofp .f32 (constantI S_ 32 127#32))) (maximumf (broadcastInDim S12x41x320 ![] bcast_S_S12x41x320 (sitofp .f32 (constantI S_ 32 4294967169#32))) (Host.roundeven (Host.divf a (broadcastInDim S12x41x320 ![0, 1, 2] bcast_S12x41x1_S12x41x320_0_1_2 (broadcastInDim S12x41x1 ![0, 1] bcast_S12x41_S12x41x1_0_1 s))))))) natLt_8_32
abbrev codesP : Vec Ideal S12x41x320 .i8 := codesPOf (res_main_v15 V0) (res_main_v22 V0)

theorem codesP_apply : codesP V0 (ix3 b u k) = Ideal.fptosi 8 (Spec.rowCode (pRow V0 b u) k) := by
  refine Eq.trans ?_ (Spec.code_word 4294967169#32 Spec.lo_neg (Ideal.div (pRow V0 b u k) (Spec.rowScale (pRow V0 b u))))
  have e : ∀ (a : FVec Ideal S12x41x320 .f32) (s : FVec Ideal S12x41 .f32), codesPOf a s (ix3 b u k)
      = BitVec.setWidth 8 (Ideal.fptosi 32 (Spec.code 4294967169#32 (Ideal.div (a (ix3 b u k)) (s (ix2 b u))))) := fun a s => by
    pointwise [codesPOf]
    rfl
  refine (e _ _).trans ?_
  rw [v22_apply]
  rfl

def projPOf (c : Vec Ideal S12x41x320 .i8) (s : FVec Ideal S12x41 .f32) (w : Vec Ideal S320x640 .i8) (sw bw : FVec Ideal S640 .f32) : Vec Ideal S12x41x640 .f32 :=
  addf (mulf (mulf (Host.dotGeneral dot_S12x41x320_S320x640_S12x41x640_2_0_01_1_n_n none (sitofp .bf16 (extsi 32 c natLt_8_32)) (sitofp .bf16 (extsi 32 w natLt_8_32))) (broadcastInDim S12x41x640 ![0, 1, 2] bcast_S12x41x1_S12x41x640_0_1_2 (broadcastInDim S12x41x1 ![0, 1] bcast_S12x41_S12x41x1_0_1 s))) (broadcastInDim S12x41x640 ![0, 1, 2] bcast_S1x1x640_S12x41x640_0_1_2 (broadcastInDim S1x1x640 ![2] bcast_S640_S1x1x640_2 sw))) (broadcastInDim S12x41x640 ![0, 1, 2] bcast_S1x1x640_S12x41x640_0_1_2 (broadcastInDim S1x1x640 ![2] bcast_S640_S1x1x640_2 bw))
abbrev projP : Vec Ideal S12x41x640 .f32 := projPOf (codesP V0) (res_main_v22 V0) (A5 V0) (A6 V0) (A7 V0)

theorem back_p : Spec.num (BitVec.signExtend 32 (codesP V0 (ix3 b u k) : BitVec 8)) = Spec.rowCode (pRow V0 b u) k := by
  rw [codesP_apply]
  unfold Spec.rowCode
  rw [← Spec.code_word 4294967169#32 Spec.lo_neg, Spec.code_back _ Spec.lo_neg]

theorem projP_apply : projP V0 (ix3 b u j) = predAt V0 b u j := by
  have e : ∀ (c : Vec Ideal S12x41x320 .i8) (s : FVec Ideal S12x41 .f32) (w : Vec Ideal S320x640 .i8) (sw bw : FVec Ideal S640 .f32), projPOf c s w sw bw (ix3 b u j)
      = (∑ k : Fin 320, Spec.num (BitVec.signExtend 32 (c (ix3 b u k) : BitVec 8)) * Spec.num (BitVec.signExtend 32 (w (ix2 k j) : BitVec 8))) * (s (ix2 b u) : EReal) * (sw (ix1 j) : EReal) + (bw (ix1 j) : EReal) := fun c s w sw bw => by
    pointwise [projPOf]
    rfl
  refine (e _ _ _ _ _).trans ?_
  rw [v22_apply]
  unfold predAt Spec.proj
  refine congrArg (· * _ * _ + _) (Finset.sum_congr rfl fun k _ => ?_)
  exact congrArg₂ (· * ·) (back_p V0 b u k) (Spec.num_widen _)
end Pred

end Cert.ReferenceIdeal.Value
end
-- ==== Proof.Ref.Joint.lean ====
/- The reference's logits and its masks, entry by entry, as the functions of `Spec`. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Value

open Idealize.ShloMosaic Idealize.ShloMosaic.StableHlo Cert.ReferenceIdeal.Gen

def zOf (E : FVec Ideal S12x128x640 .f32) (P : FVec Ideal S12x41x640 .f32) (zs : FVec Ideal S_ .f32) : FVec Ideal S12x128x41x640 .bf16 :=
  sitofp .bf16 (extsi 32 (trunci 8 (fptosi 32 (minimumf (broadcastInDim S12x128x41x640 ![] bcast_S_S12x128x41x640 (sitofp .f32 (constantI S_ 32 127#32))) (maximumf (broadcastInDim S12x128x41x640 ![] bcast_S_S12x128x41x640 (sitofp .f32 (constantI S_ 32 0#32))) (Host.roundeven (Host.divf (maximumf (addf (broadcastInDim S12x128x41x640 ![0, 1, 2, 3] bcast_S12x128x1x640_S12x128x41x640_0_1_2_3 (broadcastInDim S12x128x1x640 ![0, 1, 3] bcast_S12x128x640_S12x128x1x640_0_1_3 E)) (broadcastInDim S12x128x41x640 ![0, 1, 2, 3] bcast_S12x1x41x640_S12x128x41x640_0_1_2_3 (broadcastInDim S12x1x41x640 ![0, 2, 3] bcast_S12x41x640_S12x1x41x640_0_2_3 P))) (broadcastInDim S12x128x41x640 ![] bcast_S_S12x128x41x640 (constant S_ .f32 0x00000000#32))) (broadcastInDim S12x128x41x640 ![] bcast_S_S12x128x41x640 zs)))))) natLt_8_32) natLt_8_32)
def gOf (Z : FVec Ideal S12x128x41x640 .bf16) (zs : FVec Ideal S_ .f32) (w : Vec Ideal S513x640 .i8) (s b0 : FVec Ideal S513 .f32) : FVec Ideal S12x128x41x512 .f32 :=
  addf (mulf (mulf (Host.dotGeneral dot_S12x128x41x640_S512x640_S12x128x41x512_3_1_012_0_n_n none Z (sitofp .bf16 (extsi 32 (extractStridedSlice S512x640 ![0, 0] w slices_S513x640_S512x640_0_0) natLt_8_32))) (broadcastInDim S12x128x41x512 ![] bcast_S_S12x128x41x512 zs)) (broadcastInDim S12x128x41x512 ![0, 1, 2, 3] bcast_S1x1x1x512_S12x128x41x512_0_1_2_3 (broadcastInDim S1x1x1x512 ![3] bcast_S512_S1x1x1x512_3 (extractStridedSlice S512 ![0] s slices_S513_S512_0)))) (broadcastInDim S12x128x41x512 ![0, 1, 2, 3] bcast_S1x1x1x512_S12x128x41x512_0_1_2_3 (broadcastInDim S1x1x1x512 ![3] bcast_S512_S1x1x1x512_3 (extractStridedSlice S512 ![0] b0 slices_S513_S512_0)))
def blankOf (Z : FVec Ideal S12x128x41x640 .bf16) (zs : FVec Ideal S_ .f32) (w : Vec Ideal S513x640 .i8) (s b0 : FVec Ideal S513 .f32) : FVec Ideal S12x128x41 .f32 :=
  addf (mulf (mulf (Host.dotGeneral dot_S12x128x41x640_S640_S12x128x41_3_0_012_n_n_n none Z (sitofp .bf16 (extsi 32 (shapeCast _ (extractStridedSlice S1x640 ![512, 0] w slices_S513x640_S1x640_512_0) shapeCasts_S1x640_S640) natLt_8_32))) (broadcastInDim S12x128x41 ![] bcast_S_S12x128x41 zs)) (broadcastInDim S12x128x41 ![] bcast_S_S12x128x41 (shapeCast _ (extractStridedSlice S1 ![512] s slices_S513_S1_512) shapeCasts_S1_S_))) (broadcastInDim S12x128x41 ![] bcast_S_S12x128x41 (shapeCast _ (extractStridedSlice S1 ![512] b0 slices_S513_S1_512) shapeCasts_S1_S_))
def maxOf (g : FVec Ideal S12x128x41x512 .f32) : FVec Ideal S12x128x41 .f32 :=
  Host.ceil (Host.reduce FloatOps.maximumf g (constant S_ .f32 0xFF800000#32) reducesTo_S12x128x41x512_S12x128x41_d3 h_S_)
def lseOf (g : FVec Ideal S12x128x41x512 .f32) (e : FVec Ideal S12x128x41 .f32) (k : FVec Ideal S_ .f32) : FVec Ideal S12x128x41 .f32 :=
  mulf (addf e (Host.divf (Host.log (Host.reduceAdd (Host.exp (mulf (subf g (broadcastInDim S12x128x41x512 ![0, 1, 2, 3] bcast_S12x128x41x1_S12x128x41x512_0_1_2_3 (broadcastInDim S12x128x41x1 ![0, 1, 2] bcast_S12x128x41_S12x128x41x1_0_1_2 e))) (broadcastInDim S12x128x41x512 ![] bcast_S_S12x128x41x512 k))) (constant S_ .f32 0x00000000#32) reducesTo_S12x128x41x512_S12x128x41_d3 h_S_)) (broadcastInDim S12x128x41 ![] bcast_S_S12x128x41 k))) (broadcastInDim S12x128x41 ![] bcast_S_S12x128x41 k)
def labOf (g : FVec Ideal S12x128x41x512 .f32) (y : Vec Ideal S12x40 .i32) : FVec Ideal S12x128x40 .f32 :=
  Host.reduceAdd (select (broadcastInDim S12x128x40x512 ![0, 1, 2, 3] bcast_S12x1x40x512_S12x128x40x512_0_1_2_3 (cmpi .eq (broadcastInDim S12x1x40x512 ![0, 1, 2, 3] bcast_S1x1x1x512_S12x1x40x512_0_1_2_3 (broadcastInDim S1x1x1x512 ![3] bcast_S512_S1x1x1x512_3 (iotaInDim S512 32 0))) (broadcastInDim S12x1x40x512 ![0, 1, 2, 3] bcast_S12x1x40x1_S12x1x40x512_0_1_2_3 (broadcastInDim S12x1x40x1 ![0, 2] bcast_S12x40_S12x1x40x1_0_2 y)))) (extractStridedSlice S12x128x40x512 ![0, 0, 0, 0] g slices_S12x128x41x512_S12x128x40x512_0_0_0_0) (broadcastInDim S12x128x40x512 ![] bcast_S_S12x128x40x512 (id (constant S_ .f32 0x00000000#32)))) (constant S_ .f32 0x00000000#32) reducesTo_S12x128x40x512_S12x128x40_d3 h_S_

theorem zero_pat : (Ideal.ofBits .f32 0#32 : EReal) = 0 := Ideal.ofBits_zero_f32

section
variable (b : Fin 12) (t : Fin 128) (u : Fin 41)

theorem zOf_apply (E : FVec Ideal S12x128x640 .f32) (P : FVec Ideal S12x41x640 .f32) (zs : FVec Ideal S_ .f32) (j : Fin 640) :
    (zOf E P zs (ix4 b t u j) : EReal) = Spec.zCode (zs ix0) (E (ix3 b t j)) (P (ix3 b u j)) := by
  pointwise [zOf]
  unfold Spec.zCode
  rw [← Spec.code_back _ Spec.lo_zero]
  rfl

theorem gOf_apply (Z : FVec Ideal S12x128x41x640 .bf16) (zs : FVec Ideal S_ .f32) (w : Vec Ideal S513x640 .i8) (s b0 : FVec Ideal S513 .f32) (v : Fin 512) :
    (gOf Z zs w s b0 (ix4 b t u v) : EReal) = Spec.logit (fun j => Z (ix4 b t u j)) (fun j => w (ix2 (⟨v.val, by have := v.isLt; omega⟩ : Fin 513) j)) (zs ix0)
      (s (ix1 (⟨v.val, by have := v.isLt; omega⟩ : Fin 513))) (b0 (ix1 (⟨v.val, by have := v.isLt; omega⟩ : Fin 513))) := by
  pointwise [gOf]
  unfold Spec.logit
  refine congrArg (· * _ * _ + _) (Finset.sum_congr rfl fun k _ => ?_)
  exact congrArg (_ * ·) (Spec.num_widen _)

theorem blankOf_apply (Z : FVec Ideal S12x128x41x640 .bf16) (zs : FVec Ideal S_ .f32) (w : Vec Ideal S513x640 .i8) (s b0 : FVec Ideal S513 .f32) :
    (blankOf Z zs w s b0 (ix3 b t u) : EReal) = Spec.logit (fun j => Z (ix4 b t u j)) (fun j => w (ix2 (512 : Fin 513) j)) (zs ix0)
      (s (ix1 (512 : Fin 513))) (b0 (ix1 (512 : Fin 513))) := by
  pointwise [blankOf]
  unfold Spec.logit
  refine congrArg (· * _ * _ + _) (Finset.sum_congr rfl fun k _ => ?_)
  exact congrArg (_ * ·) (Spec.num_widen _)

/-- The largest entry along the last axis, rounded up, at any size. -/
theorem ceil_max {n0 n1 n2 n3 : ℕ} (h : (⟨4, ![n0, n1, n2, n3]⟩ : Shape).ReducesTo [3] ⟨3, ![n0, n1, n2]⟩) (hu : 0 < S_.numel)
    (f : FVec Ideal ⟨4, ![n0, n1, n2, n3]⟩ .f32) (z : FVec Ideal S_ .f32) (i0 : Fin n0) (i1 : Fin n1) (i2 : Fin n2) :
    (Host.ceil (Host.reduce FloatOps.maximumf f z h hu) (ix3 i0 i1 i2) : EReal)
      = Ideal.liftRound Int.ceil (Finset.univ.fold max (z (Shape.Idx.first hu) : EReal) (fun k : Fin n3 => (f (ix4 i0 i1 i2 k) : EReal))) := by
  have e : (Host.reduce (FloatOps.maximumf (F := Ideal) (φ := .f32)) f z h hu (ix3 i0 i1 i2) : EReal)
      = Finset.univ.fold max (z (Shape.Idx.first hu) : EReal) (fun k : Fin n3 => (f (ix4 i0 i1 i2 k) : EReal)) :=
    (Host.reduce_eq_fold (max : EReal → EReal → EReal) f z h hu (ix3 i0 i1 i2)).trans
      (Shape.ReducesTo.fold_fiber_r4_a3 h (ix3 i0 i1 i2) (max : EReal → EReal → EReal) _ f)
  exact congrArg (Ideal.liftRound Int.ceil) e

theorem maxOf_apply (g : FVec Ideal S12x128x41x512 .f32) :
    (maxOf g (ix3 b t u) : EReal) = Ideal.liftRound Int.ceil (Finset.univ.fold max (Ideal.ofBits .f32 4286578688#32) (fun k : Fin 512 => (g (ix4 b t u k) : EReal))) :=
  ceil_max reducesTo_S12x128x41x512_S12x128x41_d3 h_S_ g (constant S_ .f32 0xFF800000#32) b t u

theorem lseOf_apply (g : FVec Ideal S12x128x41x512 .f32) (e : FVec Ideal S12x128x41 .f32) (k : FVec Ideal S_ .f32) :
    (lseOf g e k (ix3 b t u) : EReal) = ((e (ix3 b t u) : EReal) + Ideal.div (Ideal.log (∑ x : Fin 512, Ideal.exp (((g (ix4 b t u x) : EReal) - (e (ix3 b t u) : EReal)) * (k ix0 : EReal)))) (k ix0)) * (k ix0 : EReal) := by
  pointwise [lseOf]

theorem labOf_apply (g : FVec Ideal S12x128x41x512 .f32) (y : Vec Ideal S12x40 .i32) (u : Fin 40) (hy : (y (ix2 b u) : BitVec 32).toNat < 512) :
    (labOf g y (ix3 b t u) : EReal) = g (ix4 b t (⟨u.val, by have := u.isLt; omega⟩ : Fin 41) ⟨(y (ix2 b u) : BitVec 32).toNat, hy⟩) := by
  pointwise [labOf]
  exact Spec.sum_hit _ hy (fun x => g (ix4 b t (⟨u.val, by have := u.isLt; omega⟩ : Fin 41) x)) _ zero_pat
end

end Cert.ReferenceIdeal.Value
end
-- ==== Proof.Ref.Masks.lean ====
/- The four lattice results of the reference, entry by entry, as the functions of `Spec`. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Value

open Idealize.ShloMosaic Idealize.ShloMosaic.StableHlo Cert.ReferenceIdeal.Gen

def frameOf (n : Vec Ideal S12 .i32) : Vec Ideal S12x128x1 .i1 :=
  broadcastInDim S12x128x1 ![0, 1] bcast_S12x128_S12x128x1_0_1 (cmpi .slt (broadcastInDim S12x128 ![0, 1] bcast_S1x128_S12x128_0_1 (broadcastInDim S1x128 ![1] bcast_S128_S1x128_1 (iotaInDim S128 32 0))) (broadcastInDim S12x128 ![0, 1] bcast_S12x1_S12x128_0_1 (broadcastInDim S12x1 ![0] bcast_S12_S12x1_0 n)))
def leOf (q : Vec Ideal S12x128x1 .i1) (n : Vec Ideal S12 .i32) : Vec Ideal S12x128x41 .i1 :=
  andi (broadcastInDim S12x128x41 ![0, 1, 2] bcast_S12x128x1_S12x128x41_0_1_2 q) (broadcastInDim S12x128x41 ![0, 1, 2] bcast_S12x1x41_S12x128x41_0_1_2 (broadcastInDim S12x1x41 ![0, 2] bcast_S12x41_S12x1x41_0_2 (cmpi .sle (broadcastInDim S12x41 ![0, 1] bcast_S1x41_S12x41_0_1 (broadcastInDim S1x41 ![1] bcast_S41_S1x41_1 (iotaInDim S41 32 0))) (broadcastInDim S12x41 ![0, 1] bcast_S12x1_S12x41_0_1 (broadcastInDim S12x1 ![0] bcast_S12_S12x1_0 n)))))
def ltOf (q : Vec Ideal S12x128x1 .i1) (n : Vec Ideal S12 .i32) : Vec Ideal S12x128x40 .i1 :=
  andi (broadcastInDim S12x128x40 ![0, 1, 2] bcast_S12x128x1_S12x128x40_0_1_2 q) (broadcastInDim S12x128x40 ![0, 1, 2] bcast_S12x1x40_S12x128x40_0_1_2 (broadcastInDim S12x1x40 ![0, 2] bcast_S12x40_S12x1x40_0_2 (cmpi .slt (broadcastInDim S12x40 ![0, 1] bcast_S1x40_S12x40_0_1 (broadcastInDim S1x40 ![1] bcast_S40_S1x40_1 (iotaInDim S40 32 0))) (broadcastInDim S12x40 ![0, 1] bcast_S12x1_S12x40_0_1 (broadcastInDim S12x1 ![0] bcast_S12_S12x1_0 n)))))

/-- Minus the soft-plus of an array. -/
def sp41 (x : FVec Ideal S12x128x41 .f32) : FVec Ideal S12x128x41 .f32 :=
  Host.negf (select (cmpf .une (subf x (broadcastInDim S12x128x41 ![] bcast_S_S12x128x41 (constant S_ .f32 0x00000000#32))) (subf x (broadcastInDim S12x128x41 ![] bcast_S_S12x128x41 (constant S_ .f32 0x00000000#32)))) (addf x (broadcastInDim S12x128x41 ![] bcast_S_S12x128x41 (constant S_ .f32 0x00000000#32))) (addf (maximumf x (broadcastInDim S12x128x41 ![] bcast_S_S12x128x41 (constant S_ .f32 0x00000000#32))) (Host.log1p (Host.exp (Host.negf (Host.absf (subf x (broadcastInDim S12x128x41 ![] bcast_S_S12x128x41 (constant S_ .f32 0x00000000#32)))))))))
def sp40 (x : FVec Ideal S12x128x40 .f32) : FVec Ideal S12x128x40 .f32 :=
  Host.negf (select (cmpf .une (subf x (broadcastInDim S12x128x40 ![] bcast_S_S12x128x40 (constant S_ .f32 0x00000000#32))) (subf x (broadcastInDim S12x128x40 ![] bcast_S_S12x128x40 (constant S_ .f32 0x00000000#32)))) (addf x (broadcastInDim S12x128x40 ![] bcast_S_S12x128x40 (constant S_ .f32 0x00000000#32))) (addf (maximumf x (broadcastInDim S12x128x40 ![] bcast_S_S12x128x40 (constant S_ .f32 0x00000000#32))) (Host.log1p (Host.exp (Host.negf (Host.absf (subf x (broadcastInDim S12x128x40 ![] bcast_S_S12x128x40 (constant S_ .f32 0x00000000#32)))))))))
def blank41 (q : Vec Ideal S12x128x41 .i1) (x : FVec Ideal S12x128x41 .f32) : FVec Ideal S12x128x41 .f32 :=
  select q x (broadcastInDim S12x128x41 ![] bcast_S_S12x128x41 (id (constant S_ .f32 0x00000000#32)))
def label40 (q : Vec Ideal S12x128x40 .i1) (x y : FVec Ideal S12x128x40 .f32) (z : FVec Ideal S12x128x41 .f32) : FVec Ideal S12x128x40 .f32 :=
  select q (subf (addf x y) (extractStridedSlice S12x128x40 ![0, 0, 0] z slices_S12x128x41_S12x128x40_0_0_0)) (broadcastInDim S12x128x40 ![] bcast_S_S12x128x40 (id (constant S_ .f32 0x00000000#32)))
def gate40 (q : Vec Ideal S12x128x40 .i1) (x : FVec Ideal S12x128x40 .f32) : FVec Ideal S12x128x40 .f32 :=
  select q x (broadcastInDim S12x128x40 ![] bcast_S_S12x128x40 (id (constant S_ .f32 0x00000000#32)))
def neg41 (v : FVec Ideal S12x128x41 .f32) : FVec Ideal S12x128x41 .f32 := Host.negf v
def neg40 (v : FVec Ideal S12x128x41 .f32) : FVec Ideal S12x128x40 .f32 :=
  Host.negf (Host.negf (extractStridedSlice S12x128x40 ![0, 0, 0] v slices_S12x128x41_S12x128x40_0_0_0))

theorem zero_word : (Ideal.ofBits .f32 0#32 : EReal) = 0 := Ideal.ofBits_zero_f32

section
variable (b : Fin 12) (t : Fin 128) (u : Fin 41) (u' : Fin 40)

theorem leOf_apply (T U : Vec Ideal S12 .i32) : leOf (frameOf T) U (ix3 b t u)
    = IntOp.andi (IntOp.cmpi .slt (BitVec.ofNat 32 t.val) (T (ix1 b) : BitVec 32)) (IntOp.cmpi .sle (BitVec.ofNat 32 u.val) (U (ix1 b) : BitVec 32)) := by
  pointwise [leOf, frameOf]
theorem ltOf_apply (T U : Vec Ideal S12 .i32) : ltOf (frameOf T) U (ix3 b t u')
    = IntOp.andi (IntOp.cmpi .slt (BitVec.ofNat 32 t.val) (T (ix1 b) : BitVec 32)) (IntOp.cmpi .slt (BitVec.ofNat 32 u'.val) (U (ix1 b) : BitVec 32)) := by
  pointwise [ltOf, frameOf]

theorem sp41_apply (x : FVec Ideal S12x128x41 .f32) (v : EReal) (h : (x (ix3 b t u) : EReal) = -v) : (sp41 x (ix3 b t u) : EReal) = Spec.logSig v := by
  rw [← Spec.logSig_ref]
  pointwise [sp41]
  rw [h]
  have ha : ∀ y : EReal, (FloatOps.absf (F := Ideal) (φ := .f32) y : EReal) = max y (-y) := fun _ => rfl
  simp [ha]
theorem sp40_apply (x : FVec Ideal S12x128x40 .f32) (v : EReal) (h : (x (ix3 b t u') : EReal) = -v) : (sp40 x (ix3 b t u') : EReal) = Spec.logSig v := by
  rw [← Spec.logSig_ref]
  pointwise [sp40]
  rw [h]
  have ha : ∀ y : EReal, (FloatOps.absf (F := Ideal) (φ := .f32) y : EReal) = max y (-y) := fun _ => rfl
  simp [ha]

theorem neg40_apply (v : FVec Ideal S12x128x41 .f32) : (neg40 v (ix3 b t u') : EReal) = -(-(v (ix3 b t (⟨u'.val, by have := u'.isLt; omega⟩ : Fin 41)) : EReal)) := by
  pointwise [neg40]
theorem blank41_apply (q : Vec Ideal S12x128x41 .i1) (x : FVec Ideal S12x128x41 .f32) : (blank41 q x (ix3 b t u) : EReal) = Scalar.select (q (ix3 b t u)) (x (ix3 b t u) : EReal) 0 := by
  pointwise [blank41]
  exact congrArg (Scalar.select _ _) zero_word
theorem gate40_apply (q : Vec Ideal S12x128x40 .i1) (x : FVec Ideal S12x128x40 .f32) : (gate40 q x (ix3 b t u') : EReal) = Scalar.select (q (ix3 b t u')) (x (ix3 b t u') : EReal) 0 := by
  pointwise [gate40]
  exact congrArg (Scalar.select _ _) zero_word
theorem label40_apply (q : Vec Ideal S12x128x40 .i1) (x y : FVec Ideal S12x128x40 .f32) (z : FVec Ideal S12x128x41 .f32) : (label40 q x y z (ix3 b t u') : EReal)
    = Scalar.select (q (ix3 b t u')) ((x (ix3 b t u') : EReal) + (y (ix3 b t u') : EReal) - (z (ix3 b t (⟨u'.val, by have := u'.isLt; omega⟩ : Fin 41)) : EReal)) 0 := by
  pointwise [label40]
  exact congrArg (Scalar.select _ _) zero_word
end

end Cert.ReferenceIdeal.Value
end
-- ==== Proof.Ref.Result.lean ====
/- The results of the reference, entry by entry, as the functions of `Spec`. -/
module

public import proofs.«01_k».proof.Proof.Ref.Enc
public import proofs.«01_k».proof.Proof.Ref.Joint
public import proofs.«01_k».proof.Proof.Ref.Masks

@[expose] public section

set_option maxRecDepth 16384

noncomputable section

namespace Cert.ReferenceIdeal.Value

open Idealize.ShloMosaic Idealize.ShloMosaic.StableHlo Cert.ReferenceIdeal.Gen

variable (V0 : Valuation τ sig (Elt Ideal))

abbrev A8 : Vec Ideal S_ .f32 := V0 (Proc.devRef .tc main_arg8)
abbrev A9 : Vec Ideal S513x640 .i8 := V0 (Proc.devRef .tc main_arg9)
abbrev A10 : Vec Ideal S513 .f32 := V0 (Proc.devRef .tc main_arg10)
abbrev A11 : Vec Ideal S513 .f32 := V0 (Proc.devRef .tc main_arg11)
abbrev A12 : Vec Ideal S12x40 .i32 := V0 (Proc.devRef .tc main_arg12)
abbrev A13 : Vec Ideal S12 .i32 := V0 (Proc.devRef .tc main_arg13)
abbrev A14 : Vec Ideal S12 .i32 := V0 (Proc.devRef .tc main_arg14)

/-- The logit of a class. -/
def gAt (b : Fin 12) (t : Fin 128) (u : Fin 41) (v : Fin 513) : EReal :=
  Spec.logit (fun j => Spec.zCode (A8 V0 ix0) (encAt V0 b t j) (predAt V0 b u j)) (fun j => A9 V0 (ix2 v j)) (A8 V0 ix0) (A10 V0 (ix1 v)) (A11 V0 (ix1 v))
/-- The logits of the labels. -/
def labAt (b : Fin 12) (t : Fin 128) (u : Fin 41) : Fin 512 → EReal := fun v => gAt V0 b t u ⟨v.val, by have := v.isLt; omega⟩

theorem v71_eq : res_main_v71 V0 = zOf (projX V0) (projP V0) (A8 V0) := rfl
theorem v85_eq : res_main_v85 V0 = gOf (res_main_v71 V0) (A8 V0) (A9 V0) (A10 V0) (A11 V0) := rfl
theorem v100_eq : res_main_v100 V0 = blankOf (res_main_v71 V0) (A8 V0) (A9 V0) (A10 V0) (A11 V0) := rfl
theorem v105_eq : res_main_v105 V0 = maxOf (res_main_v103 V0) := rfl
theorem v118_eq : res_main_v118 V0 = lseOf (res_main_v103 V0) (res_main_v105 V0) (res_main_v101 V0) := rfl
theorem v127_eq : res_main_v127 V0 = labOf (res_main_v85 V0) (A12 V0) := rfl
theorem v151_eq : res_main_v151 V0 = leOf (frameOf (A13 V0)) (A14 V0) := rfl
theorem v161_eq : res_main_v161 V0 = ltOf (frameOf (A13 V0)) (A14 V0) := rfl

section
variable (b : Fin 12) (t : Fin 128) (u : Fin 41) (u' : Fin 40)

theorem v71_apply (j : Fin 640) : ((res_main_v71 V0 : FVec Ideal S12x128x41x640 .bf16) (ix4 b t u j) : EReal) = Spec.zCode (A8 V0 ix0) (encAt V0 b t j) (predAt V0 b u j) := by
  rw [v71_eq, zOf_apply, projX_apply, projP_apply]
theorem v85_apply (v : Fin 512) : ((res_main_v85 V0 : FVec Ideal S12x128x41x512 .f32) (ix4 b t u v) : EReal) = labAt V0 b t u v := by
  rw [v85_eq, gOf_apply]
  unfold labAt gAt
  exact congrArg (fun z => Spec.logit z _ _ _ _) (funext fun j => v71_apply V0 b t u j)
theorem v100_apply : ((res_main_v100 V0 : FVec Ideal S12x128x41 .f32) (ix3 b t u) : EReal) = gAt V0 b t u 512 := by
  rw [v100_eq, blankOf_apply]
  unfold gAt
  exact congrArg (fun z => Spec.logit z _ _ _ _) (funext fun j => v71_apply V0 b t u j)
theorem v101_apply : ((res_main_v101 V0 : FVec Ideal S_ .f32) ix0 : EReal) = Spec.K := by
  pointwise [res_main_v101]
  exact Spec.log_two
theorem v103_apply (v : Fin 512) : ((res_main_v103 V0 : FVec Ideal S12x128x41x512 .f32) (ix4 b t u v) : EReal) = labAt V0 b t u v * Spec.L := by
  have e : ((res_main_v103 V0 : FVec Ideal S12x128x41x512 .f32) (ix4 b t u v) : EReal)
      = Ideal.div ((res_main_v85 V0 : FVec Ideal S12x128x41x512 .f32) (ix4 b t u v)) ((res_main_v101 V0 : FVec Ideal S_ .f32) ix0) := by
    unfold res_main_v103
    generalize res_main_v85 V0 = g
    generalize res_main_v101 V0 = k
    pointwise
  rw [e, v101_apply, v85_apply, Spec.div_K]
theorem v105_apply : ((res_main_v105 V0 : FVec Ideal S12x128x41 .f32) (ix3 b t u) : EReal) = Spec.expo (labAt V0 b t u) := by
  rw [v105_eq, maxOf_apply]
  unfold Spec.expo
  exact congrArg (fun f => Ideal.liftRound Int.ceil (Finset.univ.fold max _ f)) (funext fun k => v103_apply V0 b t u k)
theorem v118_apply : ((res_main_v118 V0 : FVec Ideal S12x128x41 .f32) (ix3 b t u) : EReal) = Spec.lse (labAt V0 b t u) := by
  rw [v118_eq, lseOf_apply, v105_apply, v101_apply, Spec.div_K]
  unfold Spec.lse
  refine congrArg (fun s => (_ + Ideal.log s * _) * _) (Finset.sum_congr rfl fun k _ => ?_)
  rw [v103_apply, Spec.exp_mul_K]
theorem v127_apply (hy : (A12 V0 (ix2 b u') : BitVec 32).toNat < 512) : ((res_main_v127 V0 : FVec Ideal S12x128x40 .f32) (ix3 b t u') : EReal)
    = labAt V0 b t ⟨u'.val, Nat.lt_succ_of_lt u'.isLt⟩ ⟨(A12 V0 (ix2 b u') : BitVec 32).toNat, hy⟩ := by
  rw [v127_eq, labOf_apply b t (res_main_v85 V0) (A12 V0) u' hy, v85_apply]
end

/-! ## The results -/

abbrev out162 : FVec Ideal S12x128x41 .f32 := select (res_main_v151 V0) (Host.negf (select (cmpf .une (res_main_call10_call0_v3 V0) (res_main_call10_call0_v3 V0)) (addf (res_main_call10_v0 V0) (broadcastInDim S12x128x41 ![] bcast_S_S12x128x41 (res_main_call10_call0_cst V0))) (addf (maximumf (res_main_call10_v0 V0) (broadcastInDim S12x128x41 ![] bcast_S_S12x128x41 (res_main_call10_call0_cst V0))) (Host.log1p (Host.exp (Host.negf (Host.absf (res_main_call10_call0_v3 V0)))))))) (broadcastInDim S12x128x41 ![] bcast_S_S12x128x41 (id (constant S_ .f32 0x00000000#32)))
abbrev out164 : FVec Ideal S12x128x40 .f32 := select (res_main_v161 V0) (subf (addf (Host.negf (select (cmpf .une (res_main_call11_call0_v3 V0) (res_main_call11_call0_v3 V0)) (addf (res_main_call11_v0 V0) (broadcastInDim S12x128x40 ![] bcast_S_S12x128x40 (res_main_call11_call0_cst V0))) (addf (maximumf (res_main_call11_v0 V0) (broadcastInDim S12x128x40 ![] bcast_S_S12x128x40 (res_main_call11_call0_cst V0))) (Host.log1p (Host.exp (Host.negf (Host.absf (res_main_call11_call0_v3 V0)))))))) (res_main_v127 V0)) (extractStridedSlice S12x128x40 ![0, 0, 0] (res_main_v118 V0) slices_S12x128x41_S12x128x40_0_0_0)) (broadcastInDim S12x128x40 ![] bcast_S_S12x128x40 (id (constant S_ .f32 0x00000000#32)))
abbrev out163 : FVec Ideal S12x128x41 .f32 := select (res_main_v151 V0) (res_main_v118 V0) (broadcastInDim S12x128x41 ![] bcast_S_S12x128x41 (id (constant S_ .f32 0x00000000#32)))
abbrev out165 : FVec Ideal S12x128x40 .f32 := select (res_main_v161 V0) (res_main_v127 V0) (broadcastInDim S12x128x40 ![] bcast_S_S12x128x40 (id (constant S_ .f32 0x00000000#32)))

theorem out162_eq : out162 V0 = blank41 (res_main_v151 V0) (sp41 (neg41 (res_main_v100 V0))) := rfl
theorem out164_eq : out164 V0 = label40 (res_main_v161 V0) (sp40 (neg40 (res_main_v100 V0))) (res_main_v127 V0) (res_main_v118 V0) := rfl
theorem out163_eq : out163 V0 = blank41 (res_main_v151 V0) (res_main_v118 V0) := rfl
theorem out165_eq : out165 V0 = gate40 (res_main_v161 V0) (res_main_v127 V0) := rfl

section
variable (b : Fin 12) (t : Fin 128) (u : Fin 41) (u' : Fin 40)

theorem small (n : ℕ) (h : n < 128) : n < 2 ^ 31 := by omega

theorem neg41_apply (v : FVec Ideal S12x128x41 .f32) : (neg41 v (ix3 b t u) : EReal) = -(v (ix3 b t u) : EReal) := rfl

theorem out162_apply : (out162 V0 (ix3 b t u) : EReal) = Spec.gate t.val u.val (A13 V0 (ix1 b)) ((A14 V0 (ix1 b) : BitVec 32).toInt + 1) (Spec.logSig (gAt V0 b t u 512)) := by
  have hu := u.isLt
  rw [out162_eq, blank41_apply, sp41_apply b t u (neg41 (res_main_v100 V0)) (gAt V0 b t u 512) ((neg41_apply b t u (res_main_v100 V0)).trans (congrArg (fun x : EReal => -x) (v100_apply V0 b t u))), v151_eq, leOf_apply]
  exact Spec.gate_le t.val u.val (small _ t.isLt) (small _ (by omega)) _ _ _ _ rfl
theorem out163_apply : (out163 V0 (ix3 b t u) : EReal) = Spec.gate t.val u.val (A13 V0 (ix1 b)) ((A14 V0 (ix1 b) : BitVec 32).toInt + 1) (Spec.lse (labAt V0 b t u)) := by
  have hu := u.isLt
  rw [out163_eq, blank41_apply, v118_apply, v151_eq, leOf_apply]
  exact Spec.gate_le t.val u.val (small _ t.isLt) (small _ (by omega)) _ _ _ _ rfl
theorem out165_apply (hy : (A12 V0 (ix2 b u') : BitVec 32).toNat < 512) : (out165 V0 (ix3 b t u') : EReal)
    = Spec.gate t.val u'.val (A13 V0 (ix1 b)) (A14 V0 (ix1 b) : BitVec 32).toInt (labAt V0 b t ⟨u'.val, Nat.lt_succ_of_lt u'.isLt⟩ ⟨(A12 V0 (ix2 b u') : BitVec 32).toNat, hy⟩) := by
  have hu := u'.isLt
  rw [out165_eq, gate40_apply, v127_apply V0 b t u' hy, v161_eq, ltOf_apply]
  exact Spec.gate_lt t.val u'.val (small _ t.isLt) (small _ (by omega)) _ _ _ _ rfl
theorem out164_apply (hy : (A12 V0 (ix2 b u') : BitVec 32).toNat < 512) : (out164 V0 (ix3 b t u') : EReal)
    = Spec.gate t.val u'.val (A13 V0 (ix1 b)) (A14 V0 (ix1 b) : BitVec 32).toInt
        (Spec.logSig (-(gAt V0 b t ⟨u'.val, Nat.lt_succ_of_lt u'.isLt⟩ 512)) + labAt V0 b t ⟨u'.val, Nat.lt_succ_of_lt u'.isLt⟩ ⟨(A12 V0 (ix2 b u') : BitVec 32).toNat, hy⟩
          - Spec.lse (labAt V0 b t ⟨u'.val, Nat.lt_succ_of_lt u'.isLt⟩)) := by
  have hu := u'.isLt
  rw [out164_eq, label40_apply, v127_apply V0 b t u' hy, v118_apply, v161_eq, ltOf_apply,
    sp40_apply b t u' _ (-(gAt V0 b t ⟨u'.val, Nat.lt_succ_of_lt u'.isLt⟩ 512)) ((neg40_apply b t u' _).trans (congrArg (fun x : EReal => -(-x)) (v100_apply V0 b t _)))]
  exact Spec.gate_lt t.val u'.val (small _ t.isLt) (small _ (by omega)) _ _ _ _ rfl
end

end Cert.ReferenceIdeal.Value
end
-- ==== Proof.Compare.lean ====
/- The two programs' results, compared: from agreeing arguments each result of the one is the result of the other. -/
module

public import proofs.«01_k».proof.Proof.KernelIdeal.Host
public import proofs.«01_k».proof.Proof.Ref.Result

@[expose] public section

set_option maxRecDepth 16384

noncomputable section

namespace Cert.Compare

open Idealize.ShloMosaic Idealize.ShloMosaic.TcCoe
open Cert.KernelIdeal.Value (encK predK gK yK projArr codeArr scaleArr blankArr lseArr labelArr logitArr row640 row513 row1 flat128 flat41)
open Cert.ReferenceIdeal.Value (A0 A1 A2 A3 A4 A5 A6 A7 A8 A9 A10 A11 A12 A13 A14 xRow pRow encAt predAt gAt labAt)

variable (V0 : Valuation Cert.ReferenceIdeal.τ Cert.ReferenceIdeal.sig (Elt Ideal))
  (m : (ℓ : Loc Cert.KernelIdeal.nD Cert.KernelIdeal.τ Cert.KernelIdeal.sig) → Buf (Elt Ideal) ℓ) (c : Dev Cert.KernelIdeal.nD)

/-- The argument arrays agree. -/
structure Agree : Prop where
  h0 : A0 V0 = (m ((c : Thread Cert.KernelIdeal.nD Cert.KernelIdeal.τ).loc Cert.KernelIdeal.main_arg0) : Vec Ideal ⟨3, ![12, 128, 512]⟩ .bf16)
  h1 : A1 V0 = (m ((c : Thread Cert.KernelIdeal.nD Cert.KernelIdeal.τ).loc Cert.KernelIdeal.main_arg1) : Vec Ideal ⟨3, ![12, 41, 320]⟩ .bf16)
  h2 : A2 V0 = (m ((c : Thread Cert.KernelIdeal.nD Cert.KernelIdeal.τ).loc Cert.KernelIdeal.main_arg2) : Vec Ideal ⟨2, ![512, 640]⟩ .i8)
  h3 : A3 V0 = (m ((c : Thread Cert.KernelIdeal.nD Cert.KernelIdeal.τ).loc Cert.KernelIdeal.main_arg3) : Vec Ideal ⟨1, ![640]⟩ .f32)
  h4 : A4 V0 = (m ((c : Thread Cert.KernelIdeal.nD Cert.KernelIdeal.τ).loc Cert.KernelIdeal.main_arg4) : Vec Ideal ⟨1, ![640]⟩ .f32)
  h5 : A5 V0 = (m ((c : Thread Cert.KernelIdeal.nD Cert.KernelIdeal.τ).loc Cert.KernelIdeal.main_arg5) : Vec Ideal ⟨2, ![320, 640]⟩ .i8)
  h6 : A6 V0 = (m ((c : Thread Cert.KernelIdeal.nD Cert.KernelIdeal.τ).loc Cert.KernelIdeal.main_arg6) : Vec Ideal ⟨1, ![640]⟩ .f32)
  h7 : A7 V0 = (m ((c : Thread Cert.KernelIdeal.nD Cert.KernelIdeal.τ).loc Cert.KernelIdeal.main_arg7) : Vec Ideal ⟨1, ![640]⟩ .f32)
  h8 : A8 V0 = (m ((c : Thread Cert.KernelIdeal.nD Cert.KernelIdeal.τ).loc Cert.KernelIdeal.main_arg8) : Vec Ideal ⟨0, ![]⟩ .f32)
  h9 : A9 V0 = (m ((c : Thread Cert.KernelIdeal.nD Cert.KernelIdeal.τ).loc Cert.KernelIdeal.main_arg9) : Vec Ideal ⟨2, ![513, 640]⟩ .i8)
  h10 : A10 V0 = (m ((c : Thread Cert.KernelIdeal.nD Cert.KernelIdeal.τ).loc Cert.KernelIdeal.main_arg10) : Vec Ideal ⟨1, ![513]⟩ .f32)
  h11 : A11 V0 = (m ((c : Thread Cert.KernelIdeal.nD Cert.KernelIdeal.τ).loc Cert.KernelIdeal.main_arg11) : Vec Ideal ⟨1, ![513]⟩ .f32)
  h12 : A12 V0 = (m ((c : Thread Cert.KernelIdeal.nD Cert.KernelIdeal.τ).loc Cert.KernelIdeal.main_arg12) : Vec Ideal ⟨2, ![12, 40]⟩ .i32)
  h13 : A13 V0 = (m ((c : Thread Cert.KernelIdeal.nD Cert.KernelIdeal.τ).loc Cert.KernelIdeal.main_arg13) : Vec Ideal ⟨1, ![12]⟩ .i32)
  h14 : A14 V0 = (m ((c : Thread Cert.KernelIdeal.nD Cert.KernelIdeal.τ).loc Cert.KernelIdeal.main_arg14) : Vec Ideal ⟨1, ![12]⟩ .i32)

theorem proj_congr {n : ℕ} {v v' : Fin n → EReal} {w w' : Fin n → BitVec 8} {s s' b b' : EReal} (hv : v = v') (hw : w = w') (hs : s = s') (hb : b = b') :
    Spec.proj v w s b = Spec.proj v' w' s' b' := by subst hv hw hs hb; rfl
theorem logit_congr {z z' : Fin 640 → EReal} {w w' : Fin 640 → BitVec 8} {q q' s s' b b' : EReal} (hz : z = z') (hw : w = w') (hq : q = q') (hs : s = s') (hb : b = b') :
    Spec.logit z w q s b = Spec.logit z' w' q' s' b' := by subst hz hw hq hs hb; rfl
theorem zCode_congr {q q' e e' p p' : EReal} (hq : q = q') (he : e = e') (hp : p = p') : Spec.zCode q e p = Spec.zCode q' e' p' := by subst hq he hp; rfl
theorem gate_congr (t u : ℕ) {T T' : BitVec 32} {k k' : ℤ} {x x' : EReal} (hT : T = T') (hk : k = k') (hx : x = x') : Spec.gate t u T k x = Spec.gate t u T' k' x' := by
  subst hT hk hx; rfl

section
variable {V0 m c} (H : Agree V0 m c) (b : Fin 12) (t : Fin 128) (u : Fin 41)
include H

theorem xRow_eq : xRow V0 b t = fun k => (m ((c : Thread Cert.KernelIdeal.nD Cert.KernelIdeal.τ).loc Cert.KernelIdeal.main_arg0) : Vec Ideal ⟨3, ![12, 128, 512]⟩ .bf16) (ix3 b t k) :=
  funext fun k => congrFun H.h0 (ix3 b t k)
theorem pRow_eq : pRow V0 b u = fun k => (m ((c : Thread Cert.KernelIdeal.nD Cert.KernelIdeal.τ).loc Cert.KernelIdeal.main_arg1) : Vec Ideal ⟨3, ![12, 41, 320]⟩ .bf16) (ix3 b u k) :=
  funext fun k => congrFun H.h1 (ix3 b u k)
theorem encAt_eq (j : Fin 640) : encAt V0 b t j = encK m c (ix3 b t j) :=
  proj_congr (xRow_eq H b t) (funext fun k => congrFun H.h2 (ix2 k j)) ((congrFun H.h3 (ix1 j)).trans (row640 _ j).symm) ((congrFun H.h4 (ix1 j)).trans (row640 _ j).symm)
theorem predAt_eq (j : Fin 640) : predAt V0 b u j = predK m c (ix3 b u j) :=
  proj_congr (pRow_eq H b u) (funext fun k => congrFun H.h5 (ix2 k j)) ((congrFun H.h6 (ix1 j)).trans (row640 _ j).symm) ((congrFun H.h7 (ix1 j)).trans (row640 _ j).symm)
theorem gAt_eq (v : Fin 513) : gAt V0 b t u v = gK m c b t u v :=
  logit_congr (funext fun j => zCode_congr (congrFun H.h8 ix0) (encAt_eq H b t j) (predAt_eq H b u j)) (funext fun j => congrFun H.h9 (ix2 v j)) (congrFun H.h8 ix0)
    ((congrFun H.h10 (ix1 v)).trans (row513 _ v).symm) ((congrFun H.h11 (ix1 v)).trans (row513 _ v).symm)
theorem labAt_eq : labAt V0 b t u = fun v => gK m c b t u ⟨v.val, by have := v.isLt; omega⟩ := funext fun v => gAt_eq H b t u _
theorem len_eq : (A14 V0 (ix1 b) : BitVec 32).toInt = ((m ((c : Thread Cert.KernelIdeal.nD Cert.KernelIdeal.τ).loc Cert.KernelIdeal.main_arg14) : Vec Ideal ⟨1, ![12]⟩ .i32) (ix1 b) : BitVec 32).toInt :=
  congrArg BitVec.toInt (congrFun H.h14 (ix1 b))
end

section
variable {V0 m c} (H : Agree V0 m c)
include H

theorem enc : Cert.ReferenceIdeal.Value.projX V0 = encK m c := by
  funext i
  obtain ⟨b, t, j, rfl⟩ : ∃ (b : Fin 12) (t : Fin 128) (j : Fin 640), i = ix3 b t j := ⟨i 0, i 1, i 2, eq_ix3 i⟩
  exact (Cert.ReferenceIdeal.Value.projX_apply V0 b t j).trans (encAt_eq H b t j)
theorem pred : Cert.ReferenceIdeal.Value.projP V0 = predK m c := by
  funext i
  obtain ⟨b, u, j, rfl⟩ : ∃ (b : Fin 12) (u : Fin 41) (j : Fin 640), i = ix3 b u j := ⟨i 0, i 1, i 2, eq_ix3 i⟩
  exact (Cert.ReferenceIdeal.Value.projP_apply V0 b u j).trans (predAt_eq H b u j)
theorem codeX : Cert.ReferenceIdeal.Value.codesX V0
    = codeArr (R := 128) (K := 512) (m ((c : Thread Cert.KernelIdeal.nD Cert.KernelIdeal.τ).loc Cert.KernelIdeal.main_arg0)) := by
  funext i
  obtain ⟨b, t, k, rfl⟩ : ∃ (b : Fin 12) (t : Fin 128) (k : Fin 512), i = ix3 b t k := ⟨i 0, i 1, i 2, eq_ix3 i⟩
  exact (Cert.ReferenceIdeal.Value.codesX_apply V0 b t k).trans (congrArg (fun v => Ideal.fptosi 8 (Spec.rowCode v k)) (xRow_eq H b t))
theorem codeP : Cert.ReferenceIdeal.Value.codesP V0
    = codeArr (R := 41) (K := 320) (m ((c : Thread Cert.KernelIdeal.nD Cert.KernelIdeal.τ).loc Cert.KernelIdeal.main_arg1)) := by
  funext i
  obtain ⟨b, u, k, rfl⟩ : ∃ (b : Fin 12) (u : Fin 41) (k : Fin 320), i = ix3 b u k := ⟨i 0, i 1, i 2, eq_ix3 i⟩
  exact (Cert.ReferenceIdeal.Value.codesP_apply V0 b u k).trans (congrArg (fun v => Ideal.fptosi 8 (Spec.rowCode v k)) (pRow_eq H b u))
theorem scaleX : (Cert.ReferenceIdeal.Value.res_main_v7 V0 : Vec Ideal ⟨2, ![12, 128]⟩ .f32)
    = shapeCast Cert.KernelIdeal.S12x128 (scaleArr (R := 128) (K := 512) (m ((c : Thread Cert.KernelIdeal.nD Cert.KernelIdeal.τ).loc Cert.KernelIdeal.main_arg0)) : Vec Ideal Cert.KernelIdeal.S12x1x128 .f32) Cert.KernelIdeal.Gen.shapeCasts_S12x1x128_S12x128 := by
  funext i
  obtain ⟨b, t, rfl⟩ : ∃ (b : Fin 12) (t : Fin 128), i = ix2 b t := ⟨i 0, i 1, eq_ix2 i⟩
  exact (Cert.ReferenceIdeal.Value.v7_apply V0 b t).trans ((congrArg Spec.rowScale (xRow_eq H b t)).trans (flat128 (scaleArr (R := 128) (K := 512) (m ((c : Thread Cert.KernelIdeal.nD Cert.KernelIdeal.τ).loc Cert.KernelIdeal.main_arg0))) b t).symm)
theorem scaleP : (Cert.ReferenceIdeal.Value.res_main_v22 V0 : Vec Ideal ⟨2, ![12, 41]⟩ .f32)
    = shapeCast Cert.KernelIdeal.S12x41 (scaleArr (R := 41) (K := 320) (m ((c : Thread Cert.KernelIdeal.nD Cert.KernelIdeal.τ).loc Cert.KernelIdeal.main_arg1)) : Vec Ideal Cert.KernelIdeal.S12x1x41 .f32) Cert.KernelIdeal.Gen.shapeCasts_S12x1x41_S12x41 := by
  funext i
  obtain ⟨b, u, rfl⟩ : ∃ (b : Fin 12) (u : Fin 41), i = ix2 b u := ⟨i 0, i 1, eq_ix2 i⟩
  exact (Cert.ReferenceIdeal.Value.v22_apply V0 b u).trans ((congrArg Spec.rowScale (pRow_eq H b u)).trans (flat41 (scaleArr (R := 41) (K := 320) (m ((c : Thread Cert.KernelIdeal.nD Cert.KernelIdeal.τ).loc Cert.KernelIdeal.main_arg1))) b u).symm)

theorem blank : Cert.ReferenceIdeal.Value.out162 V0 = blankArr (gK m c) (m ((c : Thread Cert.KernelIdeal.nD Cert.KernelIdeal.τ).loc Cert.KernelIdeal.main_arg13)) (m ((c : Thread Cert.KernelIdeal.nD Cert.KernelIdeal.τ).loc Cert.KernelIdeal.main_arg14)) := by
  funext i
  obtain ⟨b, t, u, rfl⟩ : ∃ (b : Fin 12) (t : Fin 128) (u : Fin 41), i = ix3 b t u := ⟨i 0, i 1, i 2, eq_ix3 i⟩
  exact (Cert.ReferenceIdeal.Value.out162_apply V0 b t u).trans (gate_congr t.val u.val (congrFun H.h13 (ix1 b)) (congrArg (· + 1) (len_eq H b)) (congrArg Spec.logSig (gAt_eq H b t u 512)))
theorem lse : Cert.ReferenceIdeal.Value.out163 V0 = lseArr (gK m c) (m ((c : Thread Cert.KernelIdeal.nD Cert.KernelIdeal.τ).loc Cert.KernelIdeal.main_arg13)) (m ((c : Thread Cert.KernelIdeal.nD Cert.KernelIdeal.τ).loc Cert.KernelIdeal.main_arg14)) := by
  funext i
  obtain ⟨b, t, u, rfl⟩ : ∃ (b : Fin 12) (t : Fin 128) (u : Fin 41), i = ix3 b t u := ⟨i 0, i 1, i 2, eq_ix3 i⟩
  exact (Cert.ReferenceIdeal.Value.out163_apply V0 b t u).trans (gate_congr t.val u.val (congrFun H.h13 (ix1 b)) (congrArg (· + 1) (len_eq H b)) (congrArg Spec.lse (labAt_eq H b t u)))
end

section
variable {V0 m c} (H : Agree V0 m c)
  (hY : ∀ i : (⟨2, ![12, 40]⟩ : Shape).Idx, ((m ((c : Thread Cert.KernelIdeal.nD Cert.KernelIdeal.τ).loc Cert.KernelIdeal.main_arg12) : Vec Ideal ⟨2, ![12, 40]⟩ .i32) i : BitVec 32).toNat < 512)
include H

theorem word_eq (b : Fin 12) (u : Fin 40) : (A12 V0 (ix2 b u) : BitVec 32) = yK m c b u := congrFun H.h12 (ix2 b u)

include hY

theorem small (b : Fin 12) (u : Fin 40) : (A12 V0 (ix2 b u) : BitVec 32).toNat < 512 := by
  rw [word_eq H b u]; exact hY (ix2 b u)
theorem pick (b : Fin 12) (t : Fin 128) (u : Fin 40) : labAt V0 b t ⟨u.val, Nat.lt_succ_of_lt u.isLt⟩ ⟨(A12 V0 (ix2 b u) : BitVec 32).toNat, small H hY b u⟩
    = gK m c b t ⟨u.val, Nat.lt_succ_of_lt u.isLt⟩ ⟨(yK m c b u).toNat, Nat.lt_succ_of_lt (hY (ix2 b u))⟩ := by
  rw [labAt_eq H]
  exact congrArg (gK m c b t _) (Fin.ext (congrArg BitVec.toNat (word_eq H b u)))

theorem logit : Cert.ReferenceIdeal.Value.out165 V0 = logitArr (gK m c) (m ((c : Thread Cert.KernelIdeal.nD Cert.KernelIdeal.τ).loc Cert.KernelIdeal.main_arg13)) (m ((c : Thread Cert.KernelIdeal.nD Cert.KernelIdeal.τ).loc Cert.KernelIdeal.main_arg14)) (yK m c) := by
  funext i
  obtain ⟨b, t, u, rfl⟩ : ∃ (b : Fin 12) (t : Fin 128) (u : Fin 40), i = ix3 b t u := ⟨i 0, i 1, i 2, eq_ix3 i⟩
  refine (Cert.ReferenceIdeal.Value.out165_apply V0 b t u (small H hY b u)).trans (Eq.trans ?_ (Cert.KernelIdeal.Value.logitArr_at (gK m c) _ _ (yK m c) b t u (hY (ix2 b u))).symm)
  exact gate_congr t.val u.val (congrFun H.h13 (ix1 b)) (len_eq H b) (pick H hY b t u)
theorem label : Cert.ReferenceIdeal.Value.out164 V0 = labelArr (gK m c) (m ((c : Thread Cert.KernelIdeal.nD Cert.KernelIdeal.τ).loc Cert.KernelIdeal.main_arg13)) (m ((c : Thread Cert.KernelIdeal.nD Cert.KernelIdeal.τ).loc Cert.KernelIdeal.main_arg14)) (yK m c) := by
  funext i
  obtain ⟨b, t, u, rfl⟩ : ∃ (b : Fin 12) (t : Fin 128) (u : Fin 40), i = ix3 b t u := ⟨i 0, i 1, i 2, eq_ix3 i⟩
  refine (Cert.ReferenceIdeal.Value.out164_apply V0 b t u (small H hY b u)).trans (Eq.trans ?_ (Cert.KernelIdeal.Value.labelArr_at (gK m c) _ _ (yK m c) b t u (hY (ix2 b u))).symm)
  refine gate_congr t.val u.val (congrFun H.h13 (ix1 b)) (len_eq H b) ?_
  rw [pick H hY b t u, gAt_eq H, labAt_eq H]
end

end Cert.Compare
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.Pre_labels_named
public import proofs.«01_k».proof.Proof.Gen.ReferenceIdeal.Run
public import proofs.«01_k».proof.Proof.Labels
public import proofs.«01_k».proof.Proof.Kernel.LabelWords
public import proofs.«01_k».proof.Proof.Compare
public import Idealize.ShloMosaic.Adequacy
public import Idealize.ShloMosaic.Init

@[expose] public section

noncomputable section

namespace Cert.Proof

open Idealize.ShloMosaic Idealize.ShloMosaic.TcCoe

/-- The kernel's frame. -/
theorem frame_p : Cert.quiescent_Kernel := fun m g hpre =>
  Cert.Kernel.Gen.frame m g (Cert.Kernel.Gen.labelWords m g fun c i => (Cert.Labels.of_pre _ _ _ _ _ _ _ _ _ _ _ _ _ _ _ (hpre c)).1 i)

/-- The idealization's frame. -/
theorem frame_pi : Cert.quiescent_KernelIdeal := fun m g hpre =>
  Cert.KernelIdeal.Gen.frame m g (Cert.KernelIdeal.Gen.labelWords m g fun c i => (Cert.Labels.of_pre _ _ _ _ _ _ _ _ _ _ _ _ _ _ _ (hpre c)).1 i)

/-- The reference's frame: its run keeps the arguments, and it declares no semaphore. -/
theorem frame_ri (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0) :=
  (θ_run Cert.ReferenceIdeal.defs _ _).mono (fun r h => ⟨fun c => (h c).2.2.2.2.2.2.2.2.2.2,
      Idealize.ShloMosaic.sem_eq_zero_of_no_sems (by decide) r.2⟩)
    (Cert.ReferenceIdeal.Value.run (F := Ideal) m g)

/-- The named constants are the reals that their names say. -/
theorem preserves : Cert.preserves_Kernel_KernelIdeal :=
  ⟨IdealRules.named_const.statement Cert.KernelIdeal.κ "log2e" .f32 0x3FB8AA3B#32 _ rfl,
   IdealRules.named_const.statement Cert.KernelIdeal.κ "ln2" .f32 0x3F317218#32 _ rfl⟩

/-- The idealization's run, with every result over the arguments. -/
theorem run_pi (m : (ℓ : Loc Cert.KernelIdeal.nD Cert.KernelIdeal.τ Cert.KernelIdeal.sig) → Buf (Elt Ideal) ℓ) (g : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD, ∀ b ∈ Pipeline.ucRefs Cert.KernelIdeal.τ Cert.KernelIdeal.sig, r.2.mem ((c.tc : Thread Cert.KernelIdeal.nD Cert.KernelIdeal.τ).1, b) = Cert.KernelIdeal.Gen.W5 m g c b) :=
  (θ_run Cert.KernelIdeal.defs _ _).mono (fun _ h => h.1)
    (Cert.KernelIdeal.Gen.run m g (Cert.KernelIdeal.Gen.labelWords m g fun c i => (Cert.Labels.of_pre _ _ _ _ _ _ _ _ _ _ _ _ _ _ _ (hpre c)).1 i))

/-- The idealization computes what the reference computes, every result. -/
theorem algebraic : Cert.algebraic_KernelIdeal_ReferenceIdeal := by
  intro m g m' g' hpre hag
  have hY := fun c i => (Cert.Labels.of_pre _ _ _ _ _ _ _ _ _ _ _ _ _ _ _ (hpre c)).1 i
  have hU := fun c b => (Cert.Labels.of_pre _ _ _ _ _ _ _ _ _ _ _ _ _ _ _ (hpre c)).2 b
  have H : ∀ c : Dev Cert.KernelIdeal.nD, Cert.Compare.Agree (StableHlo.launchContents m' c) m c := fun c => by
    obtain ⟨a0, a1, a2, a3, a4, a5, a6, a7, a8, a9, a10, a11, a12, a13, a14⟩ := hag c
    exact ⟨a0, a1, a2, a3, a4, a5, a6, a7, a8, a9, a10, a11, a12, a13, a14⟩
  refine ⟨fun c => Cert.KernelIdeal.Gen.W5 m g c (Proc.devRef .tc Cert.KernelIdeal.main_v11_0),
    fun c => Cert.KernelIdeal.Gen.W5 m g c (Proc.devRef .tc Cert.KernelIdeal.main_v11_1),
    fun c => Cert.KernelIdeal.Gen.W5 m g c (Proc.devRef .tc Cert.KernelIdeal.main_v11_2),
    fun c => Cert.KernelIdeal.Gen.W5 m g c (Proc.devRef .tc Cert.KernelIdeal.main_v11_3),
    fun c => Cert.KernelIdeal.Gen.W5 m g c (Proc.devRef .tc Cert.KernelIdeal.main_v4_0),
    fun c => Cert.KernelIdeal.Gen.W5 m g c (Proc.devRef .tc Cert.KernelIdeal.main_v4_1),
    fun c => Cert.KernelIdeal.Gen.W5 m g c (Proc.devRef .tc Cert.KernelIdeal.main_v4_2),
    fun c => Cert.KernelIdeal.Gen.W5 m g c (Proc.devRef .tc Cert.KernelIdeal.main_v12),
    fun c => Cert.KernelIdeal.Gen.W5 m g c (Proc.devRef .tc Cert.KernelIdeal.main_v4_4),
    fun c => Cert.KernelIdeal.Gen.W5 m g c (Proc.devRef .tc Cert.KernelIdeal.main_v13), ?_, ?_⟩
  · refine (θ_run Cert.KernelIdeal.defs _ _).mono (fun r h c => ?_) (run_pi m g hpre)
    exact ⟨h c _ (Cert.KernelIdeal.Gen.mem_uc Cert.KernelIdeal.main_v11_0 (by decide)),
      h c _ (Cert.KernelIdeal.Gen.mem_uc Cert.KernelIdeal.main_v11_1 (by decide)),
      h c _ (Cert.KernelIdeal.Gen.mem_uc Cert.KernelIdeal.main_v11_2 (by decide)),
      h c _ (Cert.KernelIdeal.Gen.mem_uc Cert.KernelIdeal.main_v11_3 (by decide)),
      h c _ (Cert.KernelIdeal.Gen.mem_uc Cert.KernelIdeal.main_v4_0 (by decide)),
      h c _ (Cert.KernelIdeal.Gen.mem_uc Cert.KernelIdeal.main_v4_1 (by decide)),
      h c _ (Cert.KernelIdeal.Gen.mem_uc Cert.KernelIdeal.main_v4_2 (by decide)),
      h c _ (Cert.KernelIdeal.Gen.mem_uc Cert.KernelIdeal.main_v12 (by decide)),
      h c _ (Cert.KernelIdeal.Gen.mem_uc Cert.KernelIdeal.main_v4_4 (by decide)),
      h c _ (Cert.KernelIdeal.Gen.mem_uc Cert.KernelIdeal.main_v13 (by decide)),
      (h c _ (Cert.KernelIdeal.Gen.mem_uc Cert.KernelIdeal.main_arg0 (by decide))).trans (Cert.KernelIdeal.Gen.W5_main_arg0 m g c),
      (h c _ (Cert.KernelIdeal.Gen.mem_uc Cert.KernelIdeal.main_arg1 (by decide))).trans (Cert.KernelIdeal.Gen.W5_main_arg1 m g c),
      (h c _ (Cert.KernelIdeal.Gen.mem_uc Cert.KernelIdeal.main_arg2 (by decide))).trans (Cert.KernelIdeal.Gen.W5_main_arg2 m g c),
      (h c _ (Cert.KernelIdeal.Gen.mem_uc Cert.KernelIdeal.main_arg3 (by decide))).trans (Cert.KernelIdeal.Gen.W5_main_arg3 m g c),
      (h c _ (Cert.KernelIdeal.Gen.mem_uc Cert.KernelIdeal.main_arg4 (by decide))).trans (Cert.KernelIdeal.Gen.W5_main_arg4 m g c),
      (h c _ (Cert.KernelIdeal.Gen.mem_uc Cert.KernelIdeal.main_arg5 (by decide))).trans (Cert.KernelIdeal.Gen.W5_main_arg5 m g c),
      (h c _ (Cert.KernelIdeal.Gen.mem_uc Cert.KernelIdeal.main_arg6 (by decide))).trans (Cert.KernelIdeal.Gen.W5_main_arg6 m g c),
      (h c _ (Cert.KernelIdeal.Gen.mem_uc Cert.KernelIdeal.main_arg7 (by decide))).trans (Cert.KernelIdeal.Gen.W5_main_arg7 m g c),
      (h c _ (Cert.KernelIdeal.Gen.mem_uc Cert.KernelIdeal.main_arg8 (by decide))).trans (Cert.KernelIdeal.Gen.W5_main_arg8 m g c),
      (h c _ (Cert.KernelIdeal.Gen.mem_uc Cert.KernelIdeal.main_arg9 (by decide))).trans (Cert.KernelIdeal.Gen.W5_main_arg9 m g c),
      (h c _ (Cert.KernelIdeal.Gen.mem_uc Cert.KernelIdeal.main_arg10 (by decide))).trans (Cert.KernelIdeal.Gen.W5_main_arg10 m g c),
      (h c _ (Cert.KernelIdeal.Gen.mem_uc Cert.KernelIdeal.main_arg11 (by decide))).trans (Cert.KernelIdeal.Gen.W5_main_arg11 m g c),
      (h c _ (Cert.KernelIdeal.Gen.mem_uc Cert.KernelIdeal.main_arg12 (by decide))).trans (Cert.KernelIdeal.Gen.W5_main_arg12 m g c),
      (h c _ (Cert.KernelIdeal.Gen.mem_uc Cert.KernelIdeal.main_arg13 (by decide))).trans (Cert.KernelIdeal.Gen.W5_main_arg13 m g c),
      (h c _ (Cert.KernelIdeal.Gen.mem_uc Cert.KernelIdeal.main_arg14 (by decide))).trans (Cert.KernelIdeal.Gen.W5_main_arg14 m g c)⟩
  · refine (θ_run Cert.ReferenceIdeal.defs _ _).mono (fun r h c => ?_) (Cert.ReferenceIdeal.Value.run (F := Ideal) m' g')
    obtain ⟨r0, r1, r2, r3, r4, r5, r6, r7, r8, r9, hargs⟩ := h c
    exact ⟨r0.trans ((Cert.Compare.blank (H c)).trans (Cert.KernelIdeal.Value.W5_blank m g c (hU c)).symm),
      r1.trans ((Cert.Compare.label (H c) (hY c)).trans (Cert.KernelIdeal.Value.W5_label m g c (hY c)).symm),
      r2.trans ((Cert.Compare.lse (H c)).trans (Cert.KernelIdeal.Value.W5_lse m g c (hU c)).symm),
      r3.trans ((Cert.Compare.logit (H c) (hY c)).trans (Cert.KernelIdeal.Value.W5_logit m g c (hY c)).symm),
      r4.trans ((Cert.Compare.enc (H c)).trans (Cert.KernelIdeal.Value.W5_enc m g c).symm),
      r5.trans ((Cert.Compare.pred (H c)).trans (Cert.KernelIdeal.Value.W5_pred m g c).symm),
      r6.trans ((Cert.Compare.codeX (H c)).trans (Cert.KernelIdeal.Value.W5_codeX m g c).symm),
      r7.trans ((Cert.Compare.scaleX (H c)).trans (Cert.KernelIdeal.Value.W5_scaleX m g c).symm),
      r8.trans ((Cert.Compare.codeP (H c)).trans (Cert.KernelIdeal.Value.W5_codeP m g c).symm),
      r9.trans ((Cert.Compare.scaleP (H c)).trans (Cert.KernelIdeal.Value.W5_scaleP m g c).symm), hargs⟩

/-- The certificate's claims. -/
theorem claim : Cert.Claim :=
  ⟨Cert.Kernel.Gen.facts, Cert.KernelIdeal.Gen.facts, Cert.ReferenceIdeal.Gen.facts, Cert.Pre_labels_named.Gen.facts,
    frame_p, frame_pi, fun m g _ => frame_ri m g, fun m g _ => frame_ri m g, preserves, algebraic⟩

end Cert.Proof

end
